-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S_ : Shape := ⟨0, ![]⟩
abbrev S4096x256 : Shape := ⟨2, ![4096, 256]⟩
abbrev S256x4096 : Shape := ⟨2, ![256, 4096]⟩
abbrev S16x256x256 : Shape := ⟨3, ![16, 256, 256]⟩
abbrev S16 : Shape := ⟨1, ![16]⟩
abbrev S256x256 : Shape := ⟨2, ![256, 256]⟩
abbrev S1x256x256 : Shape := ⟨3, ![1, 256, 256]⟩

abbrev nBuf : Space → Nat
  | .hbm => 11
  | .vmem => 7
  | .smem => 3
  | _ => 0

abbrev bufTy : (tb : Table) → Fin (tcTables nBuf tb) → BufTy
  | .hbm, ⟨0, _⟩ => ⟨S128x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4096x256, .f32⟩
  | .local _ .vmem, ⟨0, _⟩ => ⟨S128x4096, .fp8e5m2⟩
  | .local _ .vmem, ⟨1, _⟩ => ⟨S4096x256, .fp8e5m2⟩
  | .local _ .vmem, ⟨2, _⟩ => ⟨S4096x256, .fp8e5m2⟩
  | .local _ .vmem, ⟨3, _⟩ => ⟨S4096x256, .f32⟩
  | .local _ .vmem, ⟨4, _⟩ => ⟨S256x4096, .fp8e5m2⟩
  | .local _ .vmem, ⟨5, _⟩ => ⟨S16x256x256, .bf16⟩
  | .local _ .vmem, ⟨6, _⟩ => ⟨S16x256x256, .bf16⟩
  | .local _ .smem, ⟨0, _⟩ => ⟨S1, .i32⟩
  | .local _ .smem, ⟨1, _⟩ => ⟨S1, .f32⟩
  | .local _ .smem, ⟨2, _⟩ => ⟨S1, .f32⟩
  | _, _ => ⟨S128x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 32
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_7 : BitVec 32 := 0#32
  let v26 : BitVec 1 := Scalar.cmpi .eq arg0 c0_i32_7
  let v27 : BitVec 32 := Scalar.extui v26
  let c0_i32_8 : BitVec 32 := 0#32
  let v28 : BitVec 1 := Scalar.cmpi .ne v27 c0_i32_8
  v28

def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v59 : BitVec 1 := Scalar.cmpi .ne v2 c0_i32_21
  let v60 : BitVec 32 := Scalar.extui v59
  let c0_i32_22 : BitVec 32 := 0#32
  let v61 : BitVec 1 := Scalar.cmpi .ne v60 c0_i32_22
  v61

def k0_dev1 : Nat :=
  let c0_i32_82 : BitVec 32 := 0#32
  let c0_i32_80 : BitVec 32 := 0#32
  let c1_i32_81 : BitVec 32 := 1#32
  let v179 : BitVec 32 := Scalar.muli c0_i32_80 c1_i32_81
  let v180 : BitVec 32 := Scalar.addi c0_i32_82 v179
  v180.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_23 : BitVec 32 := 1#32
  let v62 : BitVec 1 := Scalar.cmpi .ne v2 c1_i32_23
  let v63 : BitVec 32 := Scalar.extui v62
  let c0_i32_24 : BitVec 32 := 0#32
  let v64 : BitVec 1 := Scalar.cmpi .ne v63 c0_i32_24
  v64

def k0_dev2 : Nat :=
  let c0_i32_82 : BitVec 32 := 0#32
  let c1_i32_80 : BitVec 32 := 1#32
  let c1_i32_81 : BitVec 32 := 1#32
  let v179 : BitVec 32 := Scalar.muli c1_i32_80 c1_i32_81
  let v180 : BitVec 32 := Scalar.addi c0_i32_82 v179
  v180.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_25 : BitVec 32 := 2#32
  let v65 : BitVec 1 := Scalar.cmpi .ne v2 c2_i32_25
  let v66 : BitVec 32 := Scalar.extui v65
  let c0_i32_26 : BitVec 32 := 0#32
  let v67 : BitVec 1 := Scalar.cmpi .ne v66 c0_i32_26
  v67

def k0_dev3 : Nat :=
  let c0_i32_82 : BitVec 32 := 0#32
  let c2_i32_80 : BitVec 32 := 2#32
  let c1_i32_81 : BitVec 32 := 1#32
  let v179 : BitVec 32 := Scalar.muli c2_i32_80 c1_i32_81
  let v180 : BitVec 32 := Scalar.addi c0_i32_82 v179
  v180.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v68 : BitVec 1 := Scalar.cmpi .ne v2 c3_i32
  let v69 : BitVec 32 := Scalar.extui v68
  let c0_i32_27 : BitVec 32 := 0#32
  let v70 : BitVec 1 := Scalar.cmpi .ne v69 c0_i32_27
  v70

def k0_dev4 : Nat :=
  let c0_i32_82 : BitVec 32 := 0#32
  let c3_i32_80 : BitVec 32 := 3#32
  let c1_i32_81 : BitVec 32 := 1#32
  let v179 : BitVec 32 := Scalar.muli c3_i32_80 c1_i32_81
  let v180 : BitVec 32 := Scalar.addi c0_i32_82 v179
  v180.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v71 : BitVec 1 := Scalar.cmpi .ne v2 c4_i32
  let v72 : BitVec 32 := Scalar.extui v71
  let c0_i32_28 : BitVec 32 := 0#32
  let v73 : BitVec 1 := Scalar.cmpi .ne v72 c0_i32_28
  v73

def k0_dev5 : Nat :=
  let c0_i32_82 : BitVec 32 := 0#32
  let c4_i32_80 : BitVec 32 := 4#32
  let c1_i32_81 : BitVec 32 := 1#32
  let v179 : BitVec 32 := Scalar.muli c4_i32_80 c1_i32_81
  let v180 : BitVec 32 := Scalar.addi c0_i32_82 v179
  v180.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v74 : BitVec 1 := Scalar.cmpi .ne v2 c5_i32
  let v75 : BitVec 32 := Scalar.extui v74
  let c0_i32_29 : BitVec 32 := 0#32
  let v76 : BitVec 1 := Scalar.cmpi .ne v75 c0_i32_29
  v76

def k0_dev6 : Nat :=
  let c0_i32_82 : BitVec 32 := 0#32
  let c5_i32_80 : BitVec 32 := 5#32
  let c1_i32_81 : BitVec 32 := 1#32
  let v179 : BitVec 32 := Scalar.muli c5_i32_80 c1_i32_81
  let v180 : BitVec 32 := Scalar.addi c0_i32_82 v179
  v180.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v77 : BitVec 1 := Scalar.cmpi .ne v2 c6_i32
  let v78 : BitVec 32 := Scalar.extui v77
  let c0_i32_30 : BitVec 32 := 0#32
  let v79 : BitVec 1 := Scalar.cmpi .ne v78 c0_i32_30
  v79

def k0_dev7 : Nat :=
  let c0_i32_82 : BitVec 32 := 0#32
  let c6_i32_80 : BitVec 32 := 6#32
  let c1_i32_81 : BitVec 32 := 1#32
  let v179 : BitVec 32 := Scalar.muli c6_i32_80 c1_i32_81
  let v180 : BitVec 32 := Scalar.addi c0_i32_82 v179
  v180.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v80 : BitVec 1 := Scalar.cmpi .ne v2 c7_i32
  let v81 : BitVec 32 := Scalar.extui v80
  let c0_i32_31 : BitVec 32 := 0#32
  let v82 : BitVec 1 := Scalar.cmpi .ne v81 c0_i32_31
  v82

def k0_dev8 : Nat :=
  let c0_i32_82 : BitVec 32 := 0#32
  let c7_i32_80 : BitVec 32 := 7#32
  let c1_i32_81 : BitVec 32 := 1#32
  let v179 : BitVec 32 := Scalar.muli c7_i32_80 c1_i32_81
  let v180 : BitVec 32 := Scalar.addi c0_i32_82 v179
  v180.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v83 : BitVec 1 := Scalar.cmpi .ne v2 c8_i32
  let v84 : BitVec 32 := Scalar.extui v83
  let c0_i32_32 : BitVec 32 := 0#32
  let v85 : BitVec 1 := Scalar.cmpi .ne v84 c0_i32_32
  v85

def k0_dev9 : Nat :=
  let c0_i32_82 : BitVec 32 := 0#32
  let c8_i32_80 : BitVec 32 := 8#32
  let c1_i32_81 : BitVec 32 := 1#32
  let v179 : BitVec 32 := Scalar.muli c8_i32_80 c1_i32_81
  let v180 : BitVec 32 := Scalar.addi c0_i32_82 v179
  v180.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v86 : BitVec 1 := Scalar.cmpi .ne v2 c9_i32
  let v87 : BitVec 32 := Scalar.extui v86
  let c0_i32_33 : BitVec 32 := 0#32
  let v88 : BitVec 1 := Scalar.cmpi .ne v87 c0_i32_33
  v88

def k0_dev10 : Nat :=
  let c0_i32_82 : BitVec 32 := 0#32
  let c9_i32_80 : BitVec 32 := 9#32
  let c1_i32_81 : BitVec 32 := 1#32
  let v179 : BitVec 32 := Scalar.muli c9_i32_80 c1_i32_81
  let v180 : BitVec 32 := Scalar.addi c0_i32_82 v179
  v180.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v89 : BitVec 1 := Scalar.cmpi .ne v2 c10_i32
  let v90 : BitVec 32 := Scalar.extui v89
  let c0_i32_34 : BitVec 32 := 0#32
  let v91 : BitVec 1 := Scalar.cmpi .ne v90 c0_i32_34
  v91

def k0_dev11 : Nat :=
  let c0_i32_82 : BitVec 32 := 0#32
  let c10_i32_80 : BitVec 32 := 10#32
  let c1_i32_81 : BitVec 32 := 1#32
  let v179 : BitVec 32 := Scalar.muli c10_i32_80 c1_i32_81
  let v180 : BitVec 32 := Scalar.addi c0_i32_82 v179
  v180.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v92 : BitVec 1 := Scalar.cmpi .ne v2 c11_i32
  let v93 : BitVec 32 := Scalar.extui v92
  let c0_i32_35 : BitVec 32 := 0#32
  let v94 : BitVec 1 := Scalar.cmpi .ne v93 c0_i32_35
  v94

def k0_dev12 : Nat :=
  let c0_i32_82 : BitVec 32 := 0#32
  let c11_i32_80 : BitVec 32 := 11#32
  let c1_i32_81 : BitVec 32 := 1#32
  let v179 : BitVec 32 := Scalar.muli c11_i32_80 c1_i32_81
  let v180 : BitVec 32 := Scalar.addi c0_i32_82 v179
  v180.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v95 : BitVec 1 := Scalar.cmpi .ne v2 c12_i32
  let v96 : BitVec 32 := Scalar.extui v95
  let c0_i32_36 : BitVec 32 := 0#32
  let v97 : BitVec 1 := Scalar.cmpi .ne v96 c0_i32_36
  v97

def k0_dev13 : Nat :=
  let c0_i32_82 : BitVec 32 := 0#32
  let c12_i32_80 : BitVec 32 := 12#32
  let c1_i32_81 : BitVec 32 := 1#32
  let v179 : BitVec 32 := Scalar.muli c12_i32_80 c1_i32_81
  let v180 : BitVec 32 := Scalar.addi c0_i32_82 v179
  v180.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v98 : BitVec 1 := Scalar.cmpi .ne v2 c13_i32
  let v99 : BitVec 32 := Scalar.extui v98
  let c0_i32_37 : BitVec 32 := 0#32
  let v100 : BitVec 1 := Scalar.cmpi .ne v99 c0_i32_37
  v100

def k0_dev14 : Nat :=
  let c0_i32_82 : BitVec 32 := 0#32
  let c13_i32_80 : BitVec 32 := 13#32
  let c1_i32_81 : BitVec 32 := 1#32
  let v179 : BitVec 32 := Scalar.muli c13_i32_80 c1_i32_81
  let v180 : BitVec 32 := Scalar.addi c0_i32_82 v179
  v180.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v101 : BitVec 1 := Scalar.cmpi .ne v2 c14_i32
  let v102 : BitVec 32 := Scalar.extui v101
  let c0_i32_38 : BitVec 32 := 0#32
  let v103 : BitVec 1 := Scalar.cmpi .ne v102 c0_i32_38
  v103

def k0_dev15 : Nat :=
  let c0_i32_82 : BitVec 32 := 0#32
  let c14_i32_80 : BitVec 32 := 14#32
  let c1_i32_81 : BitVec 32 := 1#32
  let v179 : BitVec 32 := Scalar.muli c14_i32_80 c1_i32_81
  let v180 : BitVec 32 := Scalar.addi c0_i32_82 v179
  v180.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_39 : BitVec 32 := 15#32
  let v104 : BitVec 1 := Scalar.cmpi .ne v2 c15_i32_39
  let v105 : BitVec 32 := Scalar.extui v104
  let c0_i32_40 : BitVec 32 := 0#32
  let v106 : BitVec 1 := Scalar.cmpi .ne v105 c0_i32_40
  v106

def k0_dev16 : Nat :=
  let c0_i32_82 : BitVec 32 := 0#32
  let c15_i32_80 : BitVec 32 := 15#32
  let c1_i32_81 : BitVec 32 := 1#32
  let v179 : BitVec 32 := Scalar.muli c15_i32_80 c1_i32_81
  let v180 : BitVec 32 := Scalar.addi c0_i32_82 v179
  v180.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_41 : BitVec 32 := 16#32
  let v107 : BitVec 1 := Scalar.cmpi .ne v2 c16_i32_41
  let v108 : BitVec 32 := Scalar.extui v107
  let c0_i32_42 : BitVec 32 := 0#32
  let v109 : BitVec 1 := Scalar.cmpi .ne v108 c0_i32_42
  v109

def k0_dev17 : Nat :=
  let c0_i32_82 : BitVec 32 := 0#32
  let c16_i32_80 : BitVec 32 := 16#32
  let c1_i32_81 : BitVec 32 := 1#32
  let v179 : BitVec 32 := Scalar.muli c16_i32_80 c1_i32_81
  let v180 : BitVec 32 := Scalar.addi c0_i32_82 v179
  v180.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v110 : BitVec 1 := Scalar.cmpi .ne v2 c17_i32
  let v111 : BitVec 32 := Scalar.extui v110
  let c0_i32_43 : BitVec 32 := 0#32
  let v112 : BitVec 1 := Scalar.cmpi .ne v111 c0_i32_43
  v112

def k0_dev18 : Nat :=
  let c0_i32_82 : BitVec 32 := 0#32
  let c17_i32_80 : BitVec 32 := 17#32
  let c1_i32_81 : BitVec 32 := 1#32
  let v179 : BitVec 32 := Scalar.muli c17_i32_80 c1_i32_81
  let v180 : BitVec 32 := Scalar.addi c0_i32_82 v179
  v180.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v113 : BitVec 1 := Scalar.cmpi .ne v2 c18_i32
  let v114 : BitVec 32 := Scalar.extui v113
  let c0_i32_44 : BitVec 32 := 0#32
  let v115 : BitVec 1 := Scalar.cmpi .ne v114 c0_i32_44
  v115

def k0_dev19 : Nat :=
  let c0_i32_82 : BitVec 32 := 0#32
  let c18_i32_80 : BitVec 32 := 18#32
  let c1_i32_81 : BitVec 32 := 1#32
  let v179 : BitVec 32 := Scalar.muli c18_i32_80 c1_i32_81
  let v180 : BitVec 32 := Scalar.addi c0_i32_82 v179
  v180.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v116 : BitVec 1 := Scalar.cmpi .ne v2 c19_i32
  let v117 : BitVec 32 := Scalar.extui v116
  let c0_i32_45 : BitVec 32 := 0#32
  let v118 : BitVec 1 := Scalar.cmpi .ne v117 c0_i32_45
  v118

def k0_dev20 : Nat :=
  let c0_i32_82 : BitVec 32 := 0#32
  let c19_i32_80 : BitVec 32 := 19#32
  let c1_i32_81 : BitVec 32 := 1#32
  let v179 : BitVec 32 := Scalar.muli c19_i32_80 c1_i32_81
  let v180 : BitVec 32 := Scalar.addi c0_i32_82 v179
  v180.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v119 : BitVec 1 := Scalar.cmpi .ne v2 c20_i32
  let v120 : BitVec 32 := Scalar.extui v119
  let c0_i32_46 : BitVec 32 := 0#32
  let v121 : BitVec 1 := Scalar.cmpi .ne v120 c0_i32_46
  v121

def k0_dev21 : Nat :=
  let c0_i32_82 : BitVec 32 := 0#32
  let c20_i32_80 : BitVec 32 := 20#32
  let c1_i32_81 : BitVec 32 := 1#32
  let v179 : BitVec 32 := Scalar.muli c20_i32_80 c1_i32_81
  let v180 : BitVec 32 := Scalar.addi c0_i32_82 v179
  v180.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v122 : BitVec 1 := Scalar.cmpi .ne v2 c21_i32
  let v123 : BitVec 32 := Scalar.extui v122
  let c0_i32_47 : BitVec 32 := 0#32
  let v124 : BitVec 1 := Scalar.cmpi .ne v123 c0_i32_47
  v124

def k0_dev22 : Nat :=
  let c0_i32_82 : BitVec 32 := 0#32
  let c21_i32_80 : BitVec 32 := 21#32
  let c1_i32_81 : BitVec 32 := 1#32
  let v179 : BitVec 32 := Scalar.muli c21_i32_80 c1_i32_81
  let v180 : BitVec 32 := Scalar.addi c0_i32_82 v179
  v180.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v125 : BitVec 1 := Scalar.cmpi .ne v2 c22_i32
  let v126 : BitVec 32 := Scalar.extui v125
  let c0_i32_48 : BitVec 32 := 0#32
  let v127 : BitVec 1 := Scalar.cmpi .ne v126 c0_i32_48
  v127

def k0_dev23 : Nat :=
  let c0_i32_82 : BitVec 32 := 0#32
  let c22_i32_80 : BitVec 32 := 22#32
  let c1_i32_81 : BitVec 32 := 1#32
  let v179 : BitVec 32 := Scalar.muli c22_i32_80 c1_i32_81
  let v180 : BitVec 32 := Scalar.addi c0_i32_82 v179
  v180.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v128 : BitVec 1 := Scalar.cmpi .ne v2 c23_i32
  let v129 : BitVec 32 := Scalar.extui v128
  let c0_i32_49 : BitVec 32 := 0#32
  let v130 : BitVec 1 := Scalar.cmpi .ne v129 c0_i32_49
  v130

def k0_dev24 : Nat :=
  let c0_i32_82 : BitVec 32 := 0#32
  let c23_i32_80 : BitVec 32 := 23#32
  let c1_i32_81 : BitVec 32 := 1#32
  let v179 : BitVec 32 := Scalar.muli c23_i32_80 c1_i32_81
  let v180 : BitVec 32 := Scalar.addi c0_i32_82 v179
  v180.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v131 : BitVec 1 := Scalar.cmpi .ne v2 c24_i32
  let v132 : BitVec 32 := Scalar.extui v131
  let c0_i32_50 : BitVec 32 := 0#32
  let v133 : BitVec 1 := Scalar.cmpi .ne v132 c0_i32_50
  v133

def k0_dev25 : Nat :=
  let c0_i32_82 : BitVec 32 := 0#32
  let c24_i32_80 : BitVec 32 := 24#32
  let c1_i32_81 : BitVec 32 := 1#32
  let v179 : BitVec 32 := Scalar.muli c24_i32_80 c1_i32_81
  let v180 : BitVec 32 := Scalar.addi c0_i32_82 v179
  v180.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v134 : BitVec 1 := Scalar.cmpi .ne v2 c25_i32
  let v135 : BitVec 32 := Scalar.extui v134
  let c0_i32_51 : BitVec 32 := 0#32
  let v136 : BitVec 1 := Scalar.cmpi .ne v135 c0_i32_51
  v136

def k0_dev26 : Nat :=
  let c0_i32_82 : BitVec 32 := 0#32
  let c25_i32_80 : BitVec 32 := 25#32
  let c1_i32_81 : BitVec 32 := 1#32
  let v179 : BitVec 32 := Scalar.muli c25_i32_80 c1_i32_81
  let v180 : BitVec 32 := Scalar.addi c0_i32_82 v179
  v180.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v137 : BitVec 1 := Scalar.cmpi .ne v2 c26_i32
  let v138 : BitVec 32 := Scalar.extui v137
  let c0_i32_52 : BitVec 32 := 0#32
  let v139 : BitVec 1 := Scalar.cmpi .ne v138 c0_i32_52
  v139

def k0_dev27 : Nat :=
  let c0_i32_82 : BitVec 32 := 0#32
  let c26_i32_80 : BitVec 32 := 26#32
  let c1_i32_81 : BitVec 32 := 1#32
  let v179 : BitVec 32 := Scalar.muli c26_i32_80 c1_i32_81
  let v180 : BitVec 32 := Scalar.addi c0_i32_82 v179
  v180.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v140 : BitVec 1 := Scalar.cmpi .ne v2 c27_i32
  let v141 : BitVec 32 := Scalar.extui v140
  let c0_i32_53 : BitVec 32 := 0#32
  let v142 : BitVec 1 := Scalar.cmpi .ne v141 c0_i32_53
  v142

def k0_dev28 : Nat :=
  let c0_i32_82 : BitVec 32 := 0#32
  let c27_i32_80 : BitVec 32 := 27#32
  let c1_i32_81 : BitVec 32 := 1#32
  let v179 : BitVec 32 := Scalar.muli c27_i32_80 c1_i32_81
  let v180 : BitVec 32 := Scalar.addi c0_i32_82 v179
  v180.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v143 : BitVec 1 := Scalar.cmpi .ne v2 c28_i32
  let v144 : BitVec 32 := Scalar.extui v143
  let c0_i32_54 : BitVec 32 := 0#32
  let v145 : BitVec 1 := Scalar.cmpi .ne v144 c0_i32_54
  v145

def k0_dev29 : Nat :=
  let c0_i32_82 : BitVec 32 := 0#32
  let c28_i32_80 : BitVec 32 := 28#32
  let c1_i32_81 : BitVec 32 := 1#32
  let v179 : BitVec 32 := Scalar.muli c28_i32_80 c1_i32_81
  let v180 : BitVec 32 := Scalar.addi c0_i32_82 v179
  v180.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v146 : BitVec 1 := Scalar.cmpi .ne v2 c29_i32
  let v147 : BitVec 32 := Scalar.extui v146
  let c0_i32_55 : BitVec 32 := 0#32
  let v148 : BitVec 1 := Scalar.cmpi .ne v147 c0_i32_55
  v148

def k0_dev30 : Nat :=
  let c0_i32_82 : BitVec 32 := 0#32
  let c29_i32_80 : BitVec 32 := 29#32
  let c1_i32_81 : BitVec 32 := 1#32
  let v179 : BitVec 32 := Scalar.muli c29_i32_80 c1_i32_81
  let v180 : BitVec 32 := Scalar.addi c0_i32_82 v179
  v180.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v149 : BitVec 1 := Scalar.cmpi .ne v2 c30_i32
  let v150 : BitVec 32 := Scalar.extui v149
  let c0_i32_56 : BitVec 32 := 0#32
  let v151 : BitVec 1 := Scalar.cmpi .ne v150 c0_i32_56
  v151

def k0_dev31 : Nat :=
  let c0_i32_82 : BitVec 32 := 0#32
  let c30_i32_80 : BitVec 32 := 30#32
  let c1_i32_81 : BitVec 32 := 1#32
  let v179 : BitVec 32 := Scalar.muli c30_i32_80 c1_i32_81
  let v180 : BitVec 32 := Scalar.addi c0_i32_82 v179
  v180.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v152 : BitVec 1 := Scalar.cmpi .ne v2 c31_i32
  let v153 : BitVec 32 := Scalar.extui v152
  let c0_i32_57 : BitVec 32 := 0#32
  let v154 : BitVec 1 := Scalar.cmpi .ne v153 c0_i32_57
  v154

def k0_dev32 : Nat :=
  let c0_i32_82 : BitVec 32 := 0#32
  let c31_i32_80 : BitVec 32 := 31#32
  let c1_i32_81 : BitVec 32 := 1#32
  let v179 : BitVec 32 := Scalar.muli c31_i32_80 c1_i32_81
  let v180 : BitVec 32 := Scalar.addi c0_i32_82 v179
  v180.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v20 : BitVec 32 := Scalar.remsi v2 c2_i32_5
  let c128_i32 : BitVec 32 := 128#32
  let v25 : BitVec 32 := Scalar.muli v20 c128_i32
  let v157 : Index := Scalar.indexCast v25
  let c0_61 : Index := 0#32
  ![v157.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v20 : BitVec 32 := Scalar.remsi v2 c2_i32_5
  let c128_i32 : BitVec 32 := 128#32
  let v25 : BitVec 32 := Scalar.muli v20 c128_i32
  let c0_i32_66 : BitVec 32 := 0#32
  ![v25.toNat, 0]
def k0_dev33 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_62 : BitVec 32 := 1#32
  let v161 : BitVec 32 := Scalar.addi v2 c1_i32_62
  let c2_i32_63 : BitVec 32 := 2#32
  let c2_i32_5 : BitVec 32 := 2#32
  let v20 : BitVec 32 := Scalar.remsi v2 c2_i32_5
  let v162 : BitVec 32 := Scalar.muli c2_i32_63 v20
  let v163 : BitVec 32 := Scalar.subi v161 v162
  let c1_i32_64 : BitVec 32 := 1#32
  let v164 : BitVec 32 := Scalar.muli v163 c1_i32_64
  let v165 : BitVec 32 := Scalar.addi c0_i32_65 v164
  v165.toNat
def k0_off3 (d0 : Dev nD) : Fin 2 → Nat :=
  let c1_i32_71 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v20 : BitVec 32 := Scalar.remsi v2 c2_i32_5
  let v170 : BitVec 32 := Scalar.subi c1_i32_71 v20
  let c128_i32_72 : BitVec 32 := 128#32
  let v171 : BitVec 32 := Scalar.muli v170 c128_i32_72
  let c0_i32_77 : BitVec 32 := 0#32
  ![v171.toNat, 0]
def k0_cond34 (i : grid0.Coords) (d0 : Dev nD) : BitVec 1 :=
  let c2_i32_6 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let arg0 : BitVec 32 := BitVec.ofNat 32 (i 0).val
  let v21 : BitVec 32 := Scalar.addi v19 arg0
  let c16_i32 : BitVec 32 := 16#32
  let v22 : BitVec 32 := Scalar.remsi v21 c16_i32
  let v23 : BitVec 32 := Scalar.muli c2_i32_6 v22
  let c2_i32_5 : BitVec 32 := 2#32
  let v20 : BitVec 32 := Scalar.remsi v2 c2_i32_5
  let v24 : BitVec 32 := Scalar.addi v23 v20
  let v49 : BitVec 1 := Scalar.cmpi .eq v24 v2
  let v50 : BitVec 32 := Scalar.extui v49
  let c0_i32_18 : BitVec 32 := 0#32
  let v51 : BitVec 1 := Scalar.cmpi .ne v50 c0_i32_18
  v51

def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v58 : Index := Scalar.indexCast v19
  let c0_21 : Index := 0#32
  let c0_22 : Index := 0#32
  ![v58.toNat, 0, 0]
def k0_cond35 (i : grid0.Coords) (d0 : Dev nD) : BitVec 1 :=
  let c2_i32_6 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let arg0 : BitVec 32 := BitVec.ofNat 32 (i 0).val
  let v21 : BitVec 32 := Scalar.addi v19 arg0
  let c16_i32 : BitVec 32 := 16#32
  let v22 : BitVec 32 := Scalar.remsi v21 c16_i32
  let v23 : BitVec 32 := Scalar.muli c2_i32_6 v22
  let c2_i32_5 : BitVec 32 := 2#32
  let v20 : BitVec 32 := Scalar.remsi v2 c2_i32_5
  let v24 : BitVec 32 := Scalar.addi v23 v20
  let v52 : BitVec 1 := Scalar.cmpi .ne v24 v2
  let v53 : BitVec 32 := Scalar.extui v52
  let c0_i32_19 : BitVec 32 := 0#32
  let v54 : BitVec 1 := Scalar.cmpi .ne v53 c0_i32_19
  v54

def k0_off5 (i : grid0.Coords) : Fin 3 → Nat :=
  let arg0 : BitVec 32 := BitVec.ofNat 32 (i 0).val
  let v58 : Index := Scalar.indexCast arg0
  let c0_21 : Index := 0#32
  let c0_22 : Index := 0#32
  ![v58.toNat, 0, 0]
def k0_off6 (i : grid0.Coords) : Fin 1 → Nat :=
  let arg0 : BitVec 32 := BitVec.ofNat 32 (i 0).val
  ![arg0.toNat]
def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_25 : BitVec 32 := 0#32
  let c0_i32_26 : BitVec 32 := 0#32
  ![v19.toNat, 0, 0]
def k0_off9 (i : grid0.Coords) : Fin 3 → Nat :=
  let arg0 : BitVec 32 := BitVec.ofNat 32 (i 0).val
  let c0_i32_27 : BitVec 32 := 0#32
  let c0_i32_28 : BitVec 32 := 0#32
  ![arg0.toNat, 0, 0]
def k0_dev34 (i : grid0.Coords) (d0 : Dev nD) : Nat :=
  let c0_i32_24 : BitVec 32 := 0#32
  let c2_i32_6 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let arg0 : BitVec 32 := BitVec.ofNat 32 (i 0).val
  let v21 : BitVec 32 := Scalar.addi v19 arg0
  let c16_i32 : BitVec 32 := 16#32
  let v22 : BitVec 32 := Scalar.remsi v21 c16_i32
  let v23 : BitVec 32 := Scalar.muli c2_i32_6 v22
  let c2_i32_5 : BitVec 32 := 2#32
  let v20 : BitVec 32 := Scalar.remsi v2 c2_i32_5
  let v24 : BitVec 32 := Scalar.addi v23 v20
  let c1_i32_23 : BitVec 32 := 1#32
  let v62 : BitVec 32 := Scalar.muli v24 c1_i32_23
  let v63 : BitVec 32 := Scalar.addi c0_i32_24 v62
  v63.toNat
def k0_cond36 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_20 : BitVec 32 := 0#32
  let v57 : BitVec 1 := Scalar.cmpi .ne v56 c0_i32_20
  v57

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v17 arg0
  let c16_i32 : BitVec 32 := 16#32
  let v19 : BitVec 32 := Scalar.remsi v18 c16_i32
  let c2_i32_4 : BitVec 32 := 2#32
  let v20 : BitVec 32 := Scalar.muli c2_i32_4 v19
  let c2_i32_5 : BitVec 32 := 2#32
  let v21 : BitVec 32 := Scalar.remsi v0 c2_i32_5
  let v22 : BitVec 32 := Scalar.addi v20 v21
  let c0_i32_6 : BitVec 32 := 0#32
  let c0_i32_7 : BitVec 32 := 0#32
  ![c0_i32_6.toNat, v22.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mesh.lean ====
/-
  The mesh of the kernel and the closed forms of what its program computes from the device and the grid point: a device is a
  pair (row of the mesh, column), its partner shares the row, and at grid point `u` it works for the device `u` rows below it
  in its own column. Every offset, peer, semaphore and condition the program computes in 32-bit words is stated here as a
  function of these.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Tactic
public import Idealize.ShloMosaic.Lib.ViewIndex
public import Idealize.ShloMosaic.Lib.ValueLayout
public import Idealize.ShloMosaic.Lib.Writes

@[expose] public section

set_option synthInstance.maxSize 4096

noncomputable section

namespace Cert.Talk

open Cert.KernelIdeal Cert.KernelIdeal.Gen
open Idealize.ShloMosaic Idealize.ShloMosaic.TcCoe
open Idealize.SL Idealize.SL.RA Idealize.SL.BI

/-! ## Devices as pairs -/

set_option backward.proofsInPublic true in
/-- The row of a device: which slot of its receivers' buffers it fills. -/
def aC (c : Dev nD) : Fin 16 := ⟨c.val / 2, by have : c.val < 32 := c.isLt; omega⟩
set_option backward.proofsInPublic true in
/-- The column of a device: which half of the pair's rows it holds. -/
def bC (c : Dev nD) : Fin 2 := ⟨c.val % 2, Nat.mod_lt _ (by decide)⟩
set_option backward.proofsInPublic true in
/-- The device at a row and a column. -/
def mk (r : Fin 16) (b : Fin 2) : Dev nD := ⟨2 * r.val + b.val, by have := r.isLt; have := b.isLt; show _ < 32; omega⟩
/-- The device that shares the row. -/
def partner (c : Dev nD) : Dev nD := mk (aC c) (1 - bC c)
/-- The device that receives what `c` computes at grid point `u`. -/
def rcv (c : Dev nD) (u : Fin 16) : Dev nD := mk (aC c + u) (bC c)

/-- A device is the one at its row and column. -/
theorem mk_ab : ∀ c : Dev nD, mk (aC c) (bC c) = c := by decide +kernel
/-- The row of the device at a row and a column. -/
theorem aC_mk : ∀ (r : Fin 16) (b : Fin 2), aC (mk r b) = r := by decide +kernel
/-- The column of the device at a row and a column. -/
theorem bC_mk : ∀ (r : Fin 16) (b : Fin 2), bC (mk r b) = b := by decide +kernel
/-- Partners share the row. -/
theorem aC_partner (c : Dev nD) : aC (partner c) = aC c := aC_mk _ _
/-- Partners are in different columns. -/
theorem bC_partner (c : Dev nD) : bC (partner c) = 1 - bC c := bC_mk _ _
/-- The receiver at grid point `u` is `u` rows further. -/
theorem aC_rcv (c : Dev nD) (u : Fin 16) : aC (rcv c u) = aC c + u := aC_mk _ _
/-- The receiver is in the same column. -/
theorem bC_rcv (c : Dev nD) (u : Fin 16) : bC (rcv c u) = bC c := bC_mk _ _
/-- A device is its partner's partner. -/
theorem partner_partner : ∀ c : Dev nD, partner (partner c) = c := by decide +kernel
/-- A device is not its own partner. -/
theorem partner_ne : ∀ c : Dev nD, partner c ≠ c := by decide +kernel
/-- At the first grid point a device computes for itself. -/
theorem rcv_zero : ∀ c : Dev nD, rcv c 0 = c := by decide +kernel
/-- At the later grid points it computes for others. -/
theorem rcv_ne : ∀ (c : Dev nD) (u : Fin 16), u ≠ 0 → rcv c u ≠ c := by decide +kernel
/-- It computes for each of them once. -/
theorem rcv_inj : ∀ (c : Dev nD) (u v : Fin 16), rcv c u = rcv c v → u = v := by decide +kernel
/-- The other of the other of two columns is the column. -/
theorem sub_one_one : ∀ b : Fin 2, 1 - (1 - b) = b := by decide
/-- A device is determined by its row and column. -/
theorem dev_ext {c d : Dev nD} (ha : aC c = aC d) (hb : bC c = bC d) : c = d := by rw [← mk_ab c, ← mk_ab d, ha, hb]

/-! ## Conditions -/

/-- The opening runs at the first grid point. -/
theorem cond1_iff : ∀ i : grid0.Coords, k0_cond1 i = 1#1 ↔ (i 0).val = 0 := by decide +kernel
/-- The closing runs at the last grid point. -/
theorem cond36_iff : ∀ i : grid0.Coords, k0_cond36 i = 1#1 ↔ (i 0).val = 15 := by decide +kernel
/-- A device keeps its tile at the first grid point. -/
theorem cond34_iff : ∀ (i : grid0.Coords) (c : Dev nD), k0_cond34 i c = 1#1 ↔ (i 0).val = 0 := by decide +kernel
/-- It sends its tile at the later ones. -/
theorem cond35_iff : ∀ (i : grid0.Coords) (c : Dev nD), k0_cond35 i c = 1#1 ↔ (i 0).val ≠ 0 := by decide +kernel
/-- A device signals this one unless it is itself. -/
theorem cond2_iff : ∀ c : Dev nD, k0_cond2 c = 1#1 ↔ (⟨0, by decide⟩ : Dev nD) ≠ c := by decide +kernel
/-- A device signals this one unless it is itself. -/
theorem cond3_iff : ∀ c : Dev nD, k0_cond3 c = 1#1 ↔ (⟨1, by decide⟩ : Dev nD) ≠ c := by decide +kernel
/-- A device signals this one unless it is itself. -/
theorem cond4_iff : ∀ c : Dev nD, k0_cond4 c = 1#1 ↔ (⟨2, by decide⟩ : Dev nD) ≠ c := by decide +kernel
/-- A device signals this one unless it is itself. -/
theorem cond5_iff : ∀ c : Dev nD, k0_cond5 c = 1#1 ↔ (⟨3, by decide⟩ : Dev nD) ≠ c := by decide +kernel
/-- A device signals this one unless it is itself. -/
theorem cond6_iff : ∀ c : Dev nD, k0_cond6 c = 1#1 ↔ (⟨4, by decide⟩ : Dev nD) ≠ c := by decide +kernel
/-- A device signals this one unless it is itself. -/
theorem cond7_iff : ∀ c : Dev nD, k0_cond7 c = 1#1 ↔ (⟨5, by decide⟩ : Dev nD) ≠ c := by decide +kernel
/-- A device signals this one unless it is itself. -/
theorem cond8_iff : ∀ c : Dev nD, k0_cond8 c = 1#1 ↔ (⟨6, by decide⟩ : Dev nD) ≠ c := by decide +kernel
/-- A device signals this one unless it is itself. -/
theorem cond9_iff : ∀ c : Dev nD, k0_cond9 c = 1#1 ↔ (⟨7, by decide⟩ : Dev nD) ≠ c := by decide +kernel
/-- A device signals this one unless it is itself. -/
theorem cond10_iff : ∀ c : Dev nD, k0_cond10 c = 1#1 ↔ (⟨8, by decide⟩ : Dev nD) ≠ c := by decide +kernel
/-- A device signals this one unless it is itself. -/
theorem cond11_iff : ∀ c : Dev nD, k0_cond11 c = 1#1 ↔ (⟨9, by decide⟩ : Dev nD) ≠ c := by decide +kernel
/-- A device signals this one unless it is itself. -/
theorem cond12_iff : ∀ c : Dev nD, k0_cond12 c = 1#1 ↔ (⟨10, by decide⟩ : Dev nD) ≠ c := by decide +kernel
/-- A device signals this one unless it is itself. -/
theorem cond13_iff : ∀ c : Dev nD, k0_cond13 c = 1#1 ↔ (⟨11, by decide⟩ : Dev nD) ≠ c := by decide +kernel
/-- A device signals this one unless it is itself. -/
theorem cond14_iff : ∀ c : Dev nD, k0_cond14 c = 1#1 ↔ (⟨12, by decide⟩ : Dev nD) ≠ c := by decide +kernel
/-- A device signals this one unless it is itself. -/
theorem cond15_iff : ∀ c : Dev nD, k0_cond15 c = 1#1 ↔ (⟨13, by decide⟩ : Dev nD) ≠ c := by decide +kernel
/-- A device signals this one unless it is itself. -/
theorem cond16_iff : ∀ c : Dev nD, k0_cond16 c = 1#1 ↔ (⟨14, by decide⟩ : Dev nD) ≠ c := by decide +kernel
/-- A device signals this one unless it is itself. -/
theorem cond17_iff : ∀ c : Dev nD, k0_cond17 c = 1#1 ↔ (⟨15, by decide⟩ : Dev nD) ≠ c := by decide +kernel
/-- A device signals this one unless it is itself. -/
theorem cond18_iff : ∀ c : Dev nD, k0_cond18 c = 1#1 ↔ (⟨16, by decide⟩ : Dev nD) ≠ c := by decide +kernel
/-- A device signals this one unless it is itself. -/
theorem cond19_iff : ∀ c : Dev nD, k0_cond19 c = 1#1 ↔ (⟨17, by decide⟩ : Dev nD) ≠ c := by decide +kernel
/-- A device signals this one unless it is itself. -/
theorem cond20_iff : ∀ c : Dev nD, k0_cond20 c = 1#1 ↔ (⟨18, by decide⟩ : Dev nD) ≠ c := by decide +kernel
/-- A device signals this one unless it is itself. -/
theorem cond21_iff : ∀ c : Dev nD, k0_cond21 c = 1#1 ↔ (⟨19, by decide⟩ : Dev nD) ≠ c := by decide +kernel
/-- A device signals this one unless it is itself. -/
theorem cond22_iff : ∀ c : Dev nD, k0_cond22 c = 1#1 ↔ (⟨20, by decide⟩ : Dev nD) ≠ c := by decide +kernel
/-- A device signals this one unless it is itself. -/
theorem cond23_iff : ∀ c : Dev nD, k0_cond23 c = 1#1 ↔ (⟨21, by decide⟩ : Dev nD) ≠ c := by decide +kernel
/-- A device signals this one unless it is itself. -/
theorem cond24_iff : ∀ c : Dev nD, k0_cond24 c = 1#1 ↔ (⟨22, by decide⟩ : Dev nD) ≠ c := by decide +kernel
/-- A device signals this one unless it is itself. -/
theorem cond25_iff : ∀ c : Dev nD, k0_cond25 c = 1#1 ↔ (⟨23, by decide⟩ : Dev nD) ≠ c := by decide +kernel
/-- A device signals this one unless it is itself. -/
theorem cond26_iff : ∀ c : Dev nD, k0_cond26 c = 1#1 ↔ (⟨24, by decide⟩ : Dev nD) ≠ c := by decide +kernel
/-- A device signals this one unless it is itself. -/
theorem cond27_iff : ∀ c : Dev nD, k0_cond27 c = 1#1 ↔ (⟨25, by decide⟩ : Dev nD) ≠ c := by decide +kernel
/-- A device signals this one unless it is itself. -/
theorem cond28_iff : ∀ c : Dev nD, k0_cond28 c = 1#1 ↔ (⟨26, by decide⟩ : Dev nD) ≠ c := by decide +kernel
/-- A device signals this one unless it is itself. -/
theorem cond29_iff : ∀ c : Dev nD, k0_cond29 c = 1#1 ↔ (⟨27, by decide⟩ : Dev nD) ≠ c := by decide +kernel
/-- A device signals this one unless it is itself. -/
theorem cond30_iff : ∀ c : Dev nD, k0_cond30 c = 1#1 ↔ (⟨28, by decide⟩ : Dev nD) ≠ c := by decide +kernel
/-- A device signals this one unless it is itself. -/
theorem cond31_iff : ∀ c : Dev nD, k0_cond31 c = 1#1 ↔ (⟨29, by decide⟩ : Dev nD) ≠ c := by decide +kernel
/-- A device signals this one unless it is itself. -/
theorem cond32_iff : ∀ c : Dev nD, k0_cond32 c = 1#1 ↔ (⟨30, by decide⟩ : Dev nD) ≠ c := by decide +kernel
/-- A device signals this one unless it is itself. -/
theorem cond33_iff : ∀ c : Dev nD, k0_cond33 c = 1#1 ↔ (⟨31, by decide⟩ : Dev nD) ≠ c := by decide +kernel
/-! ## Offsets and peers -/

/-- The half of the pair buffer that a device fills, as it stores it. -/
theorem off1_eq : ∀ c : Dev nD, k0_off1 c = ![128 * (bC c).val, 0] := by decide +kernel
/-- The half of the pair buffer that a device fills, as it sends it. -/
theorem off2_eq : ∀ c : Dev nD, k0_off2 c = ![128 * (bC c).val, 0] := by decide +kernel
/-- The half of the pair buffer that its partner fills. -/
theorem off3_eq : ∀ c : Dev nD, k0_off3 c = ![128 * (1 - bC c).val, 0] := by decide +kernel
/-- The receive slot of a device's own tile. -/
theorem off4_eq : ∀ c : Dev nD, k0_off4 c = ![(aC c).val, 0, 0] := by decide +kernel
/-- The arrival counter of the tile a device sends. -/
theorem off7_eq : ∀ c : Dev nD, k0_off7 c = ![(aC c).val] := by decide +kernel
/-- The receive slot of the tile a device sends. -/
theorem off8_eq : ∀ c : Dev nD, k0_off8 c = ![(aC c).val, 0, 0] := by decide +kernel
/-- The rows are sent to the partner. -/
theorem dev33_eq : ∀ c : Dev nD, k0_dev33 c = (partner c).val := by decide +kernel
/-- The tile is sent to the receiver of the grid point. -/
theorem dev34_eq : ∀ (i : grid0.Coords) (c : Dev nD), k0_dev34 i c = (rcv c ⟨(i 0).val, (i 0).isLt⟩).val := by decide +kernel

/-! ## The words of the last point's waits -/

/-- The device as the program computes it, -/
def wP (c : Dev nD) : BitVec 32 := Scalar.remsi (Scalar.divsi (Dev.word c) 1#32) 32#32
/-- its row (the program's floor division), -/
def wA (v2 : BitVec 32) : BitVec 32 :=
  Scalar.select
    (Scalar.andi (Scalar.cmpi .ne (Scalar.subi (Scalar.extui (Scalar.cmpi .sgt v2 0#32)) (Scalar.extui (Scalar.cmpi .slt v2 0#32)))
      (Scalar.subi (Scalar.extui (Scalar.cmpi .sgt 2#32 0#32)) (Scalar.extui (Scalar.cmpi .slt 2#32 0#32))))
      (Scalar.cmpi .ne (Scalar.remsi v2 2#32) 0#32))
    (Scalar.subi (Scalar.divsi v2 2#32) 1#32) (Scalar.divsi v2 2#32)
/-- the condition of the wait on send semaphore `u`, -/
def sCond (v19 v20 v2 u : BitVec 32) : BitVec 1 :=
  Scalar.cmpi .ne (Scalar.extui (Scalar.cmpi .ne (Scalar.addi (Scalar.muli 2#32 (Scalar.remsi (Scalar.addi v19 u) 16#32)) v20) v2) : BitVec 32) 0#32
/-- and of the wait on receive semaphore `r` (`r2` twice that). -/
def rCond (v2 r2 : BitVec 32) : BitVec 1 :=
  Scalar.cmpi .ne (Scalar.extui (Scalar.cmpi .ne (Scalar.addi r2 (Scalar.remsi v2 2#32)) v2) : BitVec 32) 0#32

/-- The last point waits for the send of every slot but the first. -/
theorem sCond_iff : ∀ (c : Dev nD) (u : Fin 16),
    sCond (wA (wP c)) (Scalar.remsi (wP c) 2#32) (wP c) (BitVec.ofNat 32 u.val) = 1#1 ↔ u ≠ 0 := by decide +kernel
/-- The last point waits for the arrival of every slot but its own row's. -/
theorem rCond_iff : ∀ (c : Dev nD) (r : Fin 16), rCond (wP c) (BitVec.ofNat 32 (2 * r.val)) = 1#1 ↔ r ≠ aC c := by decide +kernel

/-! ## Semaphores -/

/-- The barrier's semaphore; -/
abbrev barS : Sem sig := (SemArray.scalar (sig.barrier 0 rfl) : Sems sig S_).sem
/-- the DMA semaphores: the exchange's send and receive, -/
abbrev xsS : DmaSem sig := cc0_scratch3.sem
/-- The counter of the rows' arrival. -/
abbrev xrS : DmaSem sig := cc0_scratch4.sem
set_option backward.proofsInPublic true in
/-- the send semaphore of grid point `u`, the receive semaphore of slot `r`. -/
def sdS (u : Fin 16) : DmaSem sig := ⟨8 + u.val, by have := u.isLt; show _ < 40; omega⟩
set_option backward.proofsInPublic true in
/-- The counter of the arrival in slot `r`. -/
def rvS (r : Fin 16) : DmaSem sig := ⟨24 + r.val, by have := r.isLt; show _ < 40; omega⟩

/-- The program's name of a send counter. -/
theorem sdS_eq (u : Fin 16) (off : Fin 1 → ℕ) (h : ∀ a, off a + S1.size a ≤ S16.size a) (ho : off = ![u.val]) :
    ((cc0_scratch5.slice (Rect.unit (s := S16) off S1.size h)).squeeze S_ squeezes_S1_S_).sem = sdS u := by
  subst ho; revert u; decide +kernel
/-- The program's name of an arrival counter. -/
theorem rvS_eq (r : Fin 16) (off : Fin 1 → ℕ) (h : ∀ a, off a + S1.size a ≤ S16.size a) (ho : off = ![r.val]) :
    ((cc0_scratch6.slice (Rect.unit (s := S16) off S1.size h)).squeeze S_ squeezes_S1_S_).sem = rvS r := by
  subst ho; revert r; decide +kernel

end Cert.Talk

end
-- ==== Proof.Slots.lean ====
/-
  The scratch buffers by parts: the pair buffer in two halves of 128 rows, the send and receive buffers in 16 slots. What each
  part holds is named by ONE whole contents per device and buffer, so that parts held by different devices rejoin to it.
-/
module

public import proofs.«01_k».proof.Proof.Mesh

@[expose] public section

set_option synthInstance.maxSize 4096

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.ValueIdx (ix2 ix3)
open Idealize.ShloMosaic.Pipeline (Dat Cfg BodyObligation cellOf)

variable {F : FTy → Type} [FloatOps F]

/-- The resources: the pipeline library's rounds, and the exchange's (a duty is the device that pays it). -/
abbrev UU : Type := UR sig nD τ × URounds (GSem nD τ sig) (Dev nD)

local notation "𝕄" => MT nD τ sig Unit (Elt F) ℕ UU ℕ

/-- A row less itself is zero. -/
theorem fin16_sub_self (a : Fin 16) : a - a = 0 := by revert a; decide
/-- Adding and taking away a row gives back the rest. -/
theorem fin16_add_sub (a u : Fin 16) : a + u - a = u := by revert a u; decide

/-! ## Parts -/

/-- A slot lies in its buffer. -/
theorem slot_inb (r : Fin 16) : ∀ a, (![r.val, 0, 0] : Fin 3 → ℕ) a + S1x256x256.size a ≤ S16x256x256.size a := by
  revert r; decide
/-- A half lies in the pair buffer. -/
theorem half_inb (h : Fin 2) : ∀ a, (![128 * h.val, 0] : Fin 2 → ℕ) a + S128x4096.size a ≤ S256x4096.size a := by
  revert h; decide

/-- The elements of slot `r` of a buffer of 16 slots; -/
def slotSet (r : Fin 16) : Finset S16x256x256.Idx := (Rect.unit (s := S16x256x256) ![r.val, 0, 0] S1x256x256.size (slot_inb r)).set
/-- of half `h` of the pair buffer. -/
def halfSet (h : Fin 2) : Finset S256x4096.Idx := (Rect.unit (s := S256x4096) ![128 * h.val, 0] S128x4096.size (half_inb h)).set

/-- The elements of slot `r` are those of first coordinate `r`. -/
theorem mem_slotSet (r : Fin 16) (i : S16x256x256.Idx) : i ∈ slotSet r ↔ (i 0).val = r.val := by
  unfold slotSet; rw [Rect.mem_set_unit]
  constructor
  · intro h
    have h0 := h 0
    simp only [Matrix.cons_val_zero] at h0
    have : S1x256x256.size 0 = 1 := rfl
    omega
  · intro h a
    match a with
    | ⟨0, _⟩ => exact ⟨le_of_eq h.symm, by show (i 0).val < r.val + 1; omega⟩
    | ⟨1, _⟩ => exact ⟨Nat.zero_le _, by show (i 1).val < 0 + 256; have : (i 1).val < 256 := (i 1).isLt; omega⟩
    | ⟨2, _⟩ => exact ⟨Nat.zero_le _, by show (i 2).val < 0 + 256; have : (i 2).val < 256 := (i 2).isLt; omega⟩

/-- The elements of a half are those of its 128 rows. -/
theorem mem_halfSet (h : Fin 2) (i : S256x4096.Idx) : i ∈ halfSet h ↔ (i 0).val / 128 = h.val := by
  have h2 := h.isLt
  have hi : (i 0).val < 256 := (i 0).isLt
  unfold halfSet; rw [Rect.mem_set_unit]
  constructor
  · intro hh
    have h0 := hh 0
    simp only [Matrix.cons_val_zero] at h0
    have : S128x4096.size 0 = 128 := rfl
    omega
  · intro hh a
    match a with
    | ⟨0, _⟩ => exact ⟨by show 128 * h.val ≤ (i 0).val; omega, by show (i 0).val < 128 * h.val + 128; omega⟩
    | ⟨1, _⟩ => exact ⟨Nat.zero_le _, by show (i 1).val < 0 + 4096; have : (i 1).val < 4096 := (i 1).isLt; omega⟩

/-- Different slots are apart. -/
theorem slot_disj (r r' : Fin 16) (h : r ≠ r') : Disjoint (slotSet r) (slotSet r') :=
  Finset.disjoint_left.mpr fun i hi hi' => h (Fin.ext (((mem_slotSet r i).mp hi).symm.trans ((mem_slotSet r' i).mp hi')))
/-- Different halves are apart. -/
theorem half_disj (h h' : Fin 2) (hh : h ≠ h') : Disjoint (halfSet h) (halfSet h') :=
  Finset.disjoint_left.mpr fun i hi hi' => hh (Fin.ext (((mem_halfSet h i).mp hi).symm.trans ((mem_halfSet h' i).mp hi')))
/-- The slots make up the buffer. -/
theorem slot_cover : (Finset.univ : Finset (Fin 16)).biUnion slotSet = Finset.univ :=
  Finset.eq_univ_iff_forall.mpr fun i => Finset.mem_biUnion.mpr ⟨⟨(i 0).val, (i 0).isLt⟩, Finset.mem_univ _, (mem_slotSet _ i).mpr rfl⟩
/-- The halves make up the pair buffer. -/
theorem half_cover : (Finset.univ : Finset (Fin 2)).biUnion halfSet = Finset.univ :=
  Finset.eq_univ_iff_forall.mpr fun i => Finset.mem_biUnion.mpr
    ⟨⟨(i 0).val / 128, by have : (i 0).val < 256 := (i 0).isLt; omega⟩, Finset.mem_univ _, (mem_halfSet _ i).mpr rfl⟩

/-! ## Points-to of a part -/

/-- Device `d`'s receive slot `r` at contents `f`, -/
abbrev rPt (d : Dev nD) (r : Fin 16) (f : S16x256x256.Idx → Elt F .bf16) : sProp 𝕄 :=
  ((d : Thread nD τ).loc cc0_scratch2) ↦[slotSet r]{fullShare} f
/-- its send slot `u`, -/
abbrev sPt (d : Dev nD) (u : Fin 16) (f : S16x256x256.Idx → Elt F .bf16) : sProp 𝕄 :=
  ((d : Thread nD τ).loc cc0_scratch1) ↦[slotSet u]{fullShare} f
/-- its pair buffer's half `h`. -/
abbrev hPt (d : Dev nD) (h : Fin 2) (f : S256x4096.Idx → Elt F .fp8e5m2) : sProp 𝕄 :=
  ((d : Thread nD τ).loc cc0_scratch0) ↦[halfSet h]{fullShare} f

omit [FloatOps F] in
/-- A receive buffer held whole is its slots. -/
theorem r_split (d : Dev nD) (f : S16x256x256.Idx → Elt F .bf16) :
    (((d : Thread nD τ).loc cc0_scratch2) ↦{fullShare} f : sProp 𝕄) = bigSep Finset.univ fun r => rPt d r f := by
  have h := pointsTo_biUnion (Ix := Unit) (Name := ℕ) (U := UU) (Lvl := ℕ) (Val := Elt F) (ℓ := (d : Thread nD τ).loc cc0_scratch2) (q := fullShare) (f := f)
    (Finset.univ : Finset (Fin 16)) slotSet (fun t _ t' _ ht => slot_disj t t' ht)
  rw [← h, slot_cover]
omit [FloatOps F] in
/-- A send buffer held whole is its slots. -/
theorem s_split (d : Dev nD) (f : S16x256x256.Idx → Elt F .bf16) :
    (((d : Thread nD τ).loc cc0_scratch1) ↦{fullShare} f : sProp 𝕄) = bigSep Finset.univ fun r => sPt d r f := by
  have h := pointsTo_biUnion (Ix := Unit) (Name := ℕ) (U := UU) (Lvl := ℕ) (Val := Elt F) (ℓ := (d : Thread nD τ).loc cc0_scratch1) (q := fullShare) (f := f)
    (Finset.univ : Finset (Fin 16)) slotSet (fun t _ t' _ ht => slot_disj t t' ht)
  rw [← h, slot_cover]
omit [FloatOps F] in
/-- A pair buffer held whole is its halves. -/
theorem h_split (d : Dev nD) (f : S256x4096.Idx → Elt F .fp8e5m2) :
    (((d : Thread nD τ).loc cc0_scratch0) ↦{fullShare} f : sProp 𝕄) = bigSep Finset.univ fun r => hPt d r f := by
  have h := pointsTo_biUnion (Ix := Unit) (Name := ℕ) (U := UU) (Lvl := ℕ) (Val := Elt F) (ℓ := (d : Thread nD τ).loc cc0_scratch0) (q := fullShare) (f := f)
    (Finset.univ : Finset (Fin 2)) halfSet (fun t _ t' _ ht => half_disj t t' ht)
  rw [← h, half_cover]

omit [FloatOps F] in
/-- Send slots at any contents rejoin. -/
theorem s_join (d : Dev nD) (f₀ : S16x256x256.Idx → Elt F .bf16) :
    (bigSep Finset.univ fun u => iprop(∃ f, sPt d u f)) ⊢ (iprop(∃ f : Buf (Elt F) ((d : Thread nD τ).loc cc0_scratch1), ((d : Thread nD τ).loc cc0_scratch1) ↦{fullShare} f) : sProp 𝕄) := by
  haveI : Nonempty (S16x256x256.Idx → Elt F .bf16) := ⟨f₀⟩
  refine (bigSep_exists_pi Finset.univ fun (u : Fin 16) (f : S16x256x256.Idx → Elt F .bf16) => (sPt d u f : sProp 𝕄)).trans ?_
  iintro ⟨%fs, H⟩
  ihave H' := (pointsTo_biUnion_join (Ix := Unit) (Name := ℕ) (U := UU) (Lvl := ℕ) (Val := Elt F) (ℓ := (d : Thread nD τ).loc cc0_scratch1) (q := fullShare)
    (Finset.univ : Finset (Fin 16)) slotSet fs f₀ (fun t _ t' _ ht => slot_disj t t' ht)) $$ H
  icases H' with ⟨%g, -, H⟩
  rw [slot_cover]
  iexists g; iexact H

/-! ## The contents -/

/-- What the kernel reads of its operands, per device: the rows of `x`, the columns of `w` staged at each grid point, the
    product of the scales. -/
structure In (F : FTy → Type) where
  x : Dev nD → Vec F S128x4096 .fp8e5m2
  w : Dev nD → Fin 16 → Vec F S4096x256 .fp8e5m2
  s : Dev nD → F .f32

variable (I : In F)

/-- The pair buffer once exchanged: the rows of the two devices of `c`'s row. -/
def PAIR (c : Dev nD) : S256x4096.Idx → Elt F .fp8e5m2 := fun i =>
  k0_pay5 (I.x (mk (aC c) ⟨(i 0).val / 128, by have : (i 0).val < 256 := (i 0).isLt; omega⟩))
    (ix2 ⟨(i 0).val % 128, Nat.mod_lt _ (by decide)⟩ ⟨(i 1).val, (i 1).isLt⟩)
/-- What device `c` computes at grid point `u`. -/
def tile (c : Dev nD) (u : Fin 16) : FVec F S256x256 .bf16 :=
  k0_pay1 (I.s c) (k0_pay7 (I.w c u)) (PAIR I c) (constant S256x256 .f32 0x00000000#32)
/-- Its send buffer, slot `u` the tile of point `u`; -/
def SBc (c : Dev nD) : S16x256x256.Idx → Elt F .bf16 := fun i =>
  tile I c ⟨(i 0).val, (i 0).isLt⟩ (ix2 ⟨(i 1).val, (i 1).isLt⟩ ⟨(i 2).val, (i 2).isLt⟩)
/-- its receive buffer at the end, slot `r` the tile that the device at row `r` of its column computes for it. -/
def RBc (c : Dev nD) : S16x256x256.Idx → Elt F .bf16 := fun i =>
  tile I (mk ⟨(i 0).val, (i 0).isLt⟩ (bC c)) (aC c - ⟨(i 0).val, (i 0).isLt⟩) (ix2 ⟨(i 1).val, (i 1).isLt⟩ ⟨(i 2).val, (i 2).isLt⟩)

/-! ## The program's views of the parts -/

/-- A set's image under the identity is itself. -/
theorem map_id_set {ι : Type} [DecidableEq ι] (S : Finset ι) (e : ι ↪ ι) (he : ∀ x, e x = x) : S.map e = S := by
  ext i; constructor
  · intro hi; obtain ⟨x, hx, e'⟩ := Finset.mem_map.mp hi; rw [he] at e'; exact e' ▸ hx
  · intro hi; exact Finset.mem_map.mpr ⟨i, hi, he i⟩

section Views

variable (r : Fin 16) (off : Fin 3 → ℕ) (h : ∀ a, off a + S1x256x256.size a ≤ S16x256x256.size a) (ho : off = ![r.val, 0, 0])

/-- A slot of the send buffer, as the vector unit accesses it; -/
abbrev sAcc : View sig .tc .vmem S1x256x256 .bf16 :=
  (Memref.whole cc0_scratch1 : Memref sig .tc .vmem S16x256x256 .bf16).access (Rect.unit (s := S16x256x256) off S1x256x256.size h)
/-- of the receive buffer; -/
abbrev rAcc : View sig .tc .vmem S1x256x256 .bf16 :=
  (Memref.whole cc0_scratch2 : Memref sig .tc .vmem S16x256x256 .bf16).access (Rect.unit (s := S16x256x256) off S1x256x256.size h)
/-- and as a transfer names them. -/
abbrev sM : Memref sig .tc .vmem S256x256 .bf16 :=
  ((Memref.whole cc0_scratch1 : Memref sig .tc .vmem S16x256x256 .bf16).slice (Rect.unit (s := S16x256x256) off S1x256x256.size h) (fun _ => rfl)).squeeze S256x256 squeezes_S1x256x256_S256x256
/-- A slot of the receive buffer, as a transfer names it. -/
abbrev rM : Memref sig .tc .vmem S256x256 .bf16 :=
  ((Memref.whole cc0_scratch2 : Memref sig .tc .vmem S16x256x256 .bf16).slice (Rect.unit (s := S16x256x256) off S1x256x256.size h) (fun _ => rfl)).squeeze S256x256 squeezes_S1x256x256_S256x256

include ho

/-- The elements that the vector unit's view of a send slot covers. -/
theorem sAcc_set : (sAcc off h).set = slotSet r := by
  subst ho
  rw [View.set_slice]
  exact map_id_set _ _ fun _ => rfl
/-- The elements that the vector unit's view of a receive slot covers. -/
theorem rAcc_set : (rAcc off h).set = slotSet r := by
  subst ho
  rw [View.set_slice]
  exact map_id_set _ _ fun _ => rfl
/-- The elements that a transfer's view of a send slot covers. -/
theorem sM_set : (sM off h).view.set = slotSet r := by
  rw [← sAcc_set r off h ho]
  exact View.set_reshape ..
/-- The elements that a transfer's view of a receive slot covers. -/
theorem rM_set : (rM off h).view.set = slotSet r := by
  rw [← rAcc_set r off h ho]
  exact View.set_reshape ..

/-- Where the vector unit's view of a send slot places an index. -/
theorem sAcc_emb (x : S1x256x256.Idx) : ((sAcc off h).emb x : S16x256x256.Idx) = ix3 r ⟨(x 1).val, (x 1).isLt⟩ ⟨(x 2).val, (x 2).isLt⟩ := by
  subst ho
  have h0 : (x 0).val < 1 := (x 0).isLt
  refine Shape.idx3_ext ?_ ?_ ?_
  · show r.val + 1 * (x 0).val = r.val; omega
  · show 0 + 1 * (x 1).val = (x 1).val; omega
  · show 0 + 1 * (x 2).val = (x 2).val; omega
/-- Where the vector unit's view of a receive slot places an index. -/
theorem rAcc_emb (x : S1x256x256.Idx) : ((rAcc off h).emb x : S16x256x256.Idx) = ix3 r ⟨(x 1).val, (x 1).isLt⟩ ⟨(x 2).val, (x 2).isLt⟩ :=
  sAcc_emb r off h ho x
/-- Where a transfer's view of a send slot places an index. -/
theorem sM_emb (x : S256x256.Idx) : ((sM off h).view.emb x : S16x256x256.Idx) = ix3 r ⟨(x 0).val, (x 0).isLt⟩ ⟨(x 1).val, (x 1).isLt⟩ := by
  have e : (sM off h).view.emb x = (sAcc off h).emb (Shape.reshapeEquiv (by rfl : S256x256.numel = S1x256x256.numel) x) := rfl
  rw [e, sAcc_emb r off h ho]
  have ex : x = ix2 ⟨(x 0).val, (x 0).isLt⟩ ⟨(x 1).val, (x 1).isLt⟩ := by
    funext a; match a with
    | ⟨0, _⟩ => rfl
    | ⟨1, _⟩ => rfl
  have := ValueIdx.reshapeEquiv_ix2_1ab (a := 256) (b := 256) rfl ⟨(x 0).val, (x 0).isLt⟩ ⟨(x 1).val, (x 1).isLt⟩
  have h1 : Shape.reshapeEquiv (by rfl : S256x256.numel = S1x256x256.numel) x = ix3 (⟨0, Nat.one_pos⟩ : Fin 1) ⟨(x 0).val, (x 0).isLt⟩ ⟨(x 1).val, (x 1).isLt⟩ := by
    conv_lhs => rw [ex]
    exact this
  rw [h1]
  rfl
/-- Where a transfer's view of a receive slot places an index. -/
theorem rM_emb (x : S256x256.Idx) : ((rM off h).view.emb x : S16x256x256.Idx) = ix3 r ⟨(x 0).val, (x 0).isLt⟩ ⟨(x 1).val, (x 1).isLt⟩ :=
  sM_emb r off h ho x

end Views

/-- An index in slot `r`, by its coordinates. -/
theorem idx_slot (r : Fin 16) (i : S16x256x256.Idx) (hi : i ∈ slotSet r) : i = ix3 r ⟨(i 1).val, (i 1).isLt⟩ ⟨(i 2).val, (i 2).isLt⟩ :=
  Shape.idx3_ext ((mem_slotSet r i).mp hi) rfl rfl

/-- The store of the tile of point `u` into send slot `u`. -/
theorem s_stored (c : Dev nD) (u : Fin 16) (off : Fin 3 → ℕ) (h : ∀ a, off a + S1x256x256.size a ≤ S16x256x256.size a) (ho : off = ![u.val, 0, 0])
    (f : Buf (Elt F) ((sAcc off h).loc (c : Thread nD τ))) :
    ((sAcc off h).loc (c : Thread nD τ) ↦[slotSet u]{fullShare} (sAcc off h).write (Elt F) f
        (k0_pay3 (I.s c) (k0_pay7 (I.w c u)) (PAIR I c) (constant S256x256 .f32 0x00000000#32)) Finset.univ : sProp 𝕄)
      = sPt c u (SBc I c) := by
  refine pointsTo_congr fun i hi => ?_
  have e : i = (sAcc off h).emb (ix3 (0 : Fin 1) ⟨(i 1).val, (i 1).isLt⟩ ⟨(i 2).val, (i 2).isLt⟩) := by
    rw [sAcc_emb u off h ho]; exact idx_slot u i hi
  rw [e, View.write_emb_of_mem _ _ (Finset.mem_univ _)]
  show k0_pay3 _ _ _ _ _ = _
  rw [sAcc_emb u off h ho]
  unfold k0_pay3
  exact ValueIdx.shapeCast_ab_1ab_apply (tile I c u) shapeCasts_S256x256_S1x256x256 (0 : Fin 1) ⟨(i 1).val, (i 1).isLt⟩ ⟨(i 2).val, (i 2).isLt⟩

/-- The store of its own tile into its own receive slot. -/
theorem r_stored (c : Dev nD) (off : Fin 3 → ℕ) (h : ∀ a, off a + S1x256x256.size a ≤ S16x256x256.size a) (ho : off = ![(aC c).val, 0, 0])
    (f : Buf (Elt F) ((rAcc off h).loc (c : Thread nD τ))) :
    ((rAcc off h).loc (c : Thread nD τ) ↦[slotSet (aC c)]{fullShare} (rAcc off h).write (Elt F) f
        (k0_pay2 (I.s c) (k0_pay7 (I.w c 0)) (PAIR I c) (constant S256x256 .f32 0x00000000#32)) Finset.univ : sProp 𝕄)
      = rPt c (aC c) (RBc I c) := by
  refine pointsTo_congr fun i hi => ?_
  have e : i = (rAcc off h).emb (ix3 (0 : Fin 1) ⟨(i 1).val, (i 1).isLt⟩ ⟨(i 2).val, (i 2).isLt⟩) := by
    rw [rAcc_emb (aC c) off h ho]; exact idx_slot (aC c) i hi
  rw [e, View.write_emb_of_mem _ _ (Finset.mem_univ _)]
  show k0_pay2 _ _ _ _ _ = _
  rw [rAcc_emb (aC c) off h ho]
  unfold k0_pay2
  refine (ValueIdx.shapeCast_ab_1ab_apply (tile I c 0) shapeCasts_S256x256_S1x256x256 (0 : Fin 1) ⟨(i 1).val, (i 1).isLt⟩ ⟨(i 2).val, (i 2).isLt⟩).trans ?_
  have e1 : ∀ (d : Dev nD) (u : Fin 16) y, d = c → u = 0 → tile I c 0 y = tile I d u y := by rintro d u y rfl rfl; rfl
  exact e1 (mk (aC c) (bC c)) (aC c - aC c) _ (mk_ab c) (fin16_sub_self _)

/-- The transfer of send slot `u` of `c` into slot `aC c` of the device that it is for. -/
theorem r_landed (c : Dev nD) (u : Fin 16) (off off' : Fin 3 → ℕ) (h : ∀ a, off a + S1x256x256.size a ≤ S16x256x256.size a)
    (h' : ∀ a, off' a + S1x256x256.size a ≤ S16x256x256.size a) (ho : off = ![u.val, 0, 0]) (ho' : off' = ![(aC c).val, 0, 0])
    (f : Buf (Elt F) ((rM off' h').view.loc (rcv c u : Thread nD τ))) :
    ((rM off' h').view.loc (rcv c u : Thread nD τ) ↦[(rM off' h').view.set]{fullShare} (rM off' h').view.write (Elt F) f
        ((sM off h).view.read (Elt F) (SBc I c)) Finset.univ : sProp 𝕄)
      = rPt (rcv c u) (aC c) (RBc I (rcv c u)) := by
  rw [rM_set (aC c) off' h' ho']
  refine pointsTo_congr fun i hi => ?_
  have e : i = (rM off' h').view.emb (ix2 ⟨(i 1).val, (i 1).isLt⟩ ⟨(i 2).val, (i 2).isLt⟩) := by
    rw [rM_emb (aC c) off' h' ho']; exact idx_slot (aC c) i hi
  rw [e, View.write_emb_of_mem _ _ (Finset.mem_univ _)]
  show (sM off h).view.read (Elt F) (SBc I c) _ = _
  rw [View.read_apply, rM_emb (aC c) off' h' ho']
  show SBc I c ((sM off h).view.emb _) = _
  rw [sM_emb u off h ho]
  have e1 : ∀ (d : Dev nD) (v : Fin 16) y, d = c → v = u → tile I c u y = tile I d v y := by rintro d v y rfl rfl; rfl
  exact e1 (mk (aC c) (bC (rcv c u))) (aC (rcv c u) - aC c) _ (by rw [bC_rcv, mk_ab]) (by rw [aC_rcv, fin16_add_sub])

/-! ## The pair buffer -/

section Half

variable (b : Fin 2) (off : Fin 2 → ℕ) (h : ∀ a, off a + S128x4096.size a ≤ S256x4096.size a) (ho : off = ![128 * b.val, 0])

/-- A half of the pair buffer, as the vector unit accesses it and as a transfer names it. -/
abbrev hAcc : View sig .tc .vmem S128x4096 .fp8e5m2 :=
  (Memref.whole cc0_scratch0 : Memref sig .tc .vmem S256x4096 .fp8e5m2).access (Rect.unit (s := S256x4096) off S128x4096.size h)
/-- A half of the pair buffer, as a transfer names it. -/
abbrev hM : Memref sig .tc .vmem S128x4096 .fp8e5m2 :=
  (Memref.whole cc0_scratch0 : Memref sig .tc .vmem S256x4096 .fp8e5m2).slice (Rect.unit (s := S256x4096) off S128x4096.size h) (fun _ => rfl)

include ho

/-- The elements that the vector unit's view of a half covers. -/
theorem hAcc_set : (hAcc off h).set = halfSet b := by
  subst ho
  rw [View.set_slice]
  exact map_id_set _ _ fun _ => rfl
/-- The elements that a transfer's view of a half covers. -/
theorem hM_set : (hM off h).view.set = halfSet b := hAcc_set b off h ho
/-- Where the view of a half places an index. -/
theorem hAcc_emb (x : S128x4096.Idx) : ((hAcc off h).emb x : S256x4096.Idx)
    = ix2 ⟨128 * b.val + (x 0).val, by have : (x 0).val < 128 := (x 0).isLt; have := b.isLt; omega⟩ ⟨(x 1).val, (x 1).isLt⟩ := by
  subst ho
  funext a
  match a with
  | ⟨0, _⟩ => apply Fin.ext; show 128 * b.val + 1 * (x 0).val = 128 * b.val + (x 0).val; omega
  | ⟨1, _⟩ => apply Fin.ext; show 0 + 1 * (x 1).val = (x 1).val; omega

end Half

/-- An index in a half, placed by its view. -/
theorem idx_half (b : Fin 2) (off : Fin 2 → ℕ) (h : ∀ a, off a + S128x4096.size a ≤ S256x4096.size a) (ho : off = ![128 * b.val, 0])
    (i : S256x4096.Idx) (hi : i ∈ halfSet b) :
    i = (hAcc off h).emb (ix2 ⟨(i 0).val % 128, Nat.mod_lt _ (by decide)⟩ ⟨(i 1).val, (i 1).isLt⟩) := by
  have hb := (mem_halfSet b i).mp hi
  rw [hAcc_emb b off h ho]
  funext a
  match a with
  | ⟨0, _⟩ => apply Fin.ext; show (i 0).val = 128 * b.val + (i 0).val % 128; omega
  | ⟨1, _⟩ => rfl

/-- The copy of its own rows into its own half. -/
theorem h_stored (c : Dev nD) (off : Fin 2 → ℕ) (h : ∀ a, off a + S128x4096.size a ≤ S256x4096.size a) (ho : off = ![128 * (bC c).val, 0])
    (f : Buf (Elt F) ((hAcc off h).loc (c : Thread nD τ))) :
    ((hAcc off h).loc (c : Thread nD τ) ↦[halfSet (bC c)]{fullShare} (hAcc off h).write (Elt F) f (k0_pay5 (I.x c)) Finset.univ : sProp 𝕄)
      = hPt c (bC c) (PAIR I c) := by
  refine pointsTo_congr fun i hi => ?_
  have hb := (mem_halfSet (bC c) i).mp hi
  have hd : ∀ hq, mk (aC c) ⟨(i 0).val / 128, hq⟩ = c := fun hq => by
    rw [show (⟨(i 0).val / 128, hq⟩ : Fin 2) = bC c from Fin.ext hb, mk_ab]
  have key : PAIR I c i = k0_pay5 (I.x c) (ix2 ⟨(i 0).val % 128, Nat.mod_lt _ (by decide)⟩ ⟨(i 1).val, (i 1).isLt⟩) := by
    unfold PAIR
    rw [hd]
  rw [key, idx_half (bC c) off h ho i hi]
  refine (View.write_emb_of_mem (v := hAcc off h) _ _ (Finset.mem_univ _)).trans ?_
  rw [← idx_half (bC c) off h ho i hi]
  rfl

/-- Partners end with the same pair of rows. -/
theorem PAIR_partner (c : Dev nD) : PAIR I (partner c) = PAIR I c := by
  unfold PAIR; rw [aC_partner]

/-- The exchange: `c`'s half lands in its partner's pair buffer. -/
theorem h_landed (c : Dev nD) (off off' : Fin 2 → ℕ) (h : ∀ a, off a + S128x4096.size a ≤ S256x4096.size a)
    (h' : ∀ a, off' a + S128x4096.size a ≤ S256x4096.size a) (ho : off = ![128 * (bC c).val, 0]) (ho' : off' = ![128 * (bC c).val, 0])
    (f : Buf (Elt F) ((hM off' h').view.loc (partner c : Thread nD τ))) :
    ((hM off' h').view.loc (partner c : Thread nD τ) ↦[(hM off' h').view.set]{fullShare} (hM off' h').view.write (Elt F) f
        ((hM off h).view.read (Elt F) (PAIR I c)) Finset.univ : sProp 𝕄)
      = hPt (partner c) (bC c) (PAIR I (partner c)) := by
  subst ho'
  subst ho
  have key : ∀ y : S128x4096.Idx, (hM _ h).view.read (Elt F) (PAIR I c) y = PAIR I (partner c) ((hAcc _ h').emb y) := by
    intro y
    rw [PAIR_partner]
    exact View.read_apply ..
  rw [hM_set (bC c) _ h' rfl]
  refine pointsTo_congr fun i hi => ?_
  obtain ⟨y, e⟩ : ∃ y : S128x4096.Idx, i = (hAcc _ h').emb y := ⟨_, idx_half (bC c) _ h' rfl i hi⟩
  subst e
  exact (View.write_emb_of_mem (v := hAcc _ h') _ _ (Finset.mem_univ y)).trans (key y)

end Cert.Talk

end
-- ==== Proof.Sched.lean ====
/-
  The exchange's cells, what lands on each, who pays it and what is handed over with it, in what order waits may happen.

  * barrier cell of `c`: every other device signals one unit. A device `d` of `c`'s column hands `c` the receive slot that `c`
    will write on `d`, and `c`'s partner hands `c` the half of its pair buffer that `c` will write; each with the mark that
    its receiving semaphore is in use.
  * `c`'s two semaphores of the pair exchange: the send one gives `c`'s own half back, the receive one the other half,
    filled; both halves hold the rows of the pair.
  * `c`'s send semaphore `u ≠ 0` gives send slot `u` back; its receive semaphore `r ≠ aC c` the receive slot `r`, filled
    with the tile that the device at row `r` computed for `c`.
-/
module

public import proofs.«01_k».proof.Proof.Slots

@[expose] public section

set_option synthInstance.maxSize 4096

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

/-- The pipeline library's rounds (left) and the exchange's (right). -/
abbrev EP : Emb (UR sig nD τ) (MT nD τ sig Unit (Elt F) ℕ UU ℕ) := embL
/-- The exchange's resource within the whole. -/
abbrev ER : Emb (URounds (GSem nD τ sig) (Dev nD)) (MT nD τ sig Unit (Elt F) ℕ UU ℕ) := embR

/-! ## Sets of indices still to come, and past -/

section Sets
variable {N : ℕ} (skip : Fin N)

/-- From `n` on, but for `skip`; -/
def later (n : ℕ) : Finset (Fin N) := Finset.univ.filter fun u => n ≤ u.val ∧ u ≠ skip
/-- before `n`, but for `skip`. -/
def before (n : ℕ) : Finset (Fin N) := Finset.univ.filter fun u => u.val < n ∧ u ≠ skip

/-- Membership in the indices from `n` on. -/
theorem mem_later (n : ℕ) (u : Fin N) : u ∈ later skip n ↔ n ≤ u.val ∧ u ≠ skip := by simp [later]
/-- Membership in the indices before `n`. -/
theorem mem_before (n : ℕ) (u : Fin N) : u ∈ before skip n ↔ u.val < n ∧ u ≠ skip := by simp [before]

/-- The indices from `n` on are `n` and those after it. -/
theorem later_succ (n : ℕ) (hn : n < N) (h : (⟨n, hn⟩ : Fin N) ≠ skip) : later skip n = insert ⟨n, hn⟩ (later skip (n + 1)) := by
  ext u; rw [Finset.mem_insert, mem_later, mem_later]
  constructor
  · rintro ⟨h1, h2⟩
    by_cases e : u.val = n
    · exact .inl (Fin.ext e)
    · exact .inr ⟨by omega, h2⟩
  · rintro (rfl | ⟨h1, h2⟩)
    · exact ⟨le_rfl, h⟩
    · exact ⟨by omega, h2⟩
/-- An index is not after itself. -/
theorem later_notMem (n : ℕ) (hn : n < N) : (⟨n, hn⟩ : Fin N) ∉ later skip (n + 1) := by
  rw [mem_later]; rintro ⟨h, -⟩; exact absurd h (by simp)
/-- At the skipped index nothing is taken off. -/
theorem later_skip (n : ℕ) (hn : n < N) (h : (⟨n, hn⟩ : Fin N) = skip) : later skip n = later skip (n + 1) := by
  ext u; rw [mem_later, mem_later]
  constructor
  · rintro ⟨h1, h2⟩
    refine ⟨?_, h2⟩
    by_contra h3
    exact h2 ((Fin.ext (by show u.val = n; omega)).trans h)
  · rintro ⟨h1, h2⟩; exact ⟨by omega, h2⟩
/-- From zero on: every index but the skipped one. -/
theorem later_zero : later skip 0 = Finset.univ.erase skip := by
  ext u; rw [mem_later, Finset.mem_erase]; simp
/-- From the end on: none. -/
theorem later_top : later skip N = ∅ := by
  ext u; rw [mem_later]; simp
/-- The indices up to `n` are `n` and those before it. -/
theorem before_succ (n : ℕ) (hn : n < N) (h : (⟨n, hn⟩ : Fin N) ≠ skip) : before skip (n + 1) = insert ⟨n, hn⟩ (before skip n) := by
  ext u; rw [Finset.mem_insert, mem_before, mem_before]
  constructor
  · rintro ⟨h1, h2⟩
    by_cases e : u.val = n
    · exact .inl (Fin.ext e)
    · exact .inr ⟨by omega, h2⟩
  · rintro (rfl | ⟨h1, h2⟩)
    · exact ⟨by simp, h⟩
    · exact ⟨by omega, h2⟩
/-- An index is not before itself. -/
theorem before_notMem (n : ℕ) (hn : n < N) : (⟨n, hn⟩ : Fin N) ∉ before skip n := by
  rw [mem_before]; rintro ⟨h, -⟩; exact absurd h (by simp)
/-- At the skipped index nothing is added. -/
theorem before_skip (n : ℕ) (hn : n < N) (h : (⟨n, hn⟩ : Fin N) = skip) : before skip (n + 1) = before skip n := by
  ext u; rw [mem_before, mem_before]
  constructor
  · rintro ⟨h1, h2⟩
    refine ⟨?_, h2⟩
    by_contra h3
    exact h2 ((Fin.ext (by show u.val = n; omega)).trans h)
  · rintro ⟨h1, h2⟩; exact ⟨by omega, h2⟩
/-- Before zero: none. -/
theorem before_zero : before skip 0 = ∅ := by
  ext u; rw [mem_before]; simp
/-- Before the end: every index but the skipped one. -/
theorem before_top : before skip N = Finset.univ.erase skip := by
  ext u; rw [mem_before, Finset.mem_erase]; simp

end Sets

/-! ## The cells -/

/-- What a semaphore is for. -/
inductive Cls where
  | bar | xs | xr | sd (u : Fin 16) | rv (r : Fin 16) | oth

/-- The semaphores by number. -/
def cls : SemLoc sig → Cls
  | .reg _ => .bar
  | .dma s => if s.val < 6 then .oth else if s.val = 6 then .xs else if s.val = 7 then .xr
      else if s.val < 24 then .sd ⟨(s.val - 8) % 16, Nat.mod_lt _ (by decide)⟩ else .rv ⟨(s.val - 24) % 16, Nat.mod_lt _ (by decide)⟩

/-- The barrier counter of a device. -/
abbrev barC (d : Dev nD) : GSem nD τ sig := ((d : Thread nD τ), .reg barS)
/-- A transfer counter of a device. -/
abbrev dmaC (d : Dev nD) (s : DmaSem sig) : GSem nD τ sig := ((d : Thread nD τ), .dma s)

/-- The barrier's class. -/
theorem cls_bar : cls (.reg barS) = .bar := rfl
/-- The class of the counter of the rows' send. -/
theorem cls_xs : cls (.dma xsS) = .xs := rfl
/-- The class of the counter of the rows' arrival. -/
theorem cls_xr : cls (.dma xrS) = .xr := rfl
/-- The class of a send counter. -/
theorem cls_sd (u : Fin 16) : cls (.dma (sdS u)) = .sd u := by
  have hu := u.isLt
  unfold cls sdS
  dsimp only
  rw [if_neg (by omega), if_neg (by omega), if_neg (by omega), if_pos (by omega)]
  exact congrArg Cls.sd (Fin.ext (by show (8 + u.val - 8) % 16 = u.val; omega))
/-- The class of an arrival counter. -/
theorem cls_rv (r : Fin 16) : cls (.dma (rvS r)) = .rv r := by
  have hr := r.isLt
  unfold cls rvS
  dsimp only
  rw [if_neg (by omega), if_neg (by omega), if_neg (by omega), if_neg (by omega)]
  exact congrArg Cls.rv (Fin.ext (by show (24 + r.val - 24) % 16 = r.val; omega))

/-- What a transfer of a half of the pair buffer credits, and of a slot. -/
def N1 : ℕ := (hM ![0, 0] (half_inb 0)).view.dmaCredit
/-- What a transfer of a tile counts. -/
def N2 : ℕ := (rM ![0, 0, 0] (slot_inb 0)).view.dmaCredit
/-- A transfer of rows counts something. -/
theorem N1_pos : 0 < N1 := View.dmaCredit_pos _ (by decide)
/-- A transfer of a tile counts something. -/
theorem N2_pos : 0 < N2 := View.dmaCredit_pos _ (by decide)
/-- Every transfer of rows counts the same. -/
theorem hM_credit (off : Fin 2 → ℕ) (h : ∀ a, off a + S128x4096.size a ≤ S256x4096.size a) : (hM off h).view.dmaCredit = N1 := rfl
/-- Every transfer into a receive slot counts the same. -/
theorem rM_credit (off : Fin 3 → ℕ) (h : ∀ a, off a + S1x256x256.size a ≤ S16x256x256.size a) : (rM off h).view.dmaCredit = N2 := rfl
/-- Every transfer out of a send slot counts the same. -/
theorem sM_credit (off : Fin 3 → ℕ) (h : ∀ a, off a + S1x256x256.size a ≤ S16x256x256.size a) : (sM off h).view.dmaCredit = N2 := by
  unfold N2; rfl

/-! ## The schedule -/

section Sched

variable (I : In F)

/-- Who pays the one round of a cell of `c`; -/
def dut (c : Dev nD) : Cls → Finset (Dev nD)
  | .bar => Finset.univ.erase c
  | .xs => {c}
  | .xr => {partner c}
  | .sd u => if u = 0 then ∅ else {c}
  | .rv r => if r = aC c then ∅ else {mk r (bC c)}
  | .oth => ∅
/-- A later send counter is paid by its own device. -/
theorem dut_sd (c : Dev nD) (u : Fin 16) (hu : u ≠ 0) : dut c (.sd u) = {c} := if_neg hu
/-- The first send counter is paid by nobody. -/
theorem dut_sd0 (c : Dev nD) : dut c (.sd 0) = ∅ := by show (if (0 : Fin 16) = 0 then ∅ else {c}) = ∅; exact if_pos rfl
/-- An arrival counter is paid by the sender of its slot. -/
theorem dut_rv (c : Dev nD) (r : Fin 16) (hr : r ≠ aC c) : dut c (.rv r) = {mk r (bC c)} := if_neg hr
/-- A device's own slot is paid by nobody. -/
theorem dut_rv0 (c : Dev nD) : dut c (.rv (aC c)) = ∅ := if_pos rfl
/-- how much each; -/
def amt : Cls → ℕ
  | .bar => 1
  | .xs | .xr => N1
  | _ => N2
/-- Every payment is of something. -/
theorem amt_pos (k : Cls) : 0 < amt k := by
  cases k <;> first | exact Nat.one_pos | exact N1_pos | exact N2_pos

/-- what a device of the column hands over at the barrier, -/
def slotPay (d c : Dev nD) : sProp 𝕄 := iprop((∃ f, rPt d (aC c) f) ∗ reached ER (dmaC d (rvS (aC c))) 0)
/-- what the partner does, -/
def halfPay (d c : Dev nD) : sProp 𝕄 := iprop((∃ f, hPt d (bC c) f) ∗ reached ER (dmaC d xrS) 0)
/-- and so any device `d` with its unit on `c`'s barrier cell. -/
def barPay (d c : Dev nD) : sProp 𝕄 :=
  iprop((if bC d = bC c then slotPay d c else iprop(emp)) ∗ (if d = partner c then halfPay d c else iprop(emp)))

/-- What comes with the unit of duty `d`. -/
def pay (c d : Dev nD) : Cls → sProp 𝕄
  | .bar => barPay d c
  | .xs => hPt c (bC c) (PAIR I c)
  | .xr => hPt c (1 - bC c) (PAIR I c)
  | .sd u => iprop(∃ f, sPt c u f)
  | .rv r => rPt c r (RBc I c)
  | .oth => iprop(emp)

/-- One round per cell. -/
def exRd : Rounds.Schedule (GSem nD τ sig) (Dev nD) 𝕄 where
  duties g r := if r = 0 ∧ g.1.2 = .tc then dut g.1.1 (cls g.2) else ∅
  unitless _ := False
  amount g _ _ := amt (cls g.2)
  payload g _ d := pay I g.1.1 d (cls g.2)
  amount_pos g _ _ _ := amt_pos _

/-- A lent slot can be stored with a counter. -/
instance slotPay_storable (d c : Dev nD) : BI.Storable (upEmb : UEmb _ 𝕄) (slotPay (F := F) d c) := by unfold slotPay; infer_instance
/-- A lent half can be stored with a counter. -/
instance halfPay_storable (d c : Dev nD) : BI.Storable (upEmb : UEmb _ 𝕄) (halfPay (F := F) d c) := by unfold halfPay; infer_instance
/-- What the barrier's signal lends can be stored with it. -/
instance barPay_storable (d c : Dev nD) : BI.Storable (upEmb : UEmb _ 𝕄) (barPay (F := F) d c) := by
  unfold barPay
  split <;> split <;> infer_instance
/-- Every payment's payload can be stored. -/
instance exRd_payload_storable (g : GSem nD τ sig) (r : ℕ) (d : Dev nD) :
    BI.Storable (upEmb : UEmb _ 𝕄) ((exRd I).payload g r d) := by
  show BI.Storable upEmb (pay I g.1.1 d (cls g.2))
  generalize cls g.2 = k
  cases k <;> (unfold pay; infer_instance)

/-- Who pays a counter in the one round. -/
theorem duties_eq (c : Dev nD) (sm : SemLoc sig) : (exRd I).duties ((c : Thread nD τ), sm) 0 = dut c (cls sm) := by dsimp only [exRd]; exact if_pos ⟨rfl, rfl⟩
/-- Nobody pays in a later round. -/
theorem duties_later (g : GSem nD τ sig) : ∀ r, 1 ≤ r → (exRd I).duties g r = ∅ :=
  fun r hr => by dsimp only [exRd]; exact if_neg fun h => by omega
/-- How much each payment counts. -/
theorem amount_eq (g : GSem nD τ sig) (r : ℕ) (d : Dev nD) : (exRd I).amount g r d = amt (cls g.2) := rfl
/-- What each payment hands over. -/
theorem payload_eq (c : Dev nD) (sm : SemLoc sig) (r : ℕ) (d : Dev nD) : (exRd I).payload ((c : Thread nD τ), sm) r d = pay I c d (cls sm) := rfl

/-- What a counter expects in its round. -/
theorem expect_eq (c : Dev nD) (sm : SemLoc sig) : (exRd I).expect ((c : Thread nD τ), sm) 0 = (dut c (cls sm)).card * amt (cls sm) := by
  unfold Schedule.expect Schedule.amountOf
  rw [duties_eq]
  simp only [amount_eq]
  rw [Finset.sum_const, smul_eq_mul]

/-- What the waiter takes at the end of the round. -/
theorem rest_eq (c : Dev nD) (sm : SemLoc sig) :
    bigSep ((exRd I).duties ((c : Thread nD τ), sm) 0 \ ∅) (fun d => (exRd I).payload ((c : Thread nD τ), sm) 0 d)
      = bigSep (dut c (cls sm)) fun d => pay I c d (cls sm) := by
  rw [Finset.sdiff_empty, duties_eq]; rfl

/-- The barrier expects 31 signals. -/
theorem expect_bar (c : Dev nD) : (exRd I).expect (barC c) 0 = 31 := by
  rw [expect_eq, cls_bar]
  show (Finset.univ.erase c).card * 1 = 31
  rw [Finset.card_erase_of_mem (Finset.mem_univ _)]; rfl
/-- The waiter on the barrier takes what all the others lend. -/
theorem rest_bar (c : Dev nD) : bigSep ((exRd I).duties (barC c) 0 \ ∅) (fun d => (exRd I).payload (barC c) 0 d)
    = bigSep (Finset.univ.erase c) fun d => barPay d c := by rw [rest_eq, cls_bar]; rfl
/-- The send of the rows expects one transfer. -/
theorem expect_xs (c : Dev nD) : (exRd I).expect (dmaC c xsS) 0 = N1 := by
  rw [expect_eq, cls_xs]; show 1 * N1 = N1; exact Nat.one_mul _
/-- The waiter on it takes its half back. -/
theorem rest_xs (c : Dev nD) : bigSep ((exRd I).duties (dmaC c xsS) 0 \ ∅) (fun d => (exRd I).payload (dmaC c xsS) 0 d)
    = hPt c (bC c) (PAIR I c) := by rw [rest_eq, cls_xs]; exact bigSep_singleton
/-- The arrival of the rows expects one transfer. -/
theorem expect_xr (c : Dev nD) : (exRd I).expect (dmaC c xrS) 0 = N1 := by
  rw [expect_eq, cls_xr]; show 1 * N1 = N1; exact Nat.one_mul _
/-- The waiter on it takes the other half, filled. -/
theorem rest_xr (c : Dev nD) : bigSep ((exRd I).duties (dmaC c xrS) 0 \ ∅) (fun d => (exRd I).payload (dmaC c xrS) 0 d)
    = hPt c (1 - bC c) (PAIR I c) := by rw [rest_eq, cls_xr]; exact bigSep_singleton
/-- The send of a tile expects one transfer. -/
theorem expect_sd (c : Dev nD) (u : Fin 16) (hu : u ≠ 0) : (exRd I).expect (dmaC c (sdS u)) 0 = N2 := by
  rw [expect_eq, cls_sd, dut_sd c u hu]; show 1 * N2 = N2; exact Nat.one_mul _
/-- The waiter on it takes its send slot back. -/
theorem rest_sd (c : Dev nD) (u : Fin 16) (hu : u ≠ 0) :
    bigSep ((exRd I).duties (dmaC c (sdS u)) 0 \ ∅) (fun d => (exRd I).payload (dmaC c (sdS u)) 0 d) = iprop(∃ f, sPt c u f) := by
  rw [rest_eq, cls_sd, dut_sd c u hu]; exact bigSep_singleton
/-- The arrival of a tile expects one transfer. -/
theorem expect_rv (c : Dev nD) (r : Fin 16) (hr : r ≠ aC c) : (exRd I).expect (dmaC c (rvS r)) 0 = N2 := by
  rw [expect_eq, cls_rv, dut_rv c r hr]; show 1 * N2 = N2; exact Nat.one_mul _
/-- The waiter on it takes the slot, filled. -/
theorem rest_rv (c : Dev nD) (r : Fin 16) (hr : r ≠ aC c) :
    bigSep ((exRd I).duties (dmaC c (rvS r)) 0 \ ∅) (fun d => (exRd I).payload (dmaC c (rvS r)) 0 d) = rPt c r (RBc I c) := by
  rw [rest_eq, cls_rv, dut_rv c r hr]; exact bigSep_singleton

/-- The first send counter is never paid. -/
theorem duties_none_sd (c : Dev nD) : ∀ r, 0 ≤ r → (exRd I).duties (dmaC c (sdS 0)) r = ∅ := fun r _ => by
  rcases Nat.eq_zero_or_pos r with rfl | h
  · rw [duties_eq, cls_sd]; exact dut_sd0 c
  · exact duties_later I _ r h
/-- A device's own arrival counter is never paid. -/
theorem duties_none_rv (c : Dev nD) : ∀ r, 0 ≤ r → (exRd I).duties (dmaC c (rvS (aC c))) r = ∅ := fun r _ => by
  rcases Nat.eq_zero_or_pos r with rfl | h
  · rw [duties_eq, cls_rv]; exact dut_rv0 c
  · exact duties_later I _ r h

end Sched

/-! ## What is owed, and the levels -/

/-- The barrier units that `c` still owes from device `n` on; -/
def Obar (c : Dev nD) (n : ℕ) : CellTallies nD τ sig Unit := ∑ d ∈ later c n, tallyAt (barC d) () 1
/-- the receive credits of the tiles from grid point `t` on; -/
def Orv (c : Dev nD) (t : ℕ) : CellTallies nD τ sig Unit := ∑ u ∈ later (0 : Fin 16) t, tallyAt (dmaC (rcv c u) (rvS (aC c))) () N2
/-- with the partner's receive credit; -/
def Oxr (c : Dev nD) : CellTallies nD τ sig Unit := Orv c 0 + tallyAt (dmaC (partner c) xrS) () N1
/-- and all of it, at launch. -/
def O₀ (c : Dev nD) : CellTallies nD τ sig Unit := Oxr c + Obar c 0

/-- The levels of the counters are kept for the tensor cores only. -/
def L (g : GSem nD τ sig) : Finset Unit := if g.1.2 = .tc then {()} else ∅
/-- Staging cells, the barrier, the pair exchange, the tiles: in this order. -/
def lvk : Cls → ℕ
  | .oth => 0
  | .bar => 1
  | .xs | .xr => 2
  | _ => 3
/-- The level of a counter is its class's. -/
def lv (g : GSem nD τ sig) (_ : Unit) : ℕ := lvk (cls g.2)

/-- Elsewhere there are none. -/
theorem L_of_ne (g : GSem nD τ sig) (h : g.1.2 ≠ .tc) : L g = ∅ := if_neg h
/-- On a tensor core there is one. -/
theorem L_tc (c : Dev nD) (sm : SemLoc sig) : L ((c : Thread nD τ), sm) = {()} := if_pos rfl

/-- A sum of tallies is positive only where one of them is. -/
theorem sum_pos {A : Type} [DecidableEq A] (S : Finset A) (f : A → CellTallies nD τ sig Unit) (g : GSem nD τ sig) (u : Unit)
    (h : 0 < (∑ a ∈ S, f a) g u) : ∃ a ∈ S, 0 < f a g u := by
  induction S using Finset.induction_on with
  | empty => exact absurd h (Nat.lt_irrefl 0)
  | insert a S ha ih =>
    rw [Finset.sum_insert ha] at h
    have h' : 0 < f a g u + (∑ a ∈ S, f a) g u := h
    rcases Nat.eq_zero_or_pos (f a g u) with e | e
    · rw [e, Nat.zero_add] at h'
      obtain ⟨b, hb, hp⟩ := ih h'
      exact ⟨b, Finset.mem_insert_of_mem hb, hp⟩
    · exact ⟨a, Finset.mem_insert_self _ _, e⟩

/-- The tiles owed are of level three or more. -/
theorem Orv_pos (c : Dev nD) (t : ℕ) (g : GSem nD τ sig) (u : Unit) (h : 0 < Orv c t g u) : g.1.2 = .tc ∧ 3 ≤ lv g u := by
  obtain ⟨a, -, h⟩ := sum_pos _ _ g u h
  obtain ⟨rfl, -⟩ := Pipeline.tallyAt_pos h
  exact ⟨rfl, by unfold lv; rw [cls_rv]; exact le_rfl⟩
/-- With the rows owed, of level two or more. -/
theorem Oxr_pos (c : Dev nD) (g : GSem nD τ sig) (u : Unit) (h : 0 < Oxr c g u) : g.1.2 = .tc ∧ 2 ≤ lv g u := by
  have h' : 0 < Orv c 0 g u + tallyAt (dmaC (partner c) xrS) () N1 g u := h
  rcases Nat.eq_zero_or_pos (Orv c 0 g u) with e | e
  · rw [e, Nat.zero_add] at h'
    obtain ⟨rfl, -⟩ := Pipeline.tallyAt_pos h'
    exact ⟨rfl, by unfold lv; rw [cls_xr]; exact le_rfl⟩
  · exact ⟨(Orv_pos c 0 g u e).1, le_trans (by decide) (Orv_pos c 0 g u e).2⟩
/-- With the barrier's signals owed, of level one or more. -/
theorem O₀_pos (c : Dev nD) (g : GSem nD τ sig) (u : Unit) (h : 0 < O₀ c g u) : g.1.2 = .tc ∧ 1 ≤ lv g u := by
  have h' : 0 < Oxr c g u + Obar c 0 g u := h
  rcases Nat.eq_zero_or_pos (Oxr c g u) with e | e
  · rw [e, Nat.zero_add] at h'
    obtain ⟨a, -, h⟩ := sum_pos _ _ g u h'
    obtain ⟨rfl, -⟩ := Pipeline.tallyAt_pos h
    exact ⟨rfl, by unfold lv; rw [cls_bar]; exact le_rfl⟩
  · exact ⟨(Oxr_pos c g u e).1, le_trans (by decide) (Oxr_pos c g u e).2⟩

/-- A wait is allowed below everything owed. -/
theorem mayWait_lt (c : Dev nD) (sm : SemLoc sig) (n : ℕ) (O : CellTallies nD τ sig Unit) (hn : lvk (cls sm) < n)
    (hO : ∀ g u, 0 < O g u → g.1.2 = .tc ∧ n ≤ lv g u) : (levAts L lv : sProp 𝕄) ⊢ MayWait (c : Thread nD τ) sm () O :=
  MayOwe.of_cut (L := L) (lev := lv) (lvk (cls sm)) (fun p hp => by rw [Finset.mem_singleton.mp hp, L_tc]; exact Finset.mem_singleton_self _)
    (fun g u hg => by unfold L; rw [if_pos (hO g u hg).1]; exact Finset.mem_singleton.mpr rfl)
    (fun p hp => by rw [Finset.mem_singleton.mp hp]; exact le_rfl)
    (fun g u hg => lt_of_lt_of_le hn (hO g u hg).2)

/-! ## The cells' set -/

/-- A device's own transfer semaphores. -/
abbrev OwnK : Type := Fin 2 ⊕ (Fin 16 ⊕ Fin 16)
/-- A device's own counters. -/
def osem : OwnK → SemLoc sig
  | .inl 0 => .dma xsS
  | .inl 1 => .dma xrS
  | .inr (.inl u) => .dma (sdS u)
  | .inr (.inr r) => .dma (rvS r)

/-- All barrier counters. -/
def Sbar : Finset (GSem nD τ sig) := Finset.univ.image fun d : Dev nD => barC d
/-- All transfer counters. -/
def Sdma : Finset (GSem nD τ sig) := Finset.univ.image fun p : Dev nD × OwnK => ((p.1 : Thread nD τ), osem p.2)

/-- All the cells. -/
def Cells : Finset (GSem nD τ sig) := Sbar ∪ Sdma

/-- A barrier counter is one of the exchange's. -/
theorem bar_mem (d : Dev nD) : barC d ∈ Cells := Finset.mem_union_left _ (Finset.mem_image_of_mem _ (Finset.mem_univ d))
/-- A device's own counter is one of the exchange's. -/
theorem own_mem (d : Dev nD) (k : OwnK) : ((d : Thread nD τ), osem k) ∈ Cells :=
  Finset.mem_union_right _ (Finset.mem_image.mpr ⟨(d, k), Finset.mem_univ _, rfl⟩)
/-- The counter of the rows' send is one of the exchange's. -/
theorem xs_mem (d : Dev nD) : dmaC d xsS ∈ Cells := own_mem d (.inl 0)
/-- The counter of the rows' arrival is one of the exchange's. -/
theorem xr_mem (d : Dev nD) : dmaC d xrS ∈ Cells := own_mem d (.inl 1)
/-- A send counter is one of the exchange's. -/
theorem sd_mem (d : Dev nD) (u : Fin 16) : dmaC d (sdS u) ∈ Cells := own_mem d (.inr (.inl u))
/-- An arrival counter is one of the exchange's. -/
theorem rv_mem (d : Dev nD) (r : Fin 16) : dmaC d (rvS r) ∈ Cells := own_mem d (.inr (.inr r))

/-- The records every device may consult: all the cells' invariants under one map of names, that every barrier cell is in
    use, and the levels. -/
def recs (I : In F) (K : GSem nD τ sig → ℕ) : sProp 𝕄 :=
  iprop((bigSep (Cells) fun g => cellInv ER (exRd I) (K g) g) ∗ (bigSep Sbar fun g => reached ER g 0) ∗ levAts L lv)

/-- The records may be used any number of times. -/
instance recs_persistent (I : In F) (K : GSem nD τ sig → ℕ) : BI.Persistent (recs I K) := by unfold recs; infer_instance

/-- The records hold each counter's protocol. -/
theorem recs_inv (I : In F) (K : GSem nD τ sig → ℕ) {g : GSem nD τ sig} (hg : g ∈ Cells) : recs I K ⊢ cellInv ER (exRd I) (K g) g := by
  have h : (bigSep Cells fun g => cellInv ER (exRd I) (K g) g : sProp 𝕄) ⊢ cellInv ER (exRd I) (K g) g := bigSep_elim hg
  unfold recs
  iintro ⟨H, -, -⟩
  iapply h; iexact H
/-- The records hold that each barrier is in its first round. -/
theorem recs_reached (I : In F) (K : GSem nD τ sig → ℕ) (d : Dev nD) : recs I K ⊢ reached ER (barC d) 0 := by
  have h : (bigSep Sbar fun g => reached ER g 0 : sProp 𝕄) ⊢ reached ER (barC d) 0 :=
    bigSep_elim (Finset.mem_image_of_mem (fun d : Dev nD => barC d) (Finset.mem_univ d))
  unfold recs
  iintro ⟨-, H, -⟩
  iapply h; iexact H
/-- The records hold the levels. -/
theorem recs_lev (I : In F) (K : GSem nD τ sig → ℕ) : recs I K ⊢ levAts L lv := by
  unfold recs
  iintro ⟨-, -, H⟩; iexact H

/-- A cell past its round, closed: its counter, at zero. -/
theorem close (I : In F) (K : GSem nD τ sig → ℕ) {g : GSem nD τ sig} (hg : g ∈ Cells) :
    iprop(recs I K ∗ atPos ER g 1 ∅ 0) ⊢ (|={Set.univ}=> semVal g 0 : sProp 𝕄) :=
  (sep_mono_left (recs_inv I K hg)).trans (Rounds.cell_close ER (exRd I) (Set.mem_univ (K g)) id (duties_later I g))
/-- A cell nobody pays, closed. -/
theorem close0 (I : In F) (K : GSem nD τ sig → ℕ) {g : GSem nD τ sig} (hg : g ∈ Cells) (h : ∀ r, 0 ≤ r → (exRd I).duties g r = ∅) :
    iprop(recs I K ∗ atPos ER g 0 ∅ 0) ⊢ (|={Set.univ}=> semVal g 0 : sProp 𝕄) :=
  (sep_mono_left (recs_inv I K hg)).trans (Rounds.cell_close ER (exRd I) (Set.mem_univ (K g)) id h)

/-- One factor of a separating product, and the rest. -/
theorem bigSep_at {J : Type} [DecidableEq J] (s : Finset J) (i : J) (hi : i ∈ s) (Φ : J → sProp 𝕄) :
    bigSep s (fun j => if j = i then Φ j else iprop(emp)) = Φ i := by
  have e := bigSep_filter s (· = i) Φ
  rw [Finset.filter_eq' s i, if_pos hi, bigSep_singleton] at e
  exact e.symm

/-- The devices' handovers at the barrier, sorted: slots of the 15 others of the column, and the partner's half. -/
theorem reidx (c : Dev nD) (X : Dev nD → sProp 𝕄) (Y : Dev nD → sProp 𝕄) (hX : ∀ d, bC d = bC c ↔ ∃ u, d = rcv c u) :
    bigSep (Finset.univ.erase c) (fun d => iprop((if bC d = bC c then X d else iprop(emp)) ∗ (if d = partner c then Y d else iprop(emp))))
      = iprop(bigSep (Finset.univ.erase (0 : Fin 16)) (fun u => X (rcv c u)) ∗ Y (partner c)) := by
  rw [bigSep_sep', bigSep_at _ (partner c) (Finset.mem_erase.mpr ⟨partner_ne c, Finset.mem_univ _⟩)]
  have hset : (Finset.univ.erase c).filter (fun d => bC d = bC c) = (Finset.univ.erase (0 : Fin 16)).image (rcv c) := by
    ext d
    rw [Finset.mem_filter, Finset.mem_erase, Finset.mem_image]
    constructor
    · rintro ⟨⟨h1, -⟩, h2⟩
      obtain ⟨u, rfl⟩ := (hX d).mp h2
      exact ⟨u, Finset.mem_erase.mpr ⟨fun h => h1 (by rw [h, rcv_zero]), Finset.mem_univ _⟩, rfl⟩
    · rintro ⟨u, hu, rfl⟩
      exact ⟨⟨rcv_ne c u (Finset.ne_of_mem_erase hu), Finset.mem_univ _⟩, bC_rcv c u⟩
  have e := bigSep_filter (Finset.univ.erase c) (fun d => bC d = bC c) X
  rw [hset, bigSep_image_of_injOn (fun u _ v _ h => rcv_inj c u v h)] at e
  rw [e]
  rfl

/-- The devices of a column are the receivers of any device in it. -/
theorem col_iff (c : Dev nD) : ∀ d, bC d = bC c ↔ ∃ u, d = rcv c u := by
  intro d; constructor
  · intro h
    refine ⟨aC d - aC c, ?_⟩
    unfold rcv
    rw [show aC c + (aC d - aC c) = aC d from by generalize aC c = a; generalize aC d = b; revert a b; decide, ← h, mk_ab]
  · rintro ⟨u, rfl⟩; exact bC_rcv c u

end Cert.Talk

end
-- ==== Proof.Steps.lean ====
/-
  One step of each kind that the body repeats, at any index.
-/
module

public import proofs.«01_k».proof.Proof.Sched
public import Idealize.ShloMosaic.Lib.Tactic

@[expose] public section

set_option synthInstance.maxSize 4096

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

/-- No named loop. -/
abbrev 𝒱₀ : Variants := Variants.none

/-- What a program run by device `c` needs. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- One member split off. -/
theorem big_insert {ι : Type} [DecidableEq ι] {S : Finset ι} {i : ι} (h : i ∉ S) {Φ : ι → sProp 𝕄} :
    bigSep (insert i S) Φ = iprop(Φ i ∗ bigSep S Φ) := bigSep_insert h

variable (I : In F) (K : GSem nD τ sig → ℕ) (c : Dev nD)

/-! ## The barrier's signals -/

/-- Before the signal to device `n`: what is owed, the duties and handovers still to deliver, the rest `R`. -/
def barI (n : ℕ) (W : Waits sig Unit) (R : sProp 𝕄) : sProp 𝕄 :=
  iprop(recs I K ∗ owes (c : Thread nD τ) (Oxr c + Obar c n) W
    ∗ (bigSep (later c n) fun d => iprop(dutyTok ER (barC d) 0 c ∗ barPay c d)) ∗ R)

/-- The signal to device `n`, if it is another. -/
theorem bar_step (n : ℕ) (hn : n < nD) (W : Waits sig Unit) (R : sProp 𝕄) (P : Prop) [Decidable P] (hP : P ↔ (⟨n, hn⟩ : Dev nD) ≠ c)
    (dv : P → Dev nD) (hdv : ∀ h, dv h = ⟨n, hn⟩) (Q : PUnit → sProp 𝕄) (h : barI I K c (n + 1) W R ⊢ Q ⟨⟩) :
    barI I K c n W R ⊢ WP c (if h : P then (do semSignalWord (dv h) barS 1#32; pure ⟨⟩) else pure ⟨⟩) Q := by
  by_cases hc : (⟨n, hn⟩ : Dev nD) = c
  · rw [dif_neg (fun hp => (hP.mp hp) hc), Prog.pure_eq_ret, WP, wp_ret]
    refine (BIBase.Entails.trans ?_ h).trans fupd_intro
    unfold barI Obar
    rw [later_skip c n hn hc]
  · rw [dif_pos (hP.mpr hc), hdv]
    simp only [semSignalWord, Prog.lift, Prog.bind_op, Prog.bind_ret, Prog.pure_eq_ret]
    have hO : Oxr c + Obar c n = (Oxr c + Obar c (n + 1)) + tallyAt (barC ⟨n, hn⟩) () 1 := by
      unfold Obar
      rw [later_succ c n hn hc, Finset.sum_insert (later_notMem c n hn), add_assoc, add_comm (tallyAt _ _ _)]
    unfold barI
    rw [later_succ c n hn hc, big_insert (later_notMem c n hn)]
    iintro ⟨#HR, HO, ⟨⟨Ht, Hp⟩, Hrest⟩, HX⟩
    iapply (Rounds.wp_signal 𝒱₀ ER (exRd I) (c : Thread nD τ) none (dst := ((⟨n, hn⟩ : Dev nD) : Thread nD τ)) (κ := K (barC ⟨n, hn⟩)) (d := c) (r := 0)
        (by rw [duties_eq, cls_bar]; exact Finset.mem_erase.mpr ⟨fun e => hc e.symm, Finset.mem_univ _⟩) (by rw [amount_eq]; rfl)
        () (Oxr c + Obar c (n + 1)) hO)
      $$ [HO Ht Hp]
    · isplitr; · iapply (recs_inv I K (bar_mem ⟨n, hn⟩)); iexact HR
      isplitl [HO]; · iexact HO
      isplitl [Ht]; · iexact Ht
      isplitl [Hp]; · rw [payload_eq, cls_bar, pay]; iexact Hp
      iapply (recs_reached I K ⟨n, hn⟩); iexact HR
    iintro HO
    rw [wp_ret]
    imodintro
    iapply h
    unfold barI
    isplitr; · iexact HR
    isplitl [HO]; · iexact HO
    isplitl [Hrest]; · iexact Hrest
    iexact HX

/-- The same before the rest `k` of a program. -/
theorem bar_then {α : Type} (n : ℕ) (hn : n < nD) (W : Waits sig Unit) (R : sProp 𝕄) (P : Prop) [Decidable P] (hP : P ↔ (⟨n, hn⟩ : Dev nD) ≠ c)
    (dv : P → Dev nD) (hdv : ∀ h, dv h = ⟨n, hn⟩) (k : Prog (TpuEff nD τ sig (Elt F) Λ₀ .tc) α) (Q : α → sProp 𝕄)
    (h : barI I K c (n + 1) W R ⊢ WP c k Q) :
    barI I K c n W R ⊢ WP c (if h : P then (semSignalWord (dv h) barS 1#32 >>= fun _ => k) else k) Q := by
  have e : (if h : P then (semSignalWord (dv h) barS 1#32 >>= fun _ => k) else k : Prog (TpuEff nD τ sig (Elt F) Λ₀ .tc) α)
      = ((if h : P then (do semSignalWord (dv h) barS 1#32; pure ⟨⟩) else pure ⟨⟩) >>= fun _ : PUnit.{1} => k) := by
    split <;> rfl
  rw [e]; unfold WP; rw [wp_bind]
  exact bar_step I K c n hn W R P hP dv hdv _ h

/-! ## The waits of the last point -/

/-- Before wait `n` of a family of waits for own cells `cell u`, `u ≠ skip`, that give `P u` back. -/
def waitI (cell : Fin 16 → DmaSem sig) (skip : Fin 16) (P : Fin 16 → sProp 𝕄) (n : ℕ) (R : sProp 𝕄) : sProp 𝕄 :=
  iprop(recs I K ∗ (∃ W, owes (c : Thread nD τ) 0 W)
    ∗ (bigSep (later skip n) fun u => iprop(cred (tallyAt (dmaC c (cell u)) () N2) ∗ atPos ER (dmaC c (cell u)) 0 ∅ 0))
    ∗ (bigSep (before skip n) fun u => iprop(atPos ER (dmaC c (cell u)) 1 ∅ 0 ∗ P u)) ∗ R)

/-- One wait of a loop over slots: it takes the slot's payload. -/
theorem wait_step (cell : Fin 16 → DmaSem sig) (skip : Fin 16) (Pay : Fin 16 → sProp 𝕄) (hmem : ∀ u, dmaC c (cell u) ∈ Cells)
    (hex : ∀ u, u ≠ skip → (exRd I).expect (dmaC c (cell u)) 0 = N2)
    (hrest : ∀ u, u ≠ skip → bigSep ((exRd I).duties (dmaC c (cell u)) 0 \ ∅) (fun d => (exRd I).payload (dmaC c (cell u)) 0 d) = Pay u)
    (n : ℕ) (hn : n < 16) (R : sProp 𝕄) (P : Prop) [Decidable P] (hP : P ↔ (⟨n, hn⟩ : Fin 16) ≠ skip)
    {sp sp' : Space} {s s' : Shape} {e e' : EltTy} (sem : DmaSem sig) (hsem : sem = cell ⟨n, hn⟩)
    (src : Memref sig .tc sp' s' e') (dst : Memref sig .tc sp s e) (hs : src.view.WordExact) (hd : dst.view.WordExact)
    (hcr : dst.view.dmaCredit = N2) (Q : PUnit → sProp 𝕄) (h : waitI I K c cell skip Pay (n + 1) R ⊢ Q ⟨⟩) :
    waitI I K c cell skip Pay n R ⊢ WP c (if h : P then (do Prog.lift (.waitDma2 sem src dst hs hd); pure ⟨⟩) else pure ⟨⟩) Q := by
  by_cases hc : (⟨n, hn⟩ : Fin 16) = skip
  · rw [dif_neg (fun hp => (hP.mp hp) hc), Prog.pure_eq_ret, WP, wp_ret]
    refine (BIBase.Entails.trans ?_ h).trans fupd_intro
    unfold waitI
    rw [later_skip skip n hn hc, before_skip skip n hn hc]
  · rw [dif_pos (hP.mpr hc)]
    simp only [Prog.lift, Prog.bind_op, Prog.bind_ret, Prog.pure_eq_ret]
    subst hsem
    unfold waitI
    rw [later_succ skip n hn hc, big_insert (later_notMem skip n hn)]
    iintro ⟨#HR, ⟨%W, HO⟩, ⟨⟨Hc, Hat⟩, Hrest⟩, Hpast, HX⟩
    iapply (Rounds.wp_wait_rest_token 𝒱₀ ER (exRd I) (c : Thread nD τ) none (κ := K (dmaC c (cell ⟨n, hn⟩)))
        (wpE_waitDma2_eq 𝒱₀ (c : Thread nD τ) none Set.univ) (Set.mem_univ _) () (O := 0) (W := W) (R := 0) (m := 0) (T := ∅)
        (by rw [Nat.zero_add, hex _ hc, hcr])) $$ [Hc HO Hat]
    · isplitr; · iapply (recs_inv I K (hmem ⟨n, hn⟩)); iexact HR
      isplitl [Hc]; · rw [hcr]; iexact Hc
      isplitl [HO]; · iexact HO
      isplitr; · rw [MayWait_zero]; iempintro
      iexact Hat
    iintro ⟨HO, Hat, -, Hpay⟩
    ihave Hp := (Entails.of_eq (hrest _ hc)) $$ Hpay
    rw [wp_ret]
    imodintro
    iapply h
    unfold waitI
    rw [before_succ skip n hn hc, big_insert (before_notMem skip n hn)]
    isplitr; · iexact HR
    isplitl [HO]; · iexists _; iexact HO
    isplitl [Hrest]; · iexact Hrest
    isplitr [HX]
    · isplitl [Hat Hp]
      · isplitl [Hat]; · iexact Hat
        iexact Hp
      iexact Hpast
    iexact HX

/-- The same before the rest `k` of a program. -/
theorem wait_then {α : Type} (cell : Fin 16 → DmaSem sig) (skip : Fin 16) (Pay : Fin 16 → sProp 𝕄) (hmem : ∀ u, dmaC c (cell u) ∈ Cells)
    (hex : ∀ u, u ≠ skip → (exRd I).expect (dmaC c (cell u)) 0 = N2)
    (hrest : ∀ u, u ≠ skip → bigSep ((exRd I).duties (dmaC c (cell u)) 0 \ ∅) (fun d => (exRd I).payload (dmaC c (cell u)) 0 d) = Pay u)
    (n : ℕ) (hn : n < 16) (R : sProp 𝕄) (P : Prop) [Decidable P] (hP : P ↔ (⟨n, hn⟩ : Fin 16) ≠ skip)
    {sp sp' : Space} {s s' : Shape} {e e' : EltTy} (sem : DmaSem sig) (hsem : sem = cell ⟨n, hn⟩)
    (src : Memref sig .tc sp' s' e') (dst : Memref sig .tc sp s e) (hs : src.view.WordExact) (hd : dst.view.WordExact)
    (hcr : dst.view.dmaCredit = N2) (k : Prog (TpuEff nD τ sig (Elt F) Λ₀ .tc) α) (Q : α → sProp 𝕄)
    (h : waitI I K c cell skip Pay (n + 1) R ⊢ WP c k Q) :
    waitI I K c cell skip Pay n R ⊢ WP c (if h : P then (Prog.lift (.waitDma2 sem src dst hs hd) >>= fun _ => k) else k) Q := by
  have e : (if h : P then (Prog.lift (.waitDma2 sem src dst hs hd) >>= fun _ => k) else k : Prog (TpuEff nD τ sig (Elt F) Λ₀ .tc) α)
      = ((if h : P then (do Prog.lift (.waitDma2 sem src dst hs hd); pure ⟨⟩) else pure ⟨⟩) >>= fun _ : PUnit.{1} => k) := by
    split <;> rfl
  rw [e]; unfold WP; rw [wp_bind]
  exact wait_step I K c cell skip Pay hmem hex hrest n hn R P hP sem hsem src dst hs hd hcr _ h

/-- A wait for a send. -/
theorem send_wait_step (n : ℕ) (hn : n < 16) (R : sProp 𝕄) (P : Prop) [Decidable P] (hP : P ↔ (⟨n, hn⟩ : Fin 16) ≠ 0)
    (off₅ : Fin 1 → ℕ) (h₅ : ∀ a, off₅ a + S1.size a ≤ S16.size a) (ho₅ : off₅ = ![n])
    (off off' : Fin 3 → ℕ) (h' : ∀ a, off' a + S1x256x256.size a ≤ S16x256x256.size a) (h₃ : ∀ a, off a + S1x256x256.size a ≤ S16x256x256.size a)
    (hs : (rM off' h').view.WordExact) (hd : (sM off h₃).view.WordExact)
    {α : Type} (k : Prog (TpuEff nD τ sig (Elt F) Λ₀ .tc) α) (Q : α → sProp 𝕄)
    (h : waitI I K c sdS 0 (fun u => iprop(∃ f, sPt c u f)) (n + 1) R ⊢ WP c k Q) :
    waitI I K c sdS 0 (fun u => iprop(∃ f, sPt c u f)) n R ⊢ WP c (if h : P then (Prog.lift
        (.waitDma2 ((cc0_scratch5.slice (Rect.unit (s := S16) off₅ S1.size h₅)).squeeze S_ squeezes_S1_S_).sem (rM off' h') (sM off h₃) hs hd) >>= fun _ => k) else k) Q :=
  wait_then I K c sdS 0 _ (sd_mem c) (expect_sd I c) (rest_sd I c) n hn R P hP _ (sdS_eq ⟨n, hn⟩ off₅ h₅ ho₅) _ _ hs hd (sM_credit _ _) k Q h

/-- A wait for a receive. -/
theorem recv_wait_step (n : ℕ) (hn : n < 16) (R : sProp 𝕄) (P : Prop) [Decidable P] (hP : P ↔ (⟨n, hn⟩ : Fin 16) ≠ aC c)
    (off₅ : Fin 1 → ℕ) (h₅ : ∀ a, off₅ a + S1.size a ≤ S16.size a) (ho₅ : off₅ = ![n])
    (off off' : Fin 3 → ℕ) (h' : ∀ a, off' a + S1x256x256.size a ≤ S16x256x256.size a) (h₃ : ∀ a, off a + S1x256x256.size a ≤ S16x256x256.size a)
    (hs : (sM off' h').view.WordExact) (hd : (rM off h₃).view.WordExact)
    {α : Type} (k : Prog (TpuEff nD τ sig (Elt F) Λ₀ .tc) α) (Q : α → sProp 𝕄)
    (h : waitI I K c rvS (aC c) (fun r => rPt c r (RBc I c)) (n + 1) R ⊢ WP c k Q) :
    waitI I K c rvS (aC c) (fun r => rPt c r (RBc I c)) n R ⊢ WP c (if h : P then (Prog.lift
        (.waitDma2 ((cc0_scratch6.slice (Rect.unit (s := S16) off₅ S1.size h₅)).squeeze S_ squeezes_S1_S_).sem (sM off' h') (rM off h₃) hs hd) >>= fun _ => k) else k) Q :=
  wait_then I K c rvS (aC c) _ (rv_mem c) (expect_rv I c) (rest_rv I c) n hn R P hP _ (rvS_eq ⟨n, hn⟩ off₅ h₅ ho₅) _ _ hs hd (rM_credit _ _) k Q h

end Cert.Talk

end
-- ==== Proof.Ops.lean ====
/-
  The rules for the operations that are not repeated, before the rest of a program.
-/
module

public import proofs.«01_k».proof.Proof.Steps

@[expose] public section

set_option synthInstance.maxSize 4096

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (c : Dev nD)

/-- A load, its value unused or read off what is held. -/
theorem load_rect {s : Shape} {e : EltTy} {cs : CoreSpace} {m : Memref sig .tc cs s e} {r : Rect s} {hl : m.view.LoadsAt r.toLoadRect} {α : Type}
    {k : (r.shape.Idx → Elt F e) → Prog (TpuEff nD τ sig (Elt F) Λ₀ .tc) α} {Q : α → sProp 𝕄}
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f)
      ⊢ iprop((((m.access r).loc (c : Thread nD τ) ↦[S]{q} f) -∗ WP c (k ((m.access r).read (Elt F) f)) Q)
        -∗ WP c (Prog.lift (.load m r.toLoadRect hl) >>= k) Q) :=
  wp_load_rect 𝒱₀ (c : Thread nD τ) none Set.univ hS

/-- A store over all of its rectangle. -/
theorem store_rect {s : Shape} {e : EltTy} {cs : CoreSpace} {m : Memref sig .tc cs s e} {r : Rect s} {w : r.shape.Idx → Elt F e}
    {hx : (m.access r).Stores Finset.univ} {hm : Finset.univ = Finset.univ ∨ ∀ a, r.stride a = 1} {α : Type}
    {k : PUnit.{1} → Prog (TpuEff nD τ sig (Elt F) Λ₀ .tc) α} {Q : α → sProp 𝕄}
    {S : Finset (Idx ((m.access r).loc (c : Thread nD τ)))} {f : Buf (Elt F) ((m.access r).loc (c : Thread nD τ))}
    (hS : (m.access r).set ⊆ S) :
    ((m.access r).loc (c : Thread nD τ) ↦[S]{fullShare} f)
      ⊢ iprop((((m.access r).loc (c : Thread nD τ) ↦[S]{fullShare} ((m.access r).write (Elt F) f w Finset.univ)) -∗ WP c (k ⟨⟩) Q)
        -∗ WP c (Prog.lift (.store m r w Finset.univ hx hm) >>= k) Q) :=
  wp_store 𝒱₀ (c : Thread nD τ) none Set.univ (by rw [View.setOn_univ]; exact hS)

/-- A rectangle at offset zero places an index at itself. -/
theorem unit_emb {s : Shape} (off : Fin s.rank → ℕ) (h0 : ∀ a, off a = 0) (h : ∀ a, off a + s.size a ≤ s.size a) (x : s.Idx) :
    (Rect.unit (s := s) off s.size h).emb x = x := by
  funext a
  exact Fin.ext (by show off a + 1 * (x a).val = (x a).val; rw [h0 a]; omega)

/-- A load at offset zero reads the whole of what is held. -/
theorem read_unit {s : Shape} {e : EltTy} {cs : CoreSpace} (m : Memref sig .tc cs s e) (off : Fin s.rank → ℕ) (h0 : ∀ a, off a = 0)
    (h : ∀ a, off a + s.size a ≤ s.size a) (f : m.view.ty.Contents (Elt F)) :
    (m.access (Rect.unit (s := s) off s.size h)).read (Elt F) f = m.view.read (Elt F) f := by
  funext x
  show m.view.read (Elt F) f ((Rect.unit (s := s) off s.size h).emb x) = m.view.read (Elt F) f x
  rw [unit_emb off h0 h x]

/-- All of what a memref names, loaded. -/
theorem load_owns {s : Shape} {e : EltTy} {cs : CoreSpace} {m : Memref sig .tc cs s e} {off : Fin s.rank → ℕ} (h0 : ∀ a, off a = 0)
    {h : ∀ a, off a + s.size a ≤ s.size a} {hl : m.view.LoadsAt (Rect.unit (s := s) off s.size h).toLoadRect} {α : Type}
    {k : (s.Idx → Elt F e) → Prog (TpuEff nD τ sig (Elt F) Λ₀ .tc) α} {Q : α → sProp 𝕄} {q : PosShare TreeShare} {X : s.Idx → Elt F e} :
    (owns (c : Thread nD τ) m q X : sProp 𝕄)
      ⊢ iprop((owns (c : Thread nD τ) m q X -∗ WP c (k X) Q)
        -∗ WP c (Prog.lift (.load m (Rect.unit (s := s) off s.size h).toLoadRect hl) >>= k) Q) := by
  unfold owns
  iintro ⟨%f, %hf, H⟩ Hk
  have e := (read_unit m off h0 h f).trans hf
  have g := load_rect c (m := m) (r := Rect.unit (s := s) off s.size h) (hl := hl) (k := k) (Q := Q) (q := q) (f := f) (S := m.view.set) (View.set_slice_subset _ _)
  rw [e] at g
  iapply g $$ H
  iintro H
  iapply Hk
  iexists f
  isplitr; · ipureintro; exact hf
  iexact H

/-- All of what a memref names, stored over. -/
theorem store_owns {s : Shape} {e : EltTy} {cs : CoreSpace} {m : Memref sig .tc cs s e} {off : Fin s.rank → ℕ} (h0 : ∀ a, off a = 0)
    {h : ∀ a, off a + s.size a ≤ s.size a} {w : s.Idx → Elt F e}
    {hx : (m.access (Rect.unit (s := s) off s.size h)).Stores Finset.univ} {hm : Finset.univ = Finset.univ ∨ ∀ a, (Rect.unit (s := s) off s.size h).stride a = 1} {α : Type}
    {k : PUnit.{1} → Prog (TpuEff nD τ sig (Elt F) Λ₀ .tc) α} {Q : α → sProp 𝕄} {X : s.Idx → Elt F e} :
    (owns (c : Thread nD τ) m fullShare X : sProp 𝕄)
      ⊢ iprop((owns (c : Thread nD τ) m fullShare w -∗ WP c (k ⟨⟩) Q)
        -∗ WP c (Prog.lift (.store m (Rect.unit (s := s) off s.size h) w Finset.univ hx hm) >>= k) Q) := by
  unfold owns
  iintro ⟨%f, %hf, H⟩ Hk
  iapply (store_rect c (m := m) (r := Rect.unit (s := s) off s.size h) (w := w) (hx := hx) (hm := hm) (k := k) (Q := Q) (f := f) (S := m.view.set) (View.set_slice_subset _ _)) $$ H
  iintro H
  iapply Hk
  iexists ((m.access (Rect.unit (s := s) off s.size h)).write (Elt F) f w Finset.univ)
  isplitr
  · ipureintro
    rw [← read_unit m off h0 h, View.read_write_univ]
  iexact H

/-- The one word of an SMEM memref. -/
theorem smem_owns {m : Memref sig .tc .smem S1 .f32} {r : Rect S1} {h1 : r.shape.numel = 1} {hp : EltTy.packing .f32 = 1} {α : Type}
    {k : F .f32 → Prog (TpuEff nD τ sig (Elt F) Λ₀ .tc) α} {Q : α → sProp 𝕄} {q : PosShare TreeShare} {X : S1.Idx → Elt F .f32} (i0 : S1.Idx) :
    (owns (c : Thread nD τ) m q X : sProp 𝕄)
      ⊢ iprop((owns (c : Thread nD τ) m q X -∗ WP c (k (X i0)) Q) -∗ WP c (smemLoad m r h1 hp >>= k) Q) := by
  unfold owns
  iintro ⟨%f, %hf, H⟩ Hk
  have hs : ∀ a b : S1.Idx, a = b := fun a b => by
    funext j
    have h3 : ∀ j, S1.size j = 1 := by decide
    have h1 : (a j).val < 1 := lt_of_lt_of_eq (a j).isLt (h3 j)
    have h2 : (b j).val < 1 := lt_of_lt_of_eq (b j).isLt (h3 j)
    exact Fin.ext (by omega)
  have g : ((m.access r).loc (c : Thread nD τ) ↦[m.view.set]{q} f : sProp 𝕄)
      ⊢ iprop((((m.access r).loc (c : Thread nD τ) ↦[m.view.set]{q} f) -∗ WP c (k (X i0)) Q) -∗ WP c (smemLoad m r h1 hp >>= k) Q) := by
    have g' := load_rect c (m := m) (r := r) (hl := View.loadsAt_rect (View.loads_smem_one hp h1))
      (k := fun g => k (g (Shape.Idx.first (h1.symm ▸ Nat.one_pos)))) (Q := Q) (q := q) (f := f) (S := m.view.set) (View.set_slice_subset _ _)
    have e : (m.access r).read (Elt F) f (Shape.Idx.first (h1.symm ▸ Nat.one_pos)) = X i0 := by
      show m.view.read (Elt F) f (r.emb _) = X i0
      rw [hf, hs (r.emb _) i0]
    simp only [e] at g'
    exact g'
  iapply g $$ H
  iintro H
  iapply Hk
  iexists f
  isplitr; · ipureintro; exact hf
  iexact H

end Cert.Talk

end
-- ==== Proof.Talk.lean ====
/-
  The steps of the exchange that are not repeated: the barrier's wait, the two kinds of transfer, the waits of the pair
  exchange.
-/
module

public import proofs.«01_k».proof.Proof.Ops

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)

/-- The wait at the barrier: the other devices' handovers. -/
theorem bar_wait {α : Type} {k : PUnit.{1} → Prog (TpuEff nD τ sig (Elt F) Λ₀ .tc) α} {Q : α → sProp 𝕄} {W : Waits sig Unit} :
    iprop(recs I K ∗ owes (c : Thread nD τ) (Oxr c) W ∗ cred (tallyAt (barC c) () 31) ∗ atPos ER (barC c) 0 ∅ 0)
      ⊢ iprop((((∃ W, owes (c : Thread nD τ) (Oxr c) W) ∗ atPos ER (barC c) 1 ∅ 0 ∗ bigSep (Finset.univ.erase c) (fun d => barPay d c)) -∗ WP c (k ⟨⟩) Q)
        -∗ WP c (semWaitWord barS 31#32 >>= k) Q) := by
  iintro ⟨#HR, HO, Hc, Hat⟩ Hk
  have hM : (recs I K : sProp 𝕄) ⊢ MayWait (c : Thread nD τ) (.reg barS) () (Oxr c) :=
    BIBase.Entails.trans (recs_lev I K) (mayWait_lt c (.reg barS) 2 (Oxr c) (by rw [cls_bar]; decide) (Oxr_pos c))
  iapply (Rounds.wp_wait_rest_token 𝒱₀ ER (exRd I) (c : Thread nD τ) none (κ := K (barC c)) (k := k)
      (wpE_semWait_eq 𝒱₀ (c : Thread nD τ) none Set.univ) (Set.mem_univ _) () (O := Oxr c) (W := W) (R := 0) (m := 0) (T := ∅)
      (by rw [expect_bar]; rfl)) $$ [Hc HO Hat]
  · isplitr; · iapply (recs_inv I K (bar_mem c)); iexact HR
    isplitl [Hc]; · iexact Hc
    isplitl [HO]; · iexact HO
    isplitr; · iapply hM; iexact HR
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-- A wait for an own transfer semaphore that gives `Pay` back. -/
theorem dma_wait {α : Type} {k : PUnit.{1} → Prog (TpuEff nD τ sig (Elt F) Λ₀ .tc) α} {Q : α → sProp 𝕄} {W : Waits sig Unit}
    {sp sp' : Space} {s s' : Shape} {e e' : EltTy} {sem : DmaSem sig} {src : Memref sig .tc sp' s' e'} {dst : Memref sig .tc sp s e}
    {hs : src.view.WordExact} {hd : dst.view.WordExact} {O : CellTallies nD τ sig Unit} {Pay : sProp 𝕄}
    (hmem : dmaC c sem ∈ Cells) (hM : (levAts L lv : sProp 𝕄) ⊢ MayWait (c : Thread nD τ) (.dma sem) () O)
    (hex : (exRd I).expect (dmaC c sem) 0 = dst.view.dmaCredit)
    (hrest : bigSep ((exRd I).duties (dmaC c sem) 0 \ ∅) (fun d => (exRd I).payload (dmaC c sem) 0 d) = Pay) :
    iprop(recs I K ∗ owes (c : Thread nD τ) O W ∗ cred (tallyAt (dmaC c sem) () dst.view.dmaCredit) ∗ atPos ER (dmaC c sem) 0 ∅ 0)
      ⊢ iprop((((∃ W, owes (c : Thread nD τ) O W) ∗ atPos ER (dmaC c sem) 1 ∅ 0 ∗ Pay) -∗ WP c (k ⟨⟩) Q)
        -∗ WP c (Prog.lift (.waitDma2 sem src dst hs hd) >>= k) Q) := by
  iintro ⟨#HR, HO, Hc, Hat⟩ Hk
  have hM' : (recs I K : sProp 𝕄) ⊢ MayWait (c : Thread nD τ) (.dma sem) () O := BIBase.Entails.trans (recs_lev I K) hM
  iapply (Rounds.wp_wait_rest_token 𝒱₀ ER (exRd I) (c : Thread nD τ) none (κ := K (dmaC c sem)) (k := k)
      (wpE_waitDma2_eq 𝒱₀ (c : Thread nD τ) none Set.univ) (Set.mem_univ _) () (O := O) (W := W) (R := 0) (m := 0) (T := ∅)
      (by rw [hex, Nat.zero_add])) $$ [Hc HO Hat]
  · isplitr; · iapply (recs_inv I K hmem); iexact HR
    isplitl [Hc]; · iexact Hc
    isplitl [HO]; · iexact HO
    isplitr; · iapply hM'; iexact HR
    iexact Hat
  iintro ⟨HO, Hat, -, Hpay⟩
  ihave Hp := (Entails.of_eq hrest) $$ Hpay
  iapply Hk
  isplitl [HO]; · iexists _; iexact HO
  isplitl [Hat]; · iexact Hat
  iexact Hp

/-- The transfer of the own half of the pair buffer to the partner. -/
theorem half_send {α : Type} {k : PUnit.{1} → Prog (TpuEff nD τ sig (Elt F) Λ₀ .tc) α} {Q : α → sProp 𝕄} {W : Waits sig Unit}
    {off off' : Fin 2 → ℕ} {h : ∀ a, off a + S128x4096.size a ≤ S256x4096.size a} {h' : ∀ a, off' a + S128x4096.size a ≤ S256x4096.size a}
    (ho : off = ![128 * (bC c).val, 0]) (ho' : off' = ![128 * (bC c).val, 0])
    {d : Dev nD} (hd : d = partner c)
    {hsc : (hM off' h').view.ref.isScScratch = false} {hsrc : (hM off h).view.WordExact} {hdst : (hM off' h').view.WordExact}
    {hsem : DmaTarget.Typed (τ := τ) (p := .tc) .vmem (.dma xrS) (.remote (Dev.tc d) (hM off' h') (.dma xsS) hsc)} :
    iprop(recs I K ∗ owes (c : Thread nD τ) (Oxr c) W ∗ hPt c (bC c) (PAIR I c) ∗ (∃ f, hPt (partner c) (bC c) f)
        ∗ dutyTok ER (dmaC c xsS) 0 c ∗ reached ER (dmaC c xsS) 0 ∗ dutyTok ER (dmaC (partner c) xrS) 0 c ∗ reached ER (dmaC (partner c) xrS) 0)
      ⊢ iprop(((cred (tallyAt (dmaC c xsS) () N1) ∗ owes (c : Thread nD τ) (Orv c 0) W) -∗ WP c (k ⟨⟩) Q)
        -∗ WP c (Prog.lift (.enqueueDma (hM off h) (.remote (Dev.tc d) (hM off' h') (.dma xsS) hsc) (.dma xrS) hsrc hdst hsem) >>= k) Q) := by
  subst hd
  iintro ⟨#HR, HO, Hs, ⟨%f, Hd⟩, Ht, #Hr, Ht', #Hr'⟩ Hk
  have hpay₁ : ((hM off h).view.loc (c : Thread nD τ) ↦[(hM off h).view.set]{fullShare} PAIR I c : sProp 𝕄) ⊢ (exRd I).payload (dmaC c xsS) 0 c := by
    rw [payload_eq, cls_xs, pay, hM_set (bC c) off h ho]
  have hpay₂ : ((hM off' h').view.loc (partner c : Thread nD τ) ↦[(hM off' h').view.set]{fullShare} (hM off' h').view.write (Elt F) f
        ((hM off h).view.read (Elt F) (PAIR I c)) Finset.univ : sProp 𝕄) ⊢ (exRd I).payload (dmaC (partner c) xrS) 0 c := by
    rw [h_landed I c off off' h h' ho ho' f, payload_eq, cls_xr, pay, bC_partner, sub_one_one]
  iapply (Rounds.wp_send_pointsTo 𝒱₀ ER (exRd I) (c : Thread nD τ) none (k := k)
      (c' := (partner c : Thread nD τ)) (src := hM off h) (dst := hM off' h') (sS := .dma xsS) (sem := .dma xrS) (q := fullShare) (fs := PAIR I c) (fd := f)
      (r₁ := 0) (r₂ := 0) (d₁ := c) (d₂ := c) (κ₁ := K (dmaC c xsS)) (κ₂ := K (dmaC (partner c) xrS))
      (by rw [duties_eq, cls_xs]; exact Finset.mem_singleton_self _)
      (by rw [duties_eq, cls_xr]; exact Finset.mem_singleton.mpr (partner_partner c).symm)
      () () N1 (hM_credit _ _) (by rw [amount_eq, cls_xs]; rfl) (by rw [amount_eq, cls_xr]; rfl) (Orv c 0) (W := W) (by rfl) hpay₁ hpay₂)
    $$ [HO Hs Hd Ht Ht']
  · isplitr; · iapply (recs_inv I K (xs_mem c)); iexact HR
    isplitr; · iapply (recs_inv I K (xr_mem (partner c))); iexact HR
    isplitl [Hs]; · rw [hM_set (bC c) off h ho]; iexact Hs
    isplitl [Hd]; · rw [hM_set (bC c) off' h' ho']; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexact HO

/-- What `c` holds to send the tile of point `u`: the two duties, the receiver's slot, its mark, and its own send slot. -/
def sendTodo (u : Fin 16) : sProp 𝕄 :=
  iprop(dutyTok ER (dmaC c (sdS u)) 0 c ∗ reached ER (dmaC c (sdS u)) 0 ∗ dutyTok ER (dmaC (rcv c u) (rvS (aC c))) 0 c
    ∗ slotPay (rcv c u) c ∗ (∃ f, sPt c u f))

/-- At a later grid point the receiver is in another row. -/
theorem aC_rcv_ne (u : Fin 16) (hu : u ≠ 0) : aC c ≠ aC (rcv c u) := by
  rw [aC_rcv]
  intro h
  apply hu
  generalize aC c = a at h
  revert a u
  decide
/-- The sender, read off the receiver's column. -/
theorem mk_aC_bC (u : Fin 16) : mk (aC c) (bC (rcv c u)) = c := by rw [bC_rcv, mk_ab]

/-- The transfer of the tile of point `u`. -/
theorem tile_send {α : Type} {k : PUnit.{1} → Prog (TpuEff nD τ sig (Elt F) Λ₀ .tc) α} {Q : α → sProp 𝕄} {W : Waits sig Unit}
    (u : Fin 16) (hu : u ≠ 0) {off off' : Fin 3 → ℕ} {h : ∀ a, off a + S1x256x256.size a ≤ S16x256x256.size a} {h' : ∀ a, off' a + S1x256x256.size a ≤ S16x256x256.size a}
    (ho : off = ![u.val, 0, 0]) (ho' : off' = ![(aC c).val, 0, 0])
    {d : Dev nD} (hd : d = rcv c u) {s₁ s₂ : DmaSem sig} (hs₁ : s₁ = sdS u) (hs₂ : s₂ = rvS (aC c))
    {hsc : (rM off' h').view.ref.isScScratch = false} {hsrc : (sM off h).view.WordExact} {hdst : (rM off' h').view.WordExact}
    {hsem : DmaTarget.Typed (τ := τ) (p := .tc) .vmem (.dma s₂) (.remote (Dev.tc d) (rM off' h') (.dma s₁) hsc)} :
    iprop(recs I K ∗ owes (c : Thread nD τ) (Orv c u.val) W ∗ sPt c u (SBc I c) ∗ slotPay (rcv c u) c
        ∗ dutyTok ER (dmaC c (sdS u)) 0 c ∗ reached ER (dmaC c (sdS u)) 0 ∗ dutyTok ER (dmaC (rcv c u) (rvS (aC c))) 0 c)
      ⊢ iprop(((cred (tallyAt (dmaC c (sdS u)) () N2) ∗ owes (c : Thread nD τ) (Orv c (u.val + 1)) W) -∗ WP c (k ⟨⟩) Q)
        -∗ WP c (Prog.lift (.enqueueDma (sM off h) (.remote (Dev.tc d) (rM off' h') (.dma s₁) hsc) (.dma s₂) hsrc hdst hsem) >>= k) Q) := by
  subst hd hs₁ hs₂
  unfold slotPay
  iintro ⟨#HR, HO, Hs, ⟨⟨%f, Hd⟩, #Hr'⟩, Ht, #Hr, Ht'⟩ Hk
  have hO : Orv c u.val = Orv c (u.val + 1) + tallyAt (dmaC (rcv c u) (rvS (aC c))) () N2 := by
    unfold Orv
    rw [later_succ 0 u.val u.isLt hu, Finset.sum_insert (later_notMem 0 u.val u.isLt), add_comm]
  have hpay₁ : ((sM off h).view.loc (c : Thread nD τ) ↦[(sM off h).view.set]{fullShare} SBc I c : sProp 𝕄) ⊢ (exRd I).payload (dmaC c (sdS u)) 0 c := by
    rw [payload_eq, cls_sd, pay, sM_set u off h ho]
    iintro H; iexists _; iexact H
  have hpay₂ : ((rM off' h').view.loc (rcv c u : Thread nD τ) ↦[(rM off' h').view.set]{fullShare} (rM off' h').view.write (Elt F) f
        ((sM off h).view.read (Elt F) (SBc I c)) Finset.univ : sProp 𝕄) ⊢ (exRd I).payload (dmaC (rcv c u) (rvS (aC c))) 0 c := by
    rw [r_landed I c u off off' h h' ho ho' f, payload_eq, cls_rv, pay]
  iapply (Rounds.wp_send_pointsTo 𝒱₀ ER (exRd I) (c : Thread nD τ) none (k := k)
      (c' := (rcv c u : Thread nD τ)) (src := sM off h) (dst := rM off' h') (sS := .dma (sdS u)) (sem := .dma (rvS (aC c))) (q := fullShare) (fs := SBc I c) (fd := f)
      (r₁ := 0) (r₂ := 0) (d₁ := c) (d₂ := c) (κ₁ := K (dmaC c (sdS u))) (κ₂ := K (dmaC (rcv c u) (rvS (aC c))))
      (by rw [duties_eq, cls_sd, dut_sd c u hu]; exact Finset.mem_singleton_self _)
      (by rw [duties_eq, cls_rv, dut_rv _ _ (aC_rcv_ne c u hu), mk_aC_bC]; exact Finset.mem_singleton_self _)
      () () N2 (rM_credit _ _) (by rw [amount_eq, cls_sd]; rfl) (by rw [amount_eq, cls_rv]; rfl) (Orv c (u.val + 1)) (W := W) hO hpay₁ hpay₂)
    $$ [HO Hs Hd Ht Ht']
  · isplitr; · iapply (recs_inv I K (sd_mem c u)); iexact HR
    isplitr; · iapply (recs_inv I K (rv_mem (rcv c u) (aC c))); iexact HR
    isplitl [Hs]; · rw [sM_set u off h ho]; iexact Hs
    isplitl [Hd]; · rw [rM_set (aC c) off' h' ho']; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexact HO

end Cert.Talk

end
-- ==== Proof.Loops.lean ====
/-
  The program's parts that are made of equal steps: the signals of the barrier, the waits of the last point.
-/
module

public import proofs.«01_k».proof.Proof.Steps

@[expose] public section

set_option synthInstance.maxSize 4096

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

/-! ## The barrier -/

/-- The signals to devices 0 to 8. -/
theorem bar1 (W : Waits sig Unit) (R : sProp 𝕄) (v2 : BitVec 32) (h1 : k0_cond1 i = 1#1) :
    barI I K c 0 W R ⊢ WP c (k0_part1 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 c v2 h1)
      fun v => iprop(⌜v = SemArray.scalar (sig.barrier 0 rfl)⌝ ∗ barI I K c 9 W R) := by
  rw [k0_part1_eq_skeleton]; unfold k0_part1_skel
  dsimp only
  refine bar_then I K c 0 (by decide) W R _ ?_ _ ?_ _ _ ?_
  · exact cond2_iff c
  · exact fun _ => Fin.ext k0_dev1_eq
  refine bar_then I K c 1 (by decide) W R _ ?_ _ ?_ _ _ ?_
  · exact cond3_iff c
  · exact fun _ => Fin.ext k0_dev2_eq
  refine bar_then I K c 2 (by decide) W R _ ?_ _ ?_ _ _ ?_
  · exact cond4_iff c
  · exact fun _ => Fin.ext k0_dev3_eq
  refine bar_then I K c 3 (by decide) W R _ ?_ _ ?_ _ _ ?_
  · exact cond5_iff c
  · exact fun _ => Fin.ext k0_dev4_eq
  refine bar_then I K c 4 (by decide) W R _ ?_ _ ?_ _ _ ?_
  · exact cond6_iff c
  · exact fun _ => Fin.ext k0_dev5_eq
  refine bar_then I K c 5 (by decide) W R _ ?_ _ ?_ _ _ ?_
  · exact cond7_iff c
  · exact fun _ => Fin.ext k0_dev6_eq
  refine bar_then I K c 6 (by decide) W R _ ?_ _ ?_ _ _ ?_
  · exact cond8_iff c
  · exact fun _ => Fin.ext k0_dev7_eq
  refine bar_then I K c 7 (by decide) W R _ ?_ _ ?_ _ _ ?_
  · exact cond9_iff c
  · exact fun _ => Fin.ext k0_dev8_eq
  refine bar_then I K c 8 (by decide) W R _ ?_ _ ?_ _ _ ?_
  · exact cond10_iff c
  · exact fun _ => Fin.ext k0_dev9_eq
  unfold WP; rw [Prog.pure_eq_ret, wp_ret]
  refine BIBase.Entails.trans ?_ fupd_intro
  iintro H
  isplitr; · ipureintro; rfl
  iexact H

/-- To devices 9 to 18, -/
theorem bar2 (W : Waits sig Unit) (R : sProp 𝕄) (v2 : BitVec 32) (h1 : k0_cond1 i = 1#1) :
    barI I K c 9 W R ⊢ WP c (k0_part2 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 c v2 h1 (SemArray.scalar (sig.barrier 0 rfl)))
      fun _ => barI I K c 19 W R := by
  rw [k0_part2_eq_skeleton]; unfold k0_part2_skel
  dsimp only
  refine bar_then I K c 9 (by decide) W R _ ?_ _ ?_ _ _ ?_
  · exact cond11_iff c
  · exact fun _ => Fin.ext k0_dev10_eq
  refine bar_then I K c 10 (by decide) W R _ ?_ _ ?_ _ _ ?_
  · exact cond12_iff c
  · exact fun _ => Fin.ext k0_dev11_eq
  refine bar_then I K c 11 (by decide) W R _ ?_ _ ?_ _ _ ?_
  · exact cond13_iff c
  · exact fun _ => Fin.ext k0_dev12_eq
  refine bar_then I K c 12 (by decide) W R _ ?_ _ ?_ _ _ ?_
  · exact cond14_iff c
  · exact fun _ => Fin.ext k0_dev13_eq
  refine bar_then I K c 13 (by decide) W R _ ?_ _ ?_ _ _ ?_
  · exact cond15_iff c
  · exact fun _ => Fin.ext k0_dev14_eq
  refine bar_then I K c 14 (by decide) W R _ ?_ _ ?_ _ _ ?_
  · exact cond16_iff c
  · exact fun _ => Fin.ext k0_dev15_eq
  refine bar_then I K c 15 (by decide) W R _ ?_ _ ?_ _ _ ?_
  · exact cond17_iff c
  · exact fun _ => Fin.ext k0_dev16_eq
  refine bar_then I K c 16 (by decide) W R _ ?_ _ ?_ _ _ ?_
  · exact cond18_iff c
  · exact fun _ => Fin.ext k0_dev17_eq
  refine bar_then I K c 17 (by decide) W R _ ?_ _ ?_ _ _ ?_
  · exact cond19_iff c
  · exact fun _ => Fin.ext k0_dev18_eq
  refine bar_then I K c 18 (by decide) W R _ ?_ _ ?_ _ _ ?_
  · exact cond20_iff c
  · exact fun _ => Fin.ext k0_dev19_eq
  unfold WP; rw [Prog.pure_eq_ret, wp_ret]
  exact fupd_intro

/-- to devices 19 to 28. -/
theorem bar3 (W : Waits sig Unit) (R : sProp 𝕄) (v2 : BitVec 32) (h1 : k0_cond1 i = 1#1) :
    barI I K c 19 W R ⊢ WP c (k0_part3 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 c v2 h1 (SemArray.scalar (sig.barrier 0 rfl)))
      fun _ => barI I K c 29 W R := by
  rw [k0_part3_eq_skeleton]; unfold k0_part3_skel
  dsimp only
  refine bar_then I K c 19 (by decide) W R _ ?_ _ ?_ _ _ ?_
  · exact cond21_iff c
  · exact fun _ => Fin.ext k0_dev20_eq
  refine bar_then I K c 20 (by decide) W R _ ?_ _ ?_ _ _ ?_
  · exact cond22_iff c
  · exact fun _ => Fin.ext k0_dev21_eq
  refine bar_then I K c 21 (by decide) W R _ ?_ _ ?_ _ _ ?_
  · exact cond23_iff c
  · exact fun _ => Fin.ext k0_dev22_eq
  refine bar_then I K c 22 (by decide) W R _ ?_ _ ?_ _ _ ?_
  · exact cond24_iff c
  · exact fun _ => Fin.ext k0_dev23_eq
  refine bar_then I K c 23 (by decide) W R _ ?_ _ ?_ _ _ ?_
  · exact cond25_iff c
  · exact fun _ => Fin.ext k0_dev24_eq
  refine bar_then I K c 24 (by decide) W R _ ?_ _ ?_ _ _ ?_
  · exact cond26_iff c
  · exact fun _ => Fin.ext k0_dev25_eq
  refine bar_then I K c 25 (by decide) W R _ ?_ _ ?_ _ _ ?_
  · exact cond27_iff c
  · exact fun _ => Fin.ext k0_dev26_eq
  refine bar_then I K c 26 (by decide) W R _ ?_ _ ?_ _ _ ?_
  · exact cond28_iff c
  · exact fun _ => Fin.ext k0_dev27_eq
  refine bar_then I K c 27 (by decide) W R _ ?_ _ ?_ _ _ ?_
  · exact cond29_iff c
  · exact fun _ => Fin.ext k0_dev28_eq
  refine bar_then I K c 28 (by decide) W R _ ?_ _ ?_ _ _ ?_
  · exact cond30_iff c
  · exact fun _ => Fin.ext k0_dev29_eq
  unfold WP; rw [Prog.pure_eq_ret, wp_ret]
  exact fupd_intro

/-! ## The waits -/

/-- The wait for a send before the rest `k`, as the program spells it; -/
def sendK (P : Prop) [Decidable P] (off₅ : Fin 1 → ℕ) (h₅ : ∀ a, off₅ a + S1.size a ≤ S16.size a)
    (off off' : Fin 3 → ℕ) (h' : ∀ a, off' a + S1x256x256.size a ≤ S16x256x256.size a) (h₃ : ∀ a, off a + S1x256x256.size a ≤ S16x256x256.size a)
    (hs : (rM off' h').view.WordExact) (hd : (sM off h₃).view.WordExact) {α : Type}
    (k : PUnit.{1} → Prog (TpuEff nD τ sig (Elt F) Λ₀ .tc) α) : Prog (TpuEff nD τ sig (Elt F) Λ₀ .tc) α :=
  if h : P then (Prog.lift
    (.waitDma2 ((cc0_scratch5.slice (Rect.unit (s := S16) off₅ S1.size h₅)).squeeze S_ squeezes_S1_S_).sem (rM off' h') (sM off h₃) hs hd) >>= fun _ => k ⟨⟩) else k ⟨⟩
/-- for a receive. -/
def recvK (P : Prop) [Decidable P] (off₅ : Fin 1 → ℕ) (h₅ : ∀ a, off₅ a + S1.size a ≤ S16.size a)
    (off off' : Fin 3 → ℕ) (h' : ∀ a, off' a + S1x256x256.size a ≤ S16x256x256.size a) (h₃ : ∀ a, off a + S1x256x256.size a ≤ S16x256x256.size a)
    (hs : (sM off' h').view.WordExact) (hd : (rM off h₃).view.WordExact) {α : Type}
    (k : PUnit.{1} → Prog (TpuEff nD τ sig (Elt F) Λ₀ .tc) α) : Prog (TpuEff nD τ sig (Elt F) Λ₀ .tc) α :=
  if h : P then (Prog.lift
    (.waitDma2 ((cc0_scratch6.slice (Rect.unit (s := S16) off₅ S1.size h₅)).squeeze S_ squeezes_S1_S_).sem (sM off' h') (rM off h₃) hs hd) >>= fun _ => k ⟨⟩) else k ⟨⟩

/-- One step of the last point's loop over the sends: wait for the send of slot `n` unless there is none. -/
theorem sendK_step (n : ℕ) (hn : n < 16) (R : sProp 𝕄) (P : Prop) [Decidable P] (hP : P ↔ (⟨n, hn⟩ : Fin 16) ≠ 0)
    (off₅ : Fin 1 → ℕ) (h₅ : ∀ a, off₅ a + S1.size a ≤ S16.size a) (ho₅ : off₅ = ![n])
    (off off' : Fin 3 → ℕ) (h' : ∀ a, off' a + S1x256x256.size a ≤ S16x256x256.size a) (h₃ : ∀ a, off a + S1x256x256.size a ≤ S16x256x256.size a)
    (hs : (rM off' h').view.WordExact) (hd : (sM off h₃).view.WordExact) {α : Type}
    (k : PUnit.{1} → Prog (TpuEff nD τ sig (Elt F) Λ₀ .tc) α) (Q : α → sProp 𝕄)
    (h : waitI I K c sdS 0 (fun u => iprop(∃ f, sPt c u f)) (n + 1) R ⊢ WP c (k ⟨⟩) Q) :
    waitI I K c sdS 0 (fun u => iprop(∃ f, sPt c u f)) n R ⊢ WP c (sendK P off₅ h₅ off off' h' h₃ hs hd k) Q :=
  send_wait_step I K c n hn R _ hP off₅ h₅ ho₅ off off' h' h₃ hs hd _ Q h
/-- One step of the last point's loop over the arrivals: wait for slot `n` unless it is one's own. -/
theorem recvK_step (n : ℕ) (hn : n < 16) (R : sProp 𝕄) (P : Prop) [Decidable P] (hP : P ↔ (⟨n, hn⟩ : Fin 16) ≠ aC c)
    (off₅ : Fin 1 → ℕ) (h₅ : ∀ a, off₅ a + S1.size a ≤ S16.size a) (ho₅ : off₅ = ![n])
    (off off' : Fin 3 → ℕ) (h' : ∀ a, off' a + S1x256x256.size a ≤ S16x256x256.size a) (h₃ : ∀ a, off a + S1x256x256.size a ≤ S16x256x256.size a)
    (hs : (sM off' h').view.WordExact) (hd : (rM off h₃).view.WordExact) {α : Type}
    (k : PUnit.{1} → Prog (TpuEff nD τ sig (Elt F) Λ₀ .tc) α) (Q : α → sProp 𝕄)
    (h : waitI I K c rvS (aC c) (fun r => rPt c r (RBc I c)) (n + 1) R ⊢ WP c (k ⟨⟩) Q) :
    waitI I K c rvS (aC c) (fun r => rPt c r (RBc I c)) n R ⊢ WP c (recvK P off₅ h₅ off off' h' h₃ hs hd k) Q :=
  recv_wait_step I K c n hn R _ hP off₅ h₅ ho₅ off off' h' h₃ hs hd _ Q h

/-- This part of the last point's waits, as a loop. -/
theorem part5_form (v2 v19 v20 : BitVec 32) : k0_part5 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 =
    (sendK (sCond v19 v20 v2 0#32 = 1#1) ![0] inb_S16_S1_0 ![0, 0, 0] ![0, 0, 0] inb_S16x256x256_S1x256x256_0_0_0 inb_S16x256x256_S1x256x256_0_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_0_0_0).reshape _ _) fun _ =>
    sendK (sCond v19 v20 v2 1#32 = 1#1) ![1] inb_S16_S1_1 ![1, 0, 0] ![0, 0, 0] inb_S16x256x256_S1x256x256_0_0_0 inb_S16x256x256_S1x256x256_1_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_1_0_0).reshape _ _) fun _ =>
    sendK (sCond v19 v20 v2 2#32 = 1#1) ![2] inb_S16_S1_2 ![2, 0, 0] ![0, 0, 0] inb_S16x256x256_S1x256x256_0_0_0 inb_S16x256x256_S1x256x256_2_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_2_0_0).reshape _ _) fun _ =>
    sendK (sCond v19 v20 v2 3#32 = 1#1) ![3] inb_S16_S1_3 ![3, 0, 0] ![0, 0, 0] inb_S16x256x256_S1x256x256_0_0_0 inb_S16x256x256_S1x256x256_3_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_3_0_0).reshape _ _) fun _ =>
    sendK (sCond v19 v20 v2 4#32 = 1#1) ![4] inb_S16_S1_4 ![4, 0, 0] ![0, 0, 0] inb_S16x256x256_S1x256x256_0_0_0 inb_S16x256x256_S1x256x256_4_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_4_0_0).reshape _ _) fun _ =>
    Pure.pure ⟨⟩) := by
  rw [k0_part5_eq_skeleton]; rfl

/-- These waits take back the send slots they cover. -/
theorem sends5 (R : sProp 𝕄) :
    waitI I K c sdS 0 (fun u => iprop(∃ f, sPt c u f)) 0 R ⊢ WP c (k0_part5 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 (wP c) (wA (wP c)) (Scalar.remsi (wP c) 2#32))
      fun _ => waitI I K c sdS 0 (fun u => iprop(∃ f, sPt c u f)) 5 R := by
  rw [part5_form]
  refine sendK_step I K c 0 (by decide) R _ ?_ ![0] _ rfl _ _ _ _ _ _ _ _ ?_
  · exact sCond_iff c ⟨0, by decide⟩
  refine sendK_step I K c 1 (by decide) R _ ?_ ![1] _ rfl _ _ _ _ _ _ _ _ ?_
  · exact sCond_iff c ⟨1, by decide⟩
  refine sendK_step I K c 2 (by decide) R _ ?_ ![2] _ rfl _ _ _ _ _ _ _ _ ?_
  · exact sCond_iff c ⟨2, by decide⟩
  refine sendK_step I K c 3 (by decide) R _ ?_ ![3] _ rfl _ _ _ _ _ _ _ _ ?_
  · exact sCond_iff c ⟨3, by decide⟩
  refine sendK_step I K c 4 (by decide) R _ ?_ ![4] _ rfl _ _ _ _ _ _ _ _ ?_
  · exact sCond_iff c ⟨4, by decide⟩
  unfold WP; rw [Prog.pure_eq_ret, wp_ret]
  exact fupd_intro

/-- This part of the last point's waits, as a loop. -/
theorem part6_form (v2 v19 v20 : BitVec 32) : k0_part6 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 =
    (sendK (sCond v19 v20 v2 5#32 = 1#1) ![5] inb_S16_S1_5 ![5, 0, 0] ![0, 0, 0] inb_S16x256x256_S1x256x256_0_0_0 inb_S16x256x256_S1x256x256_5_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_5_0_0).reshape _ _) fun _ =>
    sendK (sCond v19 v20 v2 6#32 = 1#1) ![6] inb_S16_S1_6 ![6, 0, 0] ![0, 0, 0] inb_S16x256x256_S1x256x256_0_0_0 inb_S16x256x256_S1x256x256_6_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_6_0_0).reshape _ _) fun _ =>
    sendK (sCond v19 v20 v2 7#32 = 1#1) ![7] inb_S16_S1_7 ![7, 0, 0] ![0, 0, 0] inb_S16x256x256_S1x256x256_0_0_0 inb_S16x256x256_S1x256x256_7_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_7_0_0).reshape _ _) fun _ =>
    sendK (sCond v19 v20 v2 8#32 = 1#1) ![8] inb_S16_S1_8 ![8, 0, 0] ![0, 0, 0] inb_S16x256x256_S1x256x256_0_0_0 inb_S16x256x256_S1x256x256_8_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_8_0_0).reshape _ _) fun _ =>
    sendK (sCond v19 v20 v2 9#32 = 1#1) ![9] inb_S16_S1_9 ![9, 0, 0] ![0, 0, 0] inb_S16x256x256_S1x256x256_0_0_0 inb_S16x256x256_S1x256x256_9_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_9_0_0).reshape _ _) fun _ =>
    Pure.pure ⟨⟩) := by
  rw [k0_part6_eq_skeleton]; rfl

/-- These waits take back the send slots they cover. -/
theorem sends6 (R : sProp 𝕄) :
    waitI I K c sdS 0 (fun u => iprop(∃ f, sPt c u f)) 5 R ⊢ WP c (k0_part6 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 (wP c) (wA (wP c)) (Scalar.remsi (wP c) 2#32))
      fun _ => waitI I K c sdS 0 (fun u => iprop(∃ f, sPt c u f)) 10 R := by
  rw [part6_form]
  refine sendK_step I K c 5 (by decide) R _ ?_ ![5] _ rfl _ _ _ _ _ _ _ _ ?_
  · exact sCond_iff c ⟨5, by decide⟩
  refine sendK_step I K c 6 (by decide) R _ ?_ ![6] _ rfl _ _ _ _ _ _ _ _ ?_
  · exact sCond_iff c ⟨6, by decide⟩
  refine sendK_step I K c 7 (by decide) R _ ?_ ![7] _ rfl _ _ _ _ _ _ _ _ ?_
  · exact sCond_iff c ⟨7, by decide⟩
  refine sendK_step I K c 8 (by decide) R _ ?_ ![8] _ rfl _ _ _ _ _ _ _ _ ?_
  · exact sCond_iff c ⟨8, by decide⟩
  refine sendK_step I K c 9 (by decide) R _ ?_ ![9] _ rfl _ _ _ _ _ _ _ _ ?_
  · exact sCond_iff c ⟨9, by decide⟩
  unfold WP; rw [Prog.pure_eq_ret, wp_ret]
  exact fupd_intro

/-- This part of the last point's waits, as a loop. -/
theorem part7_form (v2 v19 v20 : BitVec 32) : k0_part7 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 =
    (sendK (sCond v19 v20 v2 10#32 = 1#1) ![10] inb_S16_S1_10 ![10, 0, 0] ![0, 0, 0] inb_S16x256x256_S1x256x256_0_0_0 inb_S16x256x256_S1x256x256_10_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_10_0_0).reshape _ _) fun _ =>
    sendK (sCond v19 v20 v2 11#32 = 1#1) ![11] inb_S16_S1_11 ![11, 0, 0] ![0, 0, 0] inb_S16x256x256_S1x256x256_0_0_0 inb_S16x256x256_S1x256x256_11_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_11_0_0).reshape _ _) fun _ =>
    sendK (sCond v19 v20 v2 12#32 = 1#1) ![12] inb_S16_S1_12 ![12, 0, 0] ![0, 0, 0] inb_S16x256x256_S1x256x256_0_0_0 inb_S16x256x256_S1x256x256_12_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_12_0_0).reshape _ _) fun _ =>
    sendK (sCond v19 v20 v2 13#32 = 1#1) ![13] inb_S16_S1_13 ![13, 0, 0] ![0, 0, 0] inb_S16x256x256_S1x256x256_0_0_0 inb_S16x256x256_S1x256x256_13_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_13_0_0).reshape _ _) fun _ =>
    sendK (sCond v19 v20 v2 14#32 = 1#1) ![14] inb_S16_S1_14 ![14, 0, 0] ![0, 0, 0] inb_S16x256x256_S1x256x256_0_0_0 inb_S16x256x256_S1x256x256_14_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_14_0_0).reshape _ _) fun _ =>
    Pure.pure ⟨⟩) := by
  rw [k0_part7_eq_skeleton]; rfl

/-- These waits take back the send slots they cover. -/
theorem sends7 (R : sProp 𝕄) :
    waitI I K c sdS 0 (fun u => iprop(∃ f, sPt c u f)) 10 R ⊢ WP c (k0_part7 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 (wP c) (wA (wP c)) (Scalar.remsi (wP c) 2#32))
      fun _ => waitI I K c sdS 0 (fun u => iprop(∃ f, sPt c u f)) 15 R := by
  rw [part7_form]
  refine sendK_step I K c 10 (by decide) R _ ?_ ![10] _ rfl _ _ _ _ _ _ _ _ ?_
  · exact sCond_iff c ⟨10, by decide⟩
  refine sendK_step I K c 11 (by decide) R _ ?_ ![11] _ rfl _ _ _ _ _ _ _ _ ?_
  · exact sCond_iff c ⟨11, by decide⟩
  refine sendK_step I K c 12 (by decide) R _ ?_ ![12] _ rfl _ _ _ _ _ _ _ _ ?_
  · exact sCond_iff c ⟨12, by decide⟩
  refine sendK_step I K c 13 (by decide) R _ ?_ ![13] _ rfl _ _ _ _ _ _ _ _ ?_
  · exact sCond_iff c ⟨13, by decide⟩
  refine sendK_step I K c 14 (by decide) R _ ?_ ![14] _ rfl _ _ _ _ _ _ _ _ ?_
  · exact sCond_iff c ⟨14, by decide⟩
  unfold WP; rw [Prog.pure_eq_ret, wp_ret]
  exact fupd_intro

/-- The sends all waited for, the receives follow. -/
theorem sends_recvs (R : sProp 𝕄) :
    waitI I K c sdS 0 (fun u => iprop(∃ f, sPt c u f)) 16 iprop((bigSep (later (aC c) 0) fun r => iprop(cred (tallyAt (dmaC c (rvS r)) () N2) ∗ atPos ER (dmaC c (rvS r)) 0 ∅ 0)) ∗ R)
      ⊢ waitI I K c rvS (aC c) (fun r => rPt c r (RBc I c)) 0 iprop((bigSep (before 0 16) fun u => iprop(atPos ER (dmaC c (sdS u)) 1 ∅ 0 ∗ ∃ f, sPt c u f)) ∗ R) := by
  unfold waitI
  rw [later_top, before_zero, bigSep_empty, bigSep_empty]
  iintro ⟨H1, H2, -, H4, H5, H6⟩
  isplitl [H1]; · iexact H1
  isplitl [H2]; · iexact H2
  isplitl [H5]; · iexact H5
  isplitr; · iempintro
  isplitl [H4]; · iexact H4
  iexact H6

/-- This part of the last point's waits, as a loop. -/
theorem part8_form (v2 v19 v20 : BitVec 32) : k0_part8 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 =
    (sendK (sCond v19 v20 v2 15#32 = 1#1) ![15] inb_S16_S1_15 ![15, 0, 0] ![0, 0, 0] inb_S16x256x256_S1x256x256_0_0_0 inb_S16x256x256_S1x256x256_15_0_0
      (((Memref.isWhole_whole cc0_scratch2).wordExact_slice rfl _ wordsbf16_S16x256x256_S1x256x256_0_0_0).reshape _ _) (((Memref.isWhole_whole cc0_scratch1).wordExact_slice rfl _ wordsbf16_S16x256x256_S1x256x256_15_0_0).reshape _ _) fun _ =>
    recvK (rCond v2 0#32 = 1#1) ![0] inb_S16_S1_0 ![0, 0, 0] ![0, 0, 0] inb_S16x256x256_S1x256x256_0_0_0 inb_S16x256x256_S1x256x256_0_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_0_0_0).reshape _ _) fun _ =>
    recvK (rCond v2 2#32 = 1#1) ![1] inb_S16_S1_1 ![1, 0, 0] ![0, 0, 0] inb_S16x256x256_S1x256x256_0_0_0 inb_S16x256x256_S1x256x256_1_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_1_0_0).reshape _ _) fun _ =>
    recvK (rCond v2 4#32 = 1#1) ![2] inb_S16_S1_2 ![2, 0, 0] ![0, 0, 0] inb_S16x256x256_S1x256x256_0_0_0 inb_S16x256x256_S1x256x256_2_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_2_0_0).reshape _ _) fun _ =>
    recvK (rCond v2 6#32 = 1#1) ![3] inb_S16_S1_3 ![3, 0, 0] ![0, 0, 0] inb_S16x256x256_S1x256x256_0_0_0 inb_S16x256x256_S1x256x256_3_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_3_0_0).reshape _ _) fun _ =>
    recvK (rCond v2 8#32 = 1#1) ![4] inb_S16_S1_4 ![4, 0, 0] ![0, 0, 0] inb_S16x256x256_S1x256x256_0_0_0 inb_S16x256x256_S1x256x256_4_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_4_0_0).reshape _ _) fun _ =>
    Pure.pure ⟨Scalar.remsi v2 2#32, 10#32⟩) := by
  rw [k0_part8_eq_skeleton]; rfl

/-- This part ends the waits for the sends and begins the waits for the arrivals. -/
theorem waits8 (R : sProp 𝕄) :
    waitI I K c sdS 0 (fun u => iprop(∃ f, sPt c u f)) 15 iprop((bigSep (later (aC c) 0) fun r => iprop(cred (tallyAt (dmaC c (rvS r)) () N2) ∗ atPos ER (dmaC c (rvS r)) 0 ∅ 0)) ∗ R) ⊢ WP c (k0_part8 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 (wP c) (wA (wP c)) (Scalar.remsi (wP c) 2#32))
      fun v => iprop(⌜v = ⟨Scalar.remsi (wP c) 2#32, 10#32⟩⌝ ∗ waitI I K c rvS (aC c) (fun r => rPt c r (RBc I c)) 5 iprop((bigSep (before 0 16) fun u => iprop(atPos ER (dmaC c (sdS u)) 1 ∅ 0 ∗ ∃ f, sPt c u f)) ∗ R)) := by
  rw [part8_form]
  refine sendK_step I K c 15 (by decide) iprop((bigSep (later (aC c) 0) fun r => iprop(cred (tallyAt (dmaC c (rvS r)) () N2) ∗ atPos ER (dmaC c (rvS r)) 0 ∅ 0)) ∗ R) _ ?_ ![15] _ rfl _ _ _ _ _ _ _ _ ?_
  · exact sCond_iff c ⟨15, by decide⟩
  refine (sends_recvs I K c R).trans ?_
  refine recvK_step I K c 0 (by decide) iprop((bigSep (before 0 16) fun u => iprop(atPos ER (dmaC c (sdS u)) 1 ∅ 0 ∗ ∃ f, sPt c u f)) ∗ R) _ ?_ ![0] _ rfl _ _ _ _ _ _ _ _ ?_
  · exact rCond_iff c ⟨0, by decide⟩
  refine recvK_step I K c 1 (by decide) iprop((bigSep (before 0 16) fun u => iprop(atPos ER (dmaC c (sdS u)) 1 ∅ 0 ∗ ∃ f, sPt c u f)) ∗ R) _ ?_ ![1] _ rfl _ _ _ _ _ _ _ _ ?_
  · exact rCond_iff c ⟨1, by decide⟩
  refine recvK_step I K c 2 (by decide) iprop((bigSep (before 0 16) fun u => iprop(atPos ER (dmaC c (sdS u)) 1 ∅ 0 ∗ ∃ f, sPt c u f)) ∗ R) _ ?_ ![2] _ rfl _ _ _ _ _ _ _ _ ?_
  · exact rCond_iff c ⟨2, by decide⟩
  refine recvK_step I K c 3 (by decide) iprop((bigSep (before 0 16) fun u => iprop(atPos ER (dmaC c (sdS u)) 1 ∅ 0 ∗ ∃ f, sPt c u f)) ∗ R) _ ?_ ![3] _ rfl _ _ _ _ _ _ _ _ ?_
  · exact rCond_iff c ⟨3, by decide⟩
  refine recvK_step I K c 4 (by decide) iprop((bigSep (before 0 16) fun u => iprop(atPos ER (dmaC c (sdS u)) 1 ∅ 0 ∗ ∃ f, sPt c u f)) ∗ R) _ ?_ ![4] _ rfl _ _ _ _ _ _ _ _ ?_
  · exact rCond_iff c ⟨4, by decide⟩
  unfold WP; rw [Prog.pure_eq_ret, wp_ret]
  refine BIBase.Entails.trans ?_ fupd_intro
  iintro H
  isplitr; · ipureintro; rfl
  iexact H

/-- This part of the last point's waits, as a loop. -/
theorem part9_form (v2 : BitVec 32) : k0_part9 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 (Scalar.remsi v2 2#32) 10#32 =
    (recvK (rCond v2 10#32 = 1#1) ![5] inb_S16_S1_5 ![5, 0, 0] ![0, 0, 0] inb_S16x256x256_S1x256x256_0_0_0 inb_S16x256x256_S1x256x256_5_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_5_0_0).reshape _ _) fun _ =>
    recvK (rCond v2 12#32 = 1#1) ![6] inb_S16_S1_6 ![6, 0, 0] ![0, 0, 0] inb_S16x256x256_S1x256x256_0_0_0 inb_S16x256x256_S1x256x256_6_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_6_0_0).reshape _ _) fun _ =>
    recvK (rCond v2 14#32 = 1#1) ![7] inb_S16_S1_7 ![7, 0, 0] ![0, 0, 0] inb_S16x256x256_S1x256x256_0_0_0 inb_S16x256x256_S1x256x256_7_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_7_0_0).reshape _ _) fun _ =>
    recvK (rCond v2 16#32 = 1#1) ![8] inb_S16_S1_8 ![8, 0, 0] ![0, 0, 0] inb_S16x256x256_S1x256x256_0_0_0 inb_S16x256x256_S1x256x256_8_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_8_0_0).reshape _ _) fun _ =>
    recvK (rCond v2 18#32 = 1#1) ![9] inb_S16_S1_9 ![9, 0, 0] ![0, 0, 0] inb_S16x256x256_S1x256x256_0_0_0 inb_S16x256x256_S1x256x256_9_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_9_0_0).reshape _ _) fun _ =>
    recvK (rCond v2 20#32 = 1#1) ![10] inb_S16_S1_10 ![10, 0, 0] ![0, 0, 0] inb_S16x256x256_S1x256x256_0_0_0 inb_S16x256x256_S1x256x256_10_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_10_0_0).reshape _ _) fun _ =>
    recvK (rCond v2 22#32 = 1#1) ![11] inb_S16_S1_11 ![11, 0, 0] ![0, 0, 0] inb_S16x256x256_S1x256x256_0_0_0 inb_S16x256x256_S1x256x256_11_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_11_0_0).reshape _ _) fun _ =>
    Pure.pure ⟨⟩) := by
  rw [k0_part9_eq_skeleton]; rfl

/-- These waits take the receive slots they cover, each with its tile. -/
theorem recvs9 (R : sProp 𝕄) :
    waitI I K c rvS (aC c) (fun r => rPt c r (RBc I c)) 5 R ⊢ WP c (k0_part9 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 (wP c) (Scalar.remsi (wP c) 2#32) 10#32)
      fun _ => waitI I K c rvS (aC c) (fun r => rPt c r (RBc I c)) 12 R := by
  rw [part9_form]
  refine recvK_step I K c 5 (by decide) R _ ?_ ![5] _ rfl _ _ _ _ _ _ _ _ ?_
  · exact rCond_iff c ⟨5, by decide⟩
  refine recvK_step I K c 6 (by decide) R _ ?_ ![6] _ rfl _ _ _ _ _ _ _ _ ?_
  · exact rCond_iff c ⟨6, by decide⟩
  refine recvK_step I K c 7 (by decide) R _ ?_ ![7] _ rfl _ _ _ _ _ _ _ _ ?_
  · exact rCond_iff c ⟨7, by decide⟩
  refine recvK_step I K c 8 (by decide) R _ ?_ ![8] _ rfl _ _ _ _ _ _ _ _ ?_
  · exact rCond_iff c ⟨8, by decide⟩
  refine recvK_step I K c 9 (by decide) R _ ?_ ![9] _ rfl _ _ _ _ _ _ _ _ ?_
  · exact rCond_iff c ⟨9, by decide⟩
  refine recvK_step I K c 10 (by decide) R _ ?_ ![10] _ rfl _ _ _ _ _ _ _ _ ?_
  · exact rCond_iff c ⟨10, by decide⟩
  refine recvK_step I K c 11 (by decide) R _ ?_ ![11] _ rfl _ _ _ _ _ _ _ _ ?_
  · exact rCond_iff c ⟨11, by decide⟩
  unfold WP; rw [Prog.pure_eq_ret, wp_ret]
  exact fupd_intro

end Cert.Talk

end
-- ==== Proof.Exch.lean ====
/-
  The exchange at the first grid point, and the body's pieces in sequence.
-/
module

public import proofs.«01_k».proof.Proof.Talk
public import proofs.«01_k».proof.Proof.Loops

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

/-- In sequence. -/
theorem WP_bind {α β : Type} {p : Prog (TpuEff nD τ sig (Elt F) Λ₀ .tc) α} {k : α → Prog (TpuEff nD τ sig (Elt F) Λ₀ .tc) β} {P : sProp 𝕄} {Φ : α → sProp 𝕄} {Q : β → sProp 𝕄}
    (h1 : P ⊢ WP c p Φ) (h2 : ∀ v, Φ v ⊢ WP c (k v) Q) : P ⊢ WP c (p >>= k) Q := by
  unfold WP at h1 h2 ⊢
  rw [wp_bind]
  exact h1.trans (wp_mono _ _ _ h2)
/-- A program that only returns is run by proving its postcondition. -/
theorem WP_pure {α : Type} {v : α} {P : sProp 𝕄} {Q : α → sProp 𝕄} (h : P ⊢ Q v) : P ⊢ WP c (Pure.pure v : Prog (TpuEff nD τ sig (Elt F) Λ₀ .tc) α) Q := by
  unfold WP; rw [Prog.pure_eq_ret, wp_ret]
  exact h.trans fupd_intro

/-- The same, from the postcondition itself. -/
theorem WP_ret {α : Type} (v : α) (Q : α → sProp 𝕄) : Q v ⊢ WP c (Pure.pure v : Prog (TpuEff nD τ sig (Elt F) Λ₀ .tc) α) Q := WP_pure c .rfl

/-! ## The exchange -/

/-- A signal before the rest `k`, as the program spells it. -/
def sigK (P : Prop) [Decidable P] (dv : P → Dev nD) {α : Type} (k : PUnit.{1} → Prog (TpuEff nD τ sig (Elt F) Λ₀ .tc) α) : Prog (TpuEff nD τ sig (Elt F) Λ₀ .tc) α :=
  if h : P then (semSignalWord (dv h) barS 1#32 >>= fun _ => k ⟨⟩) else k ⟨⟩
/-- One step of the opening loop: signal device `n` unless it is oneself. -/
theorem sigK_step {α : Type} (n : ℕ) (hn : n < nD) (W : Waits sig Unit) (R : sProp 𝕄) (P : Prop) [Decidable P] (hP : P ↔ (⟨n, hn⟩ : Dev nD) ≠ c)
    (dv : P → Dev nD) (hdv : ∀ h, dv h = ⟨n, hn⟩) (k : PUnit.{1} → Prog (TpuEff nD τ sig (Elt F) Λ₀ .tc) α) (Q : α → sProp 𝕄) (h : barI I K c (n + 1) W R ⊢ WP c (k ⟨⟩) Q) :
    barI I K c n W R ⊢ WP c (sigK P dv k) Q :=
  bar_then I K c n hn W R P hP dv hdv _ Q h

/-- The exchange of the rows, as the sequence of its operations. -/
theorem part4_form (d0 : Dev nD) (v2 v20 v25 : BitVec 32) (h1 : k0_cond1 i = 1#1) :
    k0_part4 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 d0 v2 v20 v25 h1 (SemArray.scalar (sig.barrier 0 rfl)) =
    (sigK (k0_cond31 d0 = 1#1) (fun h => ⟨k0_dev30, k0_dev30_lt i d0 h1 h⟩) fun _ =>
    sigK (k0_cond32 d0 = 1#1) (fun h => ⟨k0_dev31, k0_dev31_lt i d0 h1 h⟩) fun _ =>
    sigK (k0_cond33 d0 = 1#1) (fun h => ⟨k0_dev32, k0_dev32_lt i d0 h1 h⟩) fun _ =>
    semWaitWord barS 31#32 >>= fun _ =>
    Prog.lift (.load arg2 (Rect.unit (s := S128x4096) ![0, 0] S128x4096.size inb_S128x4096_S128x4096_0_0).toLoadRect (View.loadsAt_vmem h_S128x4096)) >>= fun v155 =>
    Prog.lift (.load (Memref.whole cc0_scratch0 : Memref sig .tc .vmem S256x4096 .fp8e5m2) (Rect.unit (s := S256x4096) (k0_off1 d0) S128x4096.size (k0_off1_inb i d0 h1)).toLoadRect (View.loadsAt_vmem h_S128x4096)) >>= fun _ =>
    Prog.lift (.store (Memref.whole cc0_scratch0 : Memref sig .tc .vmem S256x4096 .fp8e5m2) (Rect.unit (s := S256x4096) (k0_off1 d0) S128x4096.size (k0_off1_inb i d0 h1)) (k0_pay5 v155) Finset.univ
      (View.stores_vmem h_S128x4096 ((Memref.isWhole_whole cc0_scratch0).storeExact_slice rfl _ (k0_off1_packedfp8e5m2 i d0 h1)) (fun _ => rfl)) (.inl rfl)) >>= fun _ =>
    Prog.lift (.enqueueDma (hM (k0_off2 d0) (k0_off2_inb i d0 h1))
      (.remote (Dev.tc (⟨k0_dev33 d0, k0_dev33_lt i d0 h1⟩ : Dev nD)) (hM (k0_off2 d0) (k0_off2_inb i d0 h1)) (.dma xsS)) (.dma xrS)
      ((Memref.isWhole_whole cc0_scratch0).wordExact_slice rfl _ (k0_off2_wordsfp8e5m2 i d0 h1)) ((Memref.isWhole_whole cc0_scratch0).wordExact_slice rfl _ (k0_off2_wordsfp8e5m2 i d0 h1))
      ⟨⟨rfl, Or.inl rfl⟩, trivial⟩) >>= fun _ =>
    Prog.lift (.waitDma2 xsS (hM (k0_off2 d0) (k0_off2_inb i d0 h1)) (hM (k0_off2 d0) (k0_off2_inb i d0 h1))
      ((Memref.isWhole_whole cc0_scratch0).wordExact_slice rfl _ (k0_off2_wordsfp8e5m2 i d0 h1)) ((Memref.isWhole_whole cc0_scratch0).wordExact_slice rfl _ (k0_off2_wordsfp8e5m2 i d0 h1))) >>= fun _ =>
    Pure.pure ⟨⟩) := by
  rw [k0_part4_eq_skeleton]; rfl

/-- What the exchange takes: the barrier's credit and position, the own half, the duties of both ends of the pair exchange. -/
def exR : sProp 𝕄 :=
  iprop(cred (tallyAt (barC c) () 31) ∗ atPos ER (barC c) 0 ∅ 0 ∗ (∃ f, hPt c (bC c) f)
    ∗ (dutyTok ER (dmaC c xsS) 0 c ∗ reached ER (dmaC c xsS) 0 ∗ dutyTok ER (dmaC (partner c) xrS) 0 c)
    ∗ cred (tallyAt (dmaC c xrS) () N1) ∗ atPos ER (dmaC c xsS) 0 ∅ 0 ∗ atPos ER (dmaC c xrS) 0 ∅ 0)

/-- The last signals, the barrier, the own half sent. -/
theorem bar4 (W : Waits sig Unit) (R : sProp 𝕄) (v2 v20 v25 : BitVec 32) (h1 : k0_cond1 i = 1#1) :
    barI I K c 29 W iprop(exR c ∗ owns (c : Thread nD τ) arg2 fullShare (I.x c) ∗ R)
      ⊢ WP c (k0_part4 i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 c v2 v20 v25 h1 (SemArray.scalar (sig.barrier 0 rfl)))
      fun _ => iprop(recs I K ∗ (∃ W, owes (c : Thread nD τ) (Orv c 0) W) ∗ hPt c (bC c) (PAIR I c)
        ∗ bigSep (Finset.univ.erase (0 : Fin 16)) (fun u => slotPay (rcv c u) c)
        ∗ atPos ER (barC c) 1 ∅ 0 ∗ atPos ER (dmaC c xsS) 1 ∅ 0
        ∗ cred (tallyAt (dmaC c xrS) () N1) ∗ atPos ER (dmaC c xrS) 0 ∅ 0 ∗ owns (c : Thread nD τ) arg2 fullShare (I.x c) ∗ R) := by
  rw [part4_form]
  refine sigK_step I K c 29 (by decide) W _ _ ?_ _ ?_ _ _ ?_
  · exact cond31_iff c
  · exact fun _ => Fin.ext k0_dev30_eq
  refine sigK_step I K c 30 (by decide) W _ _ ?_ _ ?_ _ _ ?_
  · exact cond32_iff c
  · exact fun _ => Fin.ext k0_dev31_eq
  refine sigK_step I K c 31 (by decide) W _ _ ?_ _ ?_ _ _ ?_
  · exact cond33_iff c
  · exact fun _ => Fin.ext k0_dev32_eq
  have hO : Oxr c + Obar c (31 + 1) = Oxr c := by
    unfold Obar
    rw [show later c (31 + 1) = ∅ from later_top c, Finset.sum_empty, add_zero]
  unfold barI exR
  rw [hO]
  iintro ⟨#HR, HO, -, ⟨Hc, Hat, ⟨%f, Hh⟩, ⟨Ht, #Hr, Ht'⟩, Hcx, Hxs, Hxr⟩, Hx, HX⟩
  iapply (bar_wait I K c) $$ [HO Hc Hat]
  · isplitr; · iexact HR
    isplitl [HO]; · iexact HO
    isplitl [Hc]; · iexact Hc
    iexact Hat
  iintro ⟨⟨%W', HO⟩, Hat, Hpay⟩
  have e := reidx c (fun d => slotPay (F := F) d c) (fun d => halfPay (F := F) d c) (col_iff c)
  ihave Hp := (Entails.of_eq (show bigSep (Finset.univ.erase c) (fun d => barPay (F := F) d c) = _ from e)) $$ Hpay
  icases Hp with ⟨Hslots, Hhalf⟩
  unfold halfPay
  icases Hhalf with ⟨Hd, #Hr'⟩
  iapply (load_owns c (m := arg2) (off := ![0, 0]) (by decide)) $$ Hx
  iintro Hx
  iapply (load_rect c (m := (Memref.whole cc0_scratch0 : Memref sig .tc .vmem S256x4096 .fp8e5m2)) (r := Rect.unit (s := S256x4096) (k0_off1 c) S128x4096.size (k0_off1_inb i c h1)) (S := halfSet (bC c)) (f := f)
    (subset_of_eq (hAcc_set (bC c) _ _ (off1_eq c)))) $$ Hh
  iintro Hh
  iapply (store_rect c (m := (Memref.whole cc0_scratch0 : Memref sig .tc .vmem S256x4096 .fp8e5m2)) (r := Rect.unit (s := S256x4096) (k0_off1 c) S128x4096.size (k0_off1_inb i c h1)) (S := halfSet (bC c)) (f := f)
    (subset_of_eq (hAcc_set (bC c) _ _ (off1_eq c)))) $$ Hh
  iintro Hh
  ihave Hh' := (Entails.of_eq (h_stored I c (k0_off1 c) (k0_off1_inb i c h1) (off1_eq c) f)) $$ Hh
  iapply (half_send I K c (off2_eq c) (off2_eq c) (d := ⟨k0_dev33 c, k0_dev33_lt i c h1⟩) (Fin.ext (dev33_eq c))) $$ [HO Hh' Hd Ht Ht']
  · isplitr; · iexact HR
    isplitl [HO]; · iexact HO
    isplitl [Hh']; · iexact Hh'
    isplitl [Hd]; · iexact Hd
    isplitl [Ht]; · iexact Ht
    isplitr; · iexact Hr
    isplitl [Ht']; · iexact Ht'
    iexact Hr'
  iintro ⟨Hcs, HO⟩
  iapply (dma_wait I K c (sem := xsS) (O := Orv c 0) (src := hM (k0_off2 c) (k0_off2_inb i c h1)) (dst := hM (k0_off2 c) (k0_off2_inb i c h1))
    (hs := (Memref.isWhole_whole cc0_scratch0).wordExact_slice rfl _ (k0_off2_wordsfp8e5m2 i c h1)) (hd := (Memref.isWhole_whole cc0_scratch0).wordExact_slice rfl _ (k0_off2_wordsfp8e5m2 i c h1)) (xs_mem c) (mayWait_lt c (.dma xsS) 3 (Orv c 0) (by rw [cls_xs]; decide) (Orv_pos c 0)) (expect_xs I c) (rest_xs I c)) $$ [HO Hcs Hxs]
  · isplitr; · iexact HR
    isplitl [HO]; · iexact HO
    isplitl [Hcs]; · iexact Hcs
    iexact Hxs
  iintro ⟨HO, Hxs, Hh⟩
  iapply (WP_ret c)
  isplitr; · iexact HR
  isplitl [HO]; · iexact HO
  isplitl [Hh]; · iexact Hh
  isplitl [Hslots]; · iexact Hslots
  isplitl [Hat]; · iexact Hat
  isplitl [Hxs]; · iexact Hxs
  isplitl [Hcx]; · iexact Hcx
  isplitl [Hxr]; · iexact Hxr
  isplitl [Hx]; · iexact Hx
  iexact HX

end Cert.Talk

end
-- ==== Proof.Form.lean ====
/-
  The body's pieces in sequence.
-/
module

public import proofs.«01_k».proof.Proof.Exch

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

/-! ## The pieces before the rest `k` -/

/-- The exchange, at the first point; -/
def exchK (d0 : Dev nD) (v2 v20 v25 : BitVec 32) {α : Type} (k : PUnit.{1} → Prog (TpuEff nD τ sig (Elt F) Λ₀ .tc) α) : Prog (TpuEff nD τ sig (Elt F) Λ₀ .tc) α :=
  if h1 : k0_cond1 i = 1#1 then (k0_part1 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 d0 v2 h1 >>= fun v58 => k0_part2 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 d0 v2 h1 v58 >>= fun _ => k0_part3 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 d0 v2 h1 v58 >>= fun _ =>
    k0_part4 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 d0 v2 v20 v25 h1 v58 >>= fun _ =>
    Prog.lift (.waitDma2 xrS (hM (k0_off3 d0) (k0_off3_inb i d0 h1)) (hM (k0_off3 d0) (k0_off3_inb i d0 h1))
      ((Memref.isWhole_whole cc0_scratch0).wordExact_slice rfl _ (k0_off3_wordsfp8e5m2 i d0 h1)) ((Memref.isWhole_whole cc0_scratch0).wordExact_slice rfl _ (k0_off3_wordsfp8e5m2 i d0 h1))) >>= fun _ => k ⟨⟩) else k ⟨⟩
/-- the own tile, at the first point; -/
def ownK (d0 : Dev nD) (v31 : F .f32) (v33 : FVec F S4096x256 .fp8e5m2) (v34 : Vec F S256x4096 .fp8e5m2) (cst : FVec F S256x256 .f32)
    {α : Type} (k : PUnit.{1} → Prog (TpuEff nD τ sig (Elt F) Λ₀ .tc) α) : Prog (TpuEff nD τ sig (Elt F) Λ₀ .tc) α :=
  if h : k0_cond34 i d0 = 1#1 then (
    Prog.lift (.load (Memref.whole cc0_scratch2 : Memref sig .tc .vmem S16x256x256 .bf16) (Rect.unit (s := S16x256x256) (k0_off4 d0) S1x256x256.size (k0_off4_inb i d0 h)).toLoadRect (View.loadsAt_vmem h_S1x256x256)) >>= fun _ =>
    Prog.lift (.store (Memref.whole cc0_scratch2 : Memref sig .tc .vmem S16x256x256 .bf16) (Rect.unit (s := S16x256x256) (k0_off4 d0) S1x256x256.size (k0_off4_inb i d0 h)) (k0_pay2 v31 v33 v34 cst) Finset.univ
      (View.stores_vmem h_S1x256x256 ((Memref.isWhole_whole cc0_scratch2).storeExact_slice rfl _ (k0_off4_packedbf16 i d0 h)) (fun _ => rfl)) (.inl rfl)) >>= fun _ => k ⟨⟩) else k ⟨⟩
/-- another device's tile, at the others; -/
def tileK (d0 : Dev nD) (v31 : F .f32) (v33 : FVec F S4096x256 .fp8e5m2) (v34 : Vec F S256x4096 .fp8e5m2) (cst : FVec F S256x256 .f32)
    {α : Type} (k : PUnit.{1} → Prog (TpuEff nD τ sig (Elt F) Λ₀ .tc) α) : Prog (TpuEff nD τ sig (Elt F) Λ₀ .tc) α :=
  if h : k0_cond35 i d0 = 1#1 then (
    Prog.lift (.load (Memref.whole cc0_scratch1 : Memref sig .tc .vmem S16x256x256 .bf16) (Rect.unit (s := S16x256x256) (k0_off5 i) S1x256x256.size (k0_off5_inb i d0 h)).toLoadRect (View.loadsAt_vmem h_S1x256x256)) >>= fun _ =>
    Prog.lift (.store (Memref.whole cc0_scratch1 : Memref sig .tc .vmem S16x256x256 .bf16) (Rect.unit (s := S16x256x256) (k0_off5 i) S1x256x256.size (k0_off5_inb i d0 h)) (k0_pay3 v31 v33 v34 cst) Finset.univ
      (View.stores_vmem h_S1x256x256 ((Memref.isWhole_whole cc0_scratch1).storeExact_slice rfl _ (k0_off5_packedbf16 i d0 h)) (fun _ => rfl)) (.inl rfl)) >>= fun _ =>
    Prog.lift (.enqueueDma (sM (k0_off9 i) (k0_off9_inb i d0 h))
      (.remote (Dev.tc (⟨k0_dev34 i d0, k0_dev34_lt i d0 h⟩ : Dev nD)) (rM (k0_off8 d0) (k0_off8_inb i d0 h))
        (.dma ((cc0_scratch5.slice (Rect.unit (s := S16) (k0_off6 i) S1.size (k0_off6_inb i d0 h))).squeeze S_ squeezes_S1_S_).sem))
      (.dma ((cc0_scratch6.slice (Rect.unit (s := S16) (k0_off7 d0) S1.size (k0_off7_inb i d0 h))).squeeze S_ squeezes_S1_S_).sem)
      (((Memref.isWhole_whole cc0_scratch1).wordExact_slice rfl _ (k0_off9_wordsbf16 i d0 h)).reshape _ _) (((Memref.isWhole_whole cc0_scratch2).wordExact_slice rfl _ (k0_off8_wordsbf16 i d0 h)).reshape _ _)
      ⟨⟨rfl, Or.inl rfl⟩, trivial⟩) >>= fun _ => k ⟨⟩) else k ⟨⟩
/-- the waits, at the last point; -/
def waitsK (v2 v19 v20 : BitVec 32) {α : Type} (k : PUnit.{1} → Prog (TpuEff nD τ sig (Elt F) Λ₀ .tc) α) : Prog (TpuEff nD τ sig (Elt F) Λ₀ .tc) α :=
    k0_part5 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 >>= fun _ => k0_part6 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 >>= fun _ => k0_part7 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 >>= fun _ =>
    k0_part8 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20 >>= fun v => k0_part9 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v.1 v.2 >>= fun _ =>
    recvK (rCond v2 24#32 = 1#1) ![12] inb_S16_S1_12 ![12, 0, 0] ![0, 0, 0] inb_S16x256x256_S1x256x256_0_0_0 inb_S16x256x256_S1x256x256_12_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_12_0_0).reshape _ _) fun _ =>
    recvK (rCond v2 26#32 = 1#1) ![13] inb_S16_S1_13 ![13, 0, 0] ![0, 0, 0] inb_S16x256x256_S1x256x256_0_0_0 inb_S16x256x256_S1x256x256_13_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_13_0_0).reshape _ _) fun _ =>
    recvK (rCond v2 28#32 = 1#1) ![14] inb_S16_S1_14 ![14, 0, 0] ![0, 0, 0] inb_S16x256x256_S1x256x256_0_0_0 inb_S16x256x256_S1x256x256_14_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_14_0_0).reshape _ _) fun _ =>
    recvK (rCond v2 30#32 = 1#1) ![15] inb_S16_S1_15 ![15, 0, 0] ![0, 0, 0] inb_S16x256x256_S1x256x256_0_0_0 inb_S16x256x256_S1x256x256_15_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_15_0_0).reshape _ _) fun _ =>
    k ⟨⟩
/-- and the result. -/
def outK : Prog (TpuEff nD τ sig (Elt F) Λ₀ .tc) PUnit.{1} :=
    Prog.lift (.load (Memref.whole cc0_scratch2 : Memref sig .tc .vmem S16x256x256 .bf16) (Rect.unit (s := S16x256x256) ![0, 0, 0] S16x256x256.size inb_S16x256x256_S16x256x256_0_0_0).toLoadRect (View.loadsAt_vmem h_S16x256x256)) >>= fun v250 =>
    Prog.lift (.load arg6 (Rect.unit (s := S4096x256) ![0, 0] S4096x256.size inb_S4096x256_S4096x256_0_0).toLoadRect (View.loadsAt_vmem h_S4096x256)) >>= fun _ =>
    Prog.lift (.store arg6 (Rect.unit (s := S4096x256) ![0, 0] S4096x256.size inb_S4096x256_S4096x256_0_0) (k0_pay4 v250) Finset.univ
      (View.stores_vmem_bits_univ h_S4096x256 rfl) (.inl rfl)) >>= fun _ => Pure.pure ⟨⟩
/-- The last part of the body, run at the last grid point only. -/
def endK (v2 v19 v20 : BitVec 32) : Prog (TpuEff nD τ sig (Elt F) Λ₀ .tc) PUnit.{1} :=
  if h : k0_cond36 i = 1#1 then waitsK i arg1 harg1 arg2 harg2 arg3 harg3 arg4 harg4 arg5 harg5 arg6 harg6 v2 v19 v20 (fun _ => outK arg6) else Pure.pure ⟨⟩

/-- The opening part of the body, as the exchange followed by the loads. -/
theorem part10_form : k0_part10 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 =
    (Prog.lift .deviceId >>= fun d0 => exchK i arg1 harg1 arg2 harg2 arg3 harg3 arg4 harg4 arg5 harg5 arg6 harg6 d0 (wP d0) (Scalar.remsi (wP d0) 2#32) (Scalar.muli (Scalar.remsi (wP d0) 2#32) 128#32) fun _ =>
    smemLoad arg4 (Rect.unit (s := S1) ![0] S1.size inb_S1_S1_0) numel1_S1 rfl >>= fun v29 =>
    smemLoad arg5 (Rect.unit (s := S1) ![0] S1.size inb_S1_S1_0) numel1_S1 rfl >>= fun v30 =>
    Prog.lift (.load arg3 (Rect.unit (s := S4096x256) ![0, 0] S4096x256.size inb_S4096x256_S4096x256_0_0).toLoadRect (View.loadsAt_vmem h_S4096x256)) >>= fun v32 =>
    Prog.lift (.load (Memref.whole cc0_scratch0 : Memref sig .tc .vmem S256x4096 .fp8e5m2) (Rect.unit (s := S256x4096) ![0, 0] S256x4096.size inb_S256x4096_S256x4096_0_0).toLoadRect (View.loadsAt_vmem h_S256x4096)) >>= fun v34 =>
    Pure.pure ⟨BitVec.ofNat 32 (i 0).val, d0, wP d0, wA (wP d0), Scalar.remsi (wP d0) 2#32,
      Scalar.addi (Scalar.muli 2#32 (Scalar.remsi (Scalar.addi (wA (wP d0)) (BitVec.ofNat 32 (i 0).val)) 16#32)) (Scalar.remsi (wP d0) 2#32),
      k0_pay6 v29 v30, k0_pay7 v32, v34, constant S256x256 .f32 0x00000000#32⟩) := by
  rw [k0_part10_eq_skeleton]; rfl

/-- The body, as its parts in sequence. -/
theorem body_form : cc0_body (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 =
    (k0_part10 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 >>= fun v =>
    ownK i v.2.1 v.2.2.2.2.2.2.1 v.2.2.2.2.2.2.2.1 v.2.2.2.2.2.2.2.2.1 v.2.2.2.2.2.2.2.2.2 fun _ =>
    tileK i v.2.1 v.2.2.2.2.2.2.1 v.2.2.2.2.2.2.2.1 v.2.2.2.2.2.2.2.2.1 v.2.2.2.2.2.2.2.2.2 fun _ =>
    endK i arg1 harg1 arg2 harg2 arg3 harg3 arg4 harg4 arg5 harg5 arg6 harg6 v.2.2.1 v.2.2.2.1 v.2.2.2.2.1) := by
  rw [cc0_body_eq_skeleton]; rfl

end Cert.Talk

end
-- ==== Proof.Point.lean ====
/-
  The pieces of the body, each from what it takes to what it leaves.
-/
module

public import proofs.«01_k».proof.Proof.Form

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

/-! ## Regroupings -/

/-- One factor split off a separating product over a finite type. -/
theorem one_off {J : Type} [Fintype J] [DecidableEq J] (j : J) (Φ : J → sProp 𝕄) : bigSep Finset.univ Φ = iprop(Φ j ∗ bigSep (Finset.univ.erase j) Φ) := by
  conv_lhs => rw [← Finset.insert_erase (Finset.mem_univ j)]
  exact bigSep_insert (Finset.notMem_erase j _)

/-- A pure fact on the left may be assumed. -/
theorem pure_left {φ : Prop} {P Q : sProp 𝕄} (h : φ → P ⊢ Q) : iprop(⌜φ⌝ ∗ P) ⊢ Q := by
  iintro ⟨%hv, H⟩
  iapply (h hv); iexact H

/-- The two halves, exchanged, are the pair buffer. -/
theorem h_whole (f : S256x4096.Idx → Elt F .fp8e5m2) : (iprop(hPt c (bC c) f ∗ hPt c (1 - bC c) f) : sProp 𝕄) = (((c : Thread nD τ).loc cc0_scratch0) ↦{fullShare} f) := by
  rw [h_split, one_off (bC c), show Finset.univ.erase (bC c) = {1 - bC c} from by generalize bC c = b; revert b; decide, bigSep_singleton]

/-- The device index read. -/
theorem dev_bind {α : Type} (k : Dev nD → Prog (TpuEff nD τ sig (Elt F) Λ₀ .tc) α) (Q : α → sProp 𝕄) : WP c (Prog.lift .deviceId >>= k) Q = WP c (k c) Q := by
  unfold WP
  simp only [Prog.lift, Prog.bind_op, Prog.bind_ret]
  exact wp_deviceId ..

/-! ## The exchange -/

/-- The exchange of the rows at the first grid point, followed by the rest. -/
theorem exch_step {α : Type} (W : Waits sig Unit) (R : sProp 𝕄) (v2 v20 v25 : BitVec 32) (hi : (i 0).val = 0) (k : PUnit.{1} → Prog (TpuEff nD τ sig (Elt F) Λ₀ .tc) α) (Q : α → sProp 𝕄)
    (h : iprop(recs I K ∗ (∃ W, owes (c : Thread nD τ) (Orv c 0) W) ∗ (((c : Thread nD τ).loc cc0_scratch0) ↦{fullShare} PAIR I c)
        ∗ bigSep (Finset.univ.erase (0 : Fin 16)) (fun u => slotPay (rcv c u) c)
        ∗ atPos ER (barC c) 1 ∅ 0 ∗ atPos ER (dmaC c xsS) 1 ∅ 0 ∗ atPos ER (dmaC c xrS) 1 ∅ 0
        ∗ owns (c : Thread nD τ) arg2 fullShare (I.x c) ∗ R) ⊢ WP c (k ⟨⟩) Q) :
    barI I K c 0 W iprop(exR c ∗ owns (c : Thread nD τ) arg2 fullShare (I.x c) ∗ R) ⊢ WP c (exchK i arg1 harg1 arg2 harg2 arg3 harg3 arg4 harg4 arg5 harg5 arg6 harg6 c v2 v20 v25 k) Q := by
  unfold exchK
  rw [dif_pos ((cond1_iff i).mpr hi)]
  refine WP_bind c (bar1 I K c i arg1 harg1 arg2 harg2 arg3 harg3 arg4 harg4 arg5 harg5 arg6 harg6 W _ v2 _) fun v58 => ?_
  refine pure_left fun hv => ?_
  subst hv
  refine WP_bind c (bar2 I K c i arg1 harg1 arg2 harg2 arg3 harg3 arg4 harg4 arg5 harg5 arg6 harg6 W _ v2 _) fun _ => ?_
  refine WP_bind c (bar3 I K c i arg1 harg1 arg2 harg2 arg3 harg3 arg4 harg4 arg5 harg5 arg6 harg6 W _ v2 _) fun _ => ?_
  refine WP_bind c (bar4 I K c i arg1 harg1 arg2 harg2 arg3 harg3 arg4 harg4 arg5 harg5 arg6 harg6 W R v2 v20 v25 _) fun _ => ?_
  iintro ⟨#HR, ⟨%W', HO⟩, Hh, Hsl, Hb, Hxs, Hc, Hxr, Hx, HX⟩
  iapply (dma_wait I K c (sem := xrS) (O := Orv c 0) (src := hM (k0_off3 c) (k0_off3_inb i c ((cond1_iff i).mpr hi))) (dst := hM (k0_off3 c) (k0_off3_inb i c ((cond1_iff i).mpr hi)))
    (hs := (Memref.isWhole_whole cc0_scratch0).wordExact_slice rfl _ (k0_off3_wordsfp8e5m2 i c ((cond1_iff i).mpr hi))) (hd := (Memref.isWhole_whole cc0_scratch0).wordExact_slice rfl _ (k0_off3_wordsfp8e5m2 i c ((cond1_iff i).mpr hi))) (xr_mem c) (mayWait_lt c (.dma xrS) 3 (Orv c 0) (by rw [cls_xr]; decide) (Orv_pos c 0)) (expect_xr I c) (rest_xr I c)) $$ [HO Hc Hxr]
  · isplitr; · iexact HR
    isplitl [HO]; · iexact HO
    isplitl [Hc]; · iexact Hc
    iexact Hxr
  iintro ⟨HO, Hxr, Hh'⟩
  iapply h
  isplitr; · iexact HR
  isplitl [HO]; · iexact HO
  isplitl [Hh Hh']
  · iapply (Entails.of_eq (h_whole c (PAIR I c)))
    isplitl [Hh]; · iexact Hh
    iexact Hh'
  isplitl [Hsl]; · iexact Hsl
  isplitl [Hb]; · iexact Hb
  isplitl [Hxs]; · iexact Hxs
  isplitl [Hxr]; · iexact Hxr
  isplitl [Hx]; · iexact Hx
  iexact HX

/-! ## The loads -/

variable (X3 : Vec F S4096x256 .fp8e5m2) (X4 X5 : Vec F S1 .f32)

/-- What the loads read: the columns of `w`, the scales, the pair buffer. -/
def opR : sProp 𝕄 :=
  iprop(owns (c : Thread nD τ) arg3 fullShare X3 ∗ owns (c : Thread nD τ) arg4 fullShare X4 ∗ owns (c : Thread nD τ) arg5 fullShare X5
    ∗ (((c : Thread nD τ).loc cc0_scratch0) ↦{fullShare} PAIR I c))

/-- The loads of the scales, the weights and the pair of rows, followed by the rest. -/
theorem loads_step {α : Type} (i0 : S1.Idx) (R : sProp 𝕄) (k : F .f32 → F .f32 → Vec F S4096x256 .fp8e5m2 → Vec F S256x4096 .fp8e5m2 → Prog (TpuEff nD τ sig (Elt F) Λ₀ .tc) α) (Q : α → sProp 𝕄)
    (h : iprop(opR I c arg3 arg4 arg5 X3 X4 X5 ∗ R) ⊢ WP c (k (X4 i0) (X5 i0) X3 (PAIR I c)) Q) :
    iprop(opR I c arg3 arg4 arg5 X3 X4 X5 ∗ R) ⊢ WP c (
      smemLoad arg4 (Rect.unit (s := S1) ![0] S1.size inb_S1_S1_0) numel1_S1 rfl >>= fun v29 =>
      smemLoad arg5 (Rect.unit (s := S1) ![0] S1.size inb_S1_S1_0) numel1_S1 rfl >>= fun v30 =>
      Prog.lift (.load arg3 (Rect.unit (s := S4096x256) ![0, 0] S4096x256.size inb_S4096x256_S4096x256_0_0).toLoadRect (View.loadsAt_vmem h_S4096x256)) >>= fun v32 =>
      Prog.lift (.load (Memref.whole cc0_scratch0 : Memref sig .tc .vmem S256x4096 .fp8e5m2) (Rect.unit (s := S256x4096) ![0, 0] S256x4096.size inb_S256x4096_S256x4096_0_0).toLoadRect (View.loadsAt_vmem h_S256x4096)) >>= fun v34 =>
      k v29 v30 v32 v34) Q := by
  unfold opR
  iintro ⟨⟨H3, H4, H5, H0⟩, HX⟩
  iapply (smem_owns c i0) $$ H4
  iintro H4
  iapply (smem_owns c i0) $$ H5
  iintro H5
  iapply (load_owns c (m := arg3) (off := ![0, 0]) (by decide)) $$ H3
  iintro H3
  ihave H0' := (Entails.of_eq (owns_whole (c : Thread nD τ) cc0_scratch0 fullShare (PAIR I c)).symm) $$ H0
  iapply (load_owns c (m := (Memref.whole cc0_scratch0 : Memref sig .tc .vmem S256x4096 .fp8e5m2)) (off := ![0, 0]) (by decide)) $$ H0'
  iintro H0
  ihave H0' := (Entails.of_eq (owns_whole (c : Thread nD τ) cc0_scratch0 fullShare (PAIR I c))) $$ H0
  iapply h
  unfold opR
  isplitr [HX]
  · isplitl [H3]; · iexact H3
    isplitl [H4]; · iexact H4
    isplitl [H5]; · iexact H5
    iexact H0'
  iexact HX

/-! ## The tiles -/

/-- The device's own tile is stored in its receive slot, followed by the rest. -/
theorem own_step {α : Type} (R : sProp 𝕄) (hi : (i 0).val = 0) (k : PUnit.{1} → Prog (TpuEff nD τ sig (Elt F) Λ₀ .tc) α) (Q : α → sProp 𝕄)
    (h : iprop(rPt c (aC c) (RBc I c) ∗ R) ⊢ WP c (k ⟨⟩) Q) :
    iprop((∃ f, rPt c (aC c) f) ∗ R) ⊢ WP c (ownK i c (I.s c) (k0_pay7 (I.w c 0)) (PAIR I c) (constant S256x256 .f32 0x00000000#32) k) Q := by
  unfold ownK
  rw [dif_pos ((cond34_iff i c).mpr hi)]
  iintro ⟨⟨%f, H⟩, HX⟩
  iapply (load_rect c (m := (Memref.whole cc0_scratch2 : Memref sig .tc .vmem S16x256x256 .bf16)) (r := Rect.unit (s := S16x256x256) (k0_off4 c) S1x256x256.size (k0_off4_inb i c ((cond34_iff i c).mpr hi))) (S := slotSet (aC c)) (f := f)
    (subset_of_eq (rAcc_set (aC c) _ _ (off4_eq c)))) $$ H
  iintro H
  iapply (store_rect c (m := (Memref.whole cc0_scratch2 : Memref sig .tc .vmem S16x256x256 .bf16)) (r := Rect.unit (s := S16x256x256) (k0_off4 c) S1x256x256.size (k0_off4_inb i c ((cond34_iff i c).mpr hi))) (S := slotSet (aC c)) (f := f)
    (subset_of_eq (rAcc_set (aC c) _ _ (off4_eq c)))) $$ H
  iintro H
  ihave H' := (Entails.of_eq (r_stored I c (k0_off4 c) (k0_off4_inb i c ((cond34_iff i c).mpr hi)) (off4_eq c) f)) $$ H
  iapply h
  isplitl [H']; · iexact H'
  iexact HX
/-- At a later grid point no own tile is stored. -/
theorem own_skip {α : Type} (hi : (i 0).val ≠ 0) (v31 : F .f32) (v33 : FVec F S4096x256 .fp8e5m2) (v34 : Vec F S256x4096 .fp8e5m2) (cst : FVec F S256x256 .f32) (k : PUnit.{1} → Prog (TpuEff nD τ sig (Elt F) Λ₀ .tc) α) :
    ownK i c v31 v33 v34 cst k = k ⟨⟩ := by
  unfold ownK
  exact dif_neg fun h => hi ((cond34_iff i c).mp h)

/-- The send slot of a grid point, as it is stored. -/
theorem off5_eq : ∀ i : grid0.Coords, k0_off5 i = ![(i 0).val, 0, 0] := by decide +kernel
/-- The send counter of a grid point. -/
theorem off6_eq : ∀ i : grid0.Coords, k0_off6 i = ![(i 0).val] := by decide +kernel
/-- The send slot of a grid point, as it is sent. -/
theorem off9_eq : ∀ i : grid0.Coords, k0_off9 i = ![(i 0).val, 0, 0] := by decide +kernel

/-- The tile is stored in its send slot and its copy started, followed by the rest. -/
theorem tile_step {α : Type} (R : sProp 𝕄) (u : Fin 16) (hu : u ≠ 0) (hi : (i 0).val = u.val) (k : PUnit.{1} → Prog (TpuEff nD τ sig (Elt F) Λ₀ .tc) α) (Q : α → sProp 𝕄)
    (h : iprop(recs I K ∗ (∃ W, owes (c : Thread nD τ) (Orv c (u.val + 1)) W) ∗ cred (tallyAt (dmaC c (sdS u)) () N2) ∗ R) ⊢ WP c (k ⟨⟩) Q) :
    iprop(recs I K ∗ (∃ W, owes (c : Thread nD τ) (Orv c u.val) W) ∗ sendTodo c u ∗ R)
      ⊢ WP c (tileK i c (I.s c) (k0_pay7 (I.w c u)) (PAIR I c) (constant S256x256 .f32 0x00000000#32) k) Q := by
  have hne : (i 0).val ≠ 0 := fun e => hu (Fin.ext (hi.symm.trans e))
  have hr : (⟨k0_dev34 i c, k0_dev34_lt i c ((cond35_iff i c).mpr hne)⟩ : Dev nD) = rcv c u := Fin.ext ((dev34_eq i c).trans (congrArg (fun u => (rcv c u).val) (Fin.ext hi)))
  unfold tileK sendTodo
  rw [dif_pos ((cond35_iff i c).mpr hne)]
  iintro ⟨#HR, ⟨%W, HO⟩, ⟨Ht, #Hr, Ht', Hsl, ⟨%f, H⟩⟩, HX⟩
  iapply (load_rect c (m := (Memref.whole cc0_scratch1 : Memref sig .tc .vmem S16x256x256 .bf16)) (r := Rect.unit (s := S16x256x256) (k0_off5 i) S1x256x256.size (k0_off5_inb i c ((cond35_iff i c).mpr hne))) (S := slotSet u) (f := f)
    (subset_of_eq (sAcc_set u _ _ ((off5_eq i).trans (by rw [hi]))))) $$ H
  iintro H
  iapply (store_rect c (m := (Memref.whole cc0_scratch1 : Memref sig .tc .vmem S16x256x256 .bf16)) (r := Rect.unit (s := S16x256x256) (k0_off5 i) S1x256x256.size (k0_off5_inb i c ((cond35_iff i c).mpr hne))) (S := slotSet u) (f := f)
    (subset_of_eq (sAcc_set u _ _ ((off5_eq i).trans (by rw [hi]))))) $$ H
  iintro H
  ihave H' := (Entails.of_eq (s_stored I c u (k0_off5 i) (k0_off5_inb i c ((cond35_iff i c).mpr hne)) ((off5_eq i).trans (by rw [hi])) f)) $$ H
  iapply (tile_send I K c u hu ((off9_eq i).trans (by rw [hi])) (off8_eq c) hr (sdS_eq u _ _ ((off6_eq i).trans (by rw [hi]))) (rvS_eq (aC c) _ _ (off7_eq c))) $$ [HO H' Hsl Ht Ht']
  · isplitr; · iexact HR
    isplitl [HO]; · iexact HO
    isplitl [H']; · iexact H'
    isplitl [Hsl]; · iexact Hsl
    isplitl [Ht]; · iexact Ht
    isplitr; · iexact Hr
    iexact Ht'
  iintro ⟨Hc, HO⟩
  iapply h
  isplitr; · iexact HR
  isplitl [HO]; · iexists W; iexact HO
  isplitl [Hc]; · iexact Hc
  iexact HX
/-- At the first grid point nothing is sent. -/
theorem tile_skip {α : Type} (hi : (i 0).val = 0) (v31 : F .f32) (v33 : FVec F S4096x256 .fp8e5m2) (v34 : Vec F S256x4096 .fp8e5m2) (cst : FVec F S256x256 .f32) (k : PUnit.{1} → Prog (TpuEff nD τ sig (Elt F) Λ₀ .tc) α) :
    tileK i c v31 v33 v34 cst k = k ⟨⟩ := by
  unfold tileK
  exact dif_neg fun h => (cond35_iff i c).mp h hi

/-! ## The last point -/

/-- Before the last grid point the closing does nothing. -/
theorem end_skip (hi : (i 0).val ≠ 15) (v2 v19 v20 : BitVec 32) : endK (F := F) i arg1 harg1 arg2 harg2 arg3 harg3 arg4 harg4 arg5 harg5 arg6 harg6 v2 v19 v20 = Pure.pure ⟨⟩ := by
  unfold endK
  exact dif_neg fun h => hi ((cond36_iff i).mp h)

/-- If each part of the closing runs from what the part before it leaves, the closing runs. -/
theorem end_seq {α : Type} (v2 v19 v20 : BitVec 32) (w : (_ : BitVec 32) ×' BitVec 32) {P0 P1 P2 P3 P4 P5 : sProp 𝕄}
    (k : PUnit.{1} → Prog (TpuEff nD τ sig (Elt F) Λ₀ .tc) α) (Q : α → sProp 𝕄)
    (h5 : P0 ⊢ WP c (k0_part5 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20) fun _ => P1) (h6 : P1 ⊢ WP c (k0_part6 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20) fun _ => P2)
    (h7 : P2 ⊢ WP c (k0_part7 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20) fun _ => P3) (h8 : P3 ⊢ WP c (k0_part8 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 v19 v20) fun v => iprop(⌜v = w⌝ ∗ P4))
    (h9 : P4 ⊢ WP c (k0_part9 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 v2 w.1 w.2) fun _ => P5) (h : P5 ⊢ WP c (recvK (rCond v2 24#32 = 1#1) ![12] inb_S16_S1_12 ![12, 0, 0] ![0, 0, 0] inb_S16x256x256_S1x256x256_0_0_0 inb_S16x256x256_S1x256x256_12_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_12_0_0).reshape _ _) fun _ =>
    recvK (rCond v2 26#32 = 1#1) ![13] inb_S16_S1_13 ![13, 0, 0] ![0, 0, 0] inb_S16x256x256_S1x256x256_0_0_0 inb_S16x256x256_S1x256x256_13_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_13_0_0).reshape _ _) fun _ =>
    recvK (rCond v2 28#32 = 1#1) ![14] inb_S16_S1_14 ![14, 0, 0] ![0, 0, 0] inb_S16x256x256_S1x256x256_0_0_0 inb_S16x256x256_S1x256x256_14_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_14_0_0).reshape _ _) fun _ =>
    recvK (rCond v2 30#32 = 1#1) ![15] inb_S16_S1_15 ![15, 0, 0] ![0, 0, 0] inb_S16x256x256_S1x256x256_0_0_0 inb_S16x256x256_S1x256x256_15_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_15_0_0).reshape _ _) fun _ =>
    k ⟨⟩) Q) :
    P0 ⊢ WP c (waitsK i arg1 harg1 arg2 harg2 arg3 harg3 arg4 harg4 arg5 harg5 arg6 harg6 v2 v19 v20 k) Q := by
  unfold waitsK
  refine WP_bind c h5 fun _ => ?_
  refine WP_bind c h6 fun _ => ?_
  refine WP_bind c h7 fun _ => ?_
  refine WP_bind c h8 fun v => ?_
  refine pure_left fun hv => ?_
  subst hv
  exact WP_bind c h9 fun _ => h

/-- The last four waits for arrivals take their slots, each with its tile. -/
theorem end_recvs {α : Type} (R : sProp 𝕄) (v2 : BitVec 32) (hv : ∀ r : Fin 16, rCond v2 (BitVec.ofNat 32 (2 * r.val)) = 1#1 ↔ r ≠ aC c) (k : PUnit.{1} → Prog (TpuEff nD τ sig (Elt F) Λ₀ .tc) α) (Q : α → sProp 𝕄)
    (h : waitI I K c rvS (aC c) (fun r => rPt c r (RBc I c)) 16 R ⊢ WP c (k ⟨⟩) Q) :
    waitI I K c rvS (aC c) (fun r => rPt c r (RBc I c)) 12 R ⊢ WP c (recvK (rCond v2 24#32 = 1#1) ![12] inb_S16_S1_12 ![12, 0, 0] ![0, 0, 0] inb_S16x256x256_S1x256x256_0_0_0 inb_S16x256x256_S1x256x256_12_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_12_0_0).reshape _ _) fun _ =>
    recvK (rCond v2 26#32 = 1#1) ![13] inb_S16_S1_13 ![13, 0, 0] ![0, 0, 0] inb_S16x256x256_S1x256x256_0_0_0 inb_S16x256x256_S1x256x256_13_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_13_0_0).reshape _ _) fun _ =>
    recvK (rCond v2 28#32 = 1#1) ![14] inb_S16_S1_14 ![14, 0, 0] ![0, 0, 0] inb_S16x256x256_S1x256x256_0_0_0 inb_S16x256x256_S1x256x256_14_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_14_0_0).reshape _ _) fun _ =>
    recvK (rCond v2 30#32 = 1#1) ![15] inb_S16_S1_15 ![15, 0, 0] ![0, 0, 0] inb_S16x256x256_S1x256x256_0_0_0 inb_S16x256x256_S1x256x256_15_0_0
      (((Memref.isWhole_whole cc0_scratch1).wordExact_slice rfl _ wordsbf16_S16x256x256_S1x256x256_0_0_0).reshape _ _) (((Memref.isWhole_whole cc0_scratch2).wordExact_slice rfl _ wordsbf16_S16x256x256_S1x256x256_15_0_0).reshape _ _) fun _ =>
    k ⟨⟩) Q := by
  refine recvK_step I K c 12 (by decide) R _ ?_ ![12] _ rfl _ _ _ _ _ _ _ _ ?_
  · exact hv ⟨12, by decide⟩
  refine recvK_step I K c 13 (by decide) R _ ?_ ![13] _ rfl _ _ _ _ _ _ _ _ ?_
  · exact hv ⟨13, by decide⟩
  refine recvK_step I K c 14 (by decide) R _ ?_ ![14] _ rfl _ _ _ _ _ _ _ _ ?_
  · exact hv ⟨14, by decide⟩
  refine recvK_step I K c 15 (by decide) R _ ?_ ![15] _ rfl _ _ _ _ _ _ _ _ ?_
  · exact hv ⟨15, by decide⟩
  exact h

set_option maxHeartbeats 1000000 in
/-- All the waits of the closing. -/
theorem end_waits {α : Type} (R : sProp 𝕄) (k : PUnit.{1} → Prog (TpuEff nD τ sig (Elt F) Λ₀ .tc) α) (Q : α → sProp 𝕄)
    (h : waitI I K c rvS (aC c) (fun r => rPt c r (RBc I c)) 16 iprop((bigSep (before 0 16) fun u => iprop(atPos ER (dmaC c (sdS u)) 1 ∅ 0 ∗ ∃ f, sPt c u f)) ∗ R) ⊢ WP c (k ⟨⟩) Q) :
    waitI I K c sdS 0 (fun u => iprop(∃ f, sPt c u f)) 0 iprop((bigSep (later (aC c) 0) fun r => iprop(cred (tallyAt (dmaC c (rvS r)) () N2) ∗ atPos ER (dmaC c (rvS r)) 0 ∅ 0)) ∗ R) ⊢ WP c (waitsK i arg1 harg1 arg2 harg2 arg3 harg3 arg4 harg4 arg5 harg5 arg6 harg6 (wP c) (wA (wP c)) (Scalar.remsi (wP c) 2#32) k) Q := by
  have h5 := sends5 I K c i arg1 harg1 arg2 harg2 arg3 harg3 arg4 harg4 arg5 harg5 arg6 harg6 iprop((bigSep (later (aC c) 0) fun r => iprop(cred (tallyAt (dmaC c (rvS r)) () N2) ∗ atPos ER (dmaC c (rvS r)) 0 ∅ 0)) ∗ R)
  have h6 := sends6 I K c i arg1 harg1 arg2 harg2 arg3 harg3 arg4 harg4 arg5 harg5 arg6 harg6 iprop((bigSep (later (aC c) 0) fun r => iprop(cred (tallyAt (dmaC c (rvS r)) () N2) ∗ atPos ER (dmaC c (rvS r)) 0 ∅ 0)) ∗ R)
  have h7 := sends7 I K c i arg1 harg1 arg2 harg2 arg3 harg3 arg4 harg4 arg5 harg5 arg6 harg6 iprop((bigSep (later (aC c) 0) fun r => iprop(cred (tallyAt (dmaC c (rvS r)) () N2) ∗ atPos ER (dmaC c (rvS r)) 0 ∅ 0)) ∗ R)
  have h8 := waits8 I K c i arg1 harg1 arg2 harg2 arg3 harg3 arg4 harg4 arg5 harg5 arg6 harg6 R
  have h9 := recvs9 I K c i arg1 harg1 arg2 harg2 arg3 harg3 arg4 harg4 arg5 harg5 arg6 harg6 iprop((bigSep (before 0 16) fun u => iprop(atPos ER (dmaC c (sdS u)) 1 ∅ 0 ∗ ∃ f, sPt c u f)) ∗ R)
  have h10 := end_recvs I K c iprop((bigSep (before 0 16) fun u => iprop(atPos ER (dmaC c (sdS u)) 1 ∅ 0 ∗ ∃ f, sPt c u f)) ∗ R) (wP c) (rCond_iff c) k Q h
  clear h
  generalize waitI I K c sdS 0 (fun u => iprop(∃ f, sPt c u f)) 0 iprop((bigSep (later (aC c) 0) fun r => iprop(cred (tallyAt (dmaC c (rvS r)) () N2) ∗ atPos ER (dmaC c (rvS r)) 0 ∅ 0)) ∗ R) = P0 at h5 ⊢
  generalize waitI I K c sdS 0 (fun u => iprop(∃ f, sPt c u f)) 5 iprop((bigSep (later (aC c) 0) fun r => iprop(cred (tallyAt (dmaC c (rvS r)) () N2) ∗ atPos ER (dmaC c (rvS r)) 0 ∅ 0)) ∗ R) = P1 at h5 h6
  generalize waitI I K c sdS 0 (fun u => iprop(∃ f, sPt c u f)) 10 iprop((bigSep (later (aC c) 0) fun r => iprop(cred (tallyAt (dmaC c (rvS r)) () N2) ∗ atPos ER (dmaC c (rvS r)) 0 ∅ 0)) ∗ R) = P2 at h6 h7
  generalize waitI I K c sdS 0 (fun u => iprop(∃ f, sPt c u f)) 15 iprop((bigSep (later (aC c) 0) fun r => iprop(cred (tallyAt (dmaC c (rvS r)) () N2) ∗ atPos ER (dmaC c (rvS r)) 0 ∅ 0)) ∗ R) = P3 at h7 h8
  generalize waitI I K c rvS (aC c) (fun r => rPt c r (RBc I c)) 5 iprop((bigSep (before 0 16) fun u => iprop(atPos ER (dmaC c (sdS u)) 1 ∅ 0 ∗ ∃ f, sPt c u f)) ∗ R) = P4 at h8 h9
  generalize waitI I K c rvS (aC c) (fun r => rPt c r (RBc I c)) 12 iprop((bigSep (before 0 16) fun u => iprop(atPos ER (dmaC c (sdS u)) 1 ∅ 0 ∗ ∃ f, sPt c u f)) ∗ R) = P5 at h9 h10
  generalize Scalar.remsi (wP c) 2#32 = v20 at h5 h6 h7 h8 h9 ⊢
  generalize wA (wP c) = v19 at h5 h6 h7 h8 ⊢
  generalize wP c = v2 at h5 h6 h7 h8 h9 h10 ⊢
  exact end_seq c i arg1 harg1 arg2 harg2 arg3 harg3 arg4 harg4 arg5 harg5 arg6 harg6 v2 v19 v20 ⟨v20, 10#32⟩ k Q h5 h6 h7 h8 h9 h10

/-- The receive slots, all filled, are the receive buffer. -/
theorem r_whole (f : S16x256x256.Idx → Elt F .bf16) : (iprop(rPt c (aC c) f ∗ bigSep (Finset.univ.erase (aC c)) (fun r => rPt c r f)) : sProp 𝕄) = (((c : Thread nD τ).loc cc0_scratch2) ↦{fullShare} f) := by
  rw [r_split, one_off (aC c)]

/-- The closing: all waits, then the result is stored. -/
theorem end_step (R : sProp 𝕄) (X6 : Vec F S4096x256 .f32) (hi : (i 0).val = 15) :
    waitI I K c sdS 0 (fun u => iprop(∃ f, sPt c u f)) 0
        iprop((bigSep (later (aC c) 0) fun r => iprop(cred (tallyAt (dmaC c (rvS r)) () N2) ∗ atPos ER (dmaC c (rvS r)) 0 ∅ 0))
          ∗ rPt c (aC c) (RBc I c) ∗ owns (c : Thread nD τ) arg6 fullShare X6 ∗ R)
      ⊢ WP c (endK i arg1 harg1 arg2 harg2 arg3 harg3 arg4 harg4 arg5 harg5 arg6 harg6 (wP c) (wA (wP c)) (Scalar.remsi (wP c) 2#32)) fun _ => iprop(recs I K ∗ (∃ W, owes (c : Thread nD τ) 0 W)
        ∗ (bigSep (Finset.univ.erase 0) fun u => iprop(atPos ER (dmaC c (sdS u)) 1 ∅ 0 ∗ ∃ f, sPt c u f))
        ∗ (bigSep (Finset.univ.erase (aC c)) fun r => atPos ER (dmaC c (rvS r)) 1 ∅ 0)
        ∗ (((c : Thread nD τ).loc cc0_scratch2) ↦{fullShare} RBc I c) ∗ owns (c : Thread nD τ) arg6 fullShare (k0_pay4 (RBc I c)) ∗ R) := by
  unfold endK
  rw [dif_pos ((cond36_iff i).mpr hi)]
  refine end_waits I K c i arg1 harg1 arg2 harg2 arg3 harg3 arg4 harg4 arg5 harg5 arg6 harg6 _ _ _ ?_
  unfold outK
  unfold waitI
  rw [before_top, before_top]
  iintro ⟨#HR, HO, -, Hrv, Hbef, Hr, H6, HX⟩
  ihave Hrv' := (Entails.of_eq (bigSep_sep' (s := Finset.univ.erase (aC c)) (Φ := fun r => atPos ER (dmaC c (rvS r)) 1 ∅ 0) (Ψ := fun r => rPt c r (RBc I c)))) $$ Hrv
  icases Hrv' with ⟨Hat, Hrs⟩
  ihave H2 := (Entails.of_eq (r_whole c (RBc I c))) $$ [Hr Hrs]
  · isplitl [Hr]; · iexact Hr
    iexact Hrs
  ihave H2' := (Entails.of_eq (owns_whole (c : Thread nD τ) cc0_scratch2 fullShare (RBc I c)).symm) $$ H2
  iapply (load_owns c (m := (Memref.whole cc0_scratch2 : Memref sig .tc .vmem S16x256x256 .bf16)) (off := ![0, 0, 0]) (by decide)) $$ H2'
  iintro H2
  ihave H2' := (Entails.of_eq (owns_whole (c : Thread nD τ) cc0_scratch2 fullShare (RBc I c))) $$ H2
  iapply (load_owns c (m := arg6) (off := ![0, 0]) (by decide)) $$ H6
  iintro H6
  iapply (store_owns c (m := arg6) (off := ![0, 0]) (by decide)) $$ H6
  iintro H6
  iapply (WP_ret c)
  isplitr; · iexact HR
  isplitl [HO]; · iexact HO
  isplitl [Hbef]; · iexact Hbef
  isplitl [Hat]; · iexact Hat
  isplitl [H2']; · iexact H2'
  isplitl [H6]; · iexact H6
  iexact HX

end Cert.Talk

end
-- ==== Proof.States.lean ====
/-
  The body at the first point, between, and at the last, from a thread state to the next.
-/
module

public import proofs.«01_k».proof.Proof.Point

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

/-! ## The thread states -/

/-- The positions of the cells that are closed only at the end, and what is to be waited for there. -/
def ends : sProp 𝕄 :=
  iprop(atPos ER (barC c) 1 ∅ 0 ∗ atPos ER (dmaC c xsS) 1 ∅ 0 ∗ atPos ER (dmaC c xrS) 1 ∅ 0
    ∗ (bigSep Finset.univ fun u : Fin 16 => atPos ER (dmaC c (sdS u)) 0 ∅ 0) ∗ (bigSep Finset.univ fun r : Fin 16 => atPos ER (dmaC c (rvS r)) 0 ∅ 0)
    ∗ (bigSep (Finset.univ.erase (aC c)) fun r => cred (tallyAt (dmaC c (rvS r)) () N2)))

/-- Before point `t ≥ 1`: the pair buffer whole, the own tile in its slot, the tiles from `t` on still to send, those before
    `t` sent. -/
def mid (t : ℕ) : sProp 𝕄 :=
  iprop(recs I K ∗ (((c : Thread nD τ).loc cc0_scratch0) ↦{fullShare} PAIR I c) ∗ rPt c (aC c) (RBc I c)
    ∗ (bigSep (later (0 : Fin 16) t) fun u => sendTodo c u) ∗ (bigSep (before (0 : Fin 16) t) fun u => cred (tallyAt (dmaC c (sdS u)) () N2))
    ∗ (∃ f, sPt c 0 f) ∗ ends c)

/-- The marks and tokens at the start; -/
def toks : sProp 𝕄 :=
  iprop((bigSep (Finset.univ.erase c) fun d => dutyTok ER (barC d) 0 c)
    ∗ dutyTok ER (dmaC c xsS) 0 c ∗ dutyTok ER (dmaC (partner c) xrS) 0 c
    ∗ (bigSep (Finset.univ.erase (0 : Fin 16)) fun u => iprop(dutyTok ER (dmaC c (sdS u)) 0 c ∗ dutyTok ER (dmaC (rcv c u) (rvS (aC c))) 0 c)))
/-- A device's own counters are in their first round. -/
def marks : sProp 𝕄 :=
  iprop(reached ER (dmaC c xsS) 0 ∗ reached ER (dmaC c xrS) 0 ∗ (bigSep Finset.univ fun u : Fin 16 => reached ER (dmaC c (sdS u)) 0)
    ∗ (bigSep Finset.univ fun r : Fin 16 => reached ER (dmaC c (rvS r)) 0))
/-- That may be used any number of times. -/
instance marks_persistent : BI.Persistent (marks (F := F) c) := by unfold marks; infer_instance
/-- the positions and credits; -/
def posns : sProp 𝕄 :=
  iprop(atPos ER (barC c) 0 ∅ 0 ∗ atPos ER (dmaC c xsS) 0 ∅ 0 ∗ atPos ER (dmaC c xrS) 0 ∅ 0
    ∗ (bigSep Finset.univ fun u : Fin 16 => atPos ER (dmaC c (sdS u)) 0 ∅ 0) ∗ (bigSep Finset.univ fun r : Fin 16 => atPos ER (dmaC c (rvS r)) 0 ∅ 0))
/-- The credit that a device's waits use. -/
def creds : sProp 𝕄 :=
  iprop(cred (tallyAt (barC c) () 31) ∗ cred (tallyAt (dmaC c xrS) () N1)
    ∗ (bigSep (Finset.univ.erase (aC c)) fun r => cred (tallyAt (dmaC c (rvS r)) () N2)))
/-- the three scratch buffers at any contents; -/
def scr : sProp 𝕄 :=
  iprop((∃ f : S256x4096.Idx → Elt F .fp8e5m2, ((c : Thread nD τ).loc cc0_scratch0) ↦{fullShare} f) ∗ (∃ f : S16x256x256.Idx → Elt F .bf16, ((c : Thread nD τ).loc cc0_scratch1) ↦{fullShare} f)
    ∗ (∃ f : S16x256x256.Idx → Elt F .bf16, ((c : Thread nD τ).loc cc0_scratch2) ↦{fullShare} f))
/-- and so before the first point. -/
def first : sProp 𝕄 := iprop(recs I K ∗ scr c ∗ posns c ∗ marks c ∗ creds c ∗ toks c)

/-- After the last point: the scratch whole, every own cell and the barrier's at zero. -/
def last : sProp 𝕄 :=
  iprop(scr c ∗ semVal (barC c) 0 ∗ semVal (dmaC c xsS) 0 ∗ semVal (dmaC c xrS) 0
    ∗ (bigSep Finset.univ fun u : Fin 16 => semVal (dmaC c (sdS u)) 0) ∗ (bigSep Finset.univ fun r : Fin 16 => semVal (dmaC c (rvS r)) 0))

/-! ## What the device hands over at the barrier -/

/-- Each factor of a product may be changed with the help of a reusable fact. -/
theorem bigSep_mono_pers {J : Type} [DecidableEq J] (s : Finset J) (P : sProp 𝕄) [BI.Persistent P] (Φ Ψ : J → sProp 𝕄)
    (h : ∀ j ∈ s, iprop(P ∗ Φ j) ⊢ Ψ j) : iprop(P ∗ bigSep s Φ) ⊢ bigSep s Ψ := by
  induction s using Finset.induction_on with
  | empty => rw [bigSep_empty, bigSep_empty]; iintro ⟨-, -⟩; iempintro
  | insert a s ha ih =>
    rw [big_insert ha, big_insert ha]
    iintro ⟨#HP, H1, H2⟩
    isplitl [H1]
    · iapply (h a (Finset.mem_insert_self _ _))
      isplitr; · iexact HP
      iexact H1
    · iapply (ih fun j hj => h j (Finset.mem_insert_of_mem hj))
      isplitr; · iexact HP
      iexact H2

/-- What a device lends another by its barrier signal. -/
theorem pay_eq (d : Dev nD) : (barPay c d : sProp 𝕄)
    = iprop((if bC d = bC c then slotPay c d else iprop(emp)) ∗ (if d = partner c then halfPay c d else iprop(emp))) := by
  unfold barPay
  have e1 : (bC c = bC d) = (bC d = bC c) := propext eq_comm
  have e2 : (c = partner d) = (d = partner c) := propext ⟨fun h => by rw [h, partner_partner], fun h => by rw [h, partner_partner]⟩
  simp only [e1, e2]

/-- A slot for each device of the column. -/
theorem slots_reidx (Φ : Fin 16 → sProp 𝕄) : bigSep (Finset.univ.erase (aC c)) Φ = bigSep (Finset.univ.erase (0 : Fin 16)) fun u => Φ (aC c + u) := by
  have h : Finset.univ.erase (aC c) = (Finset.univ.erase (0 : Fin 16)).image (aC c + ·) := by
    generalize aC c = a; revert a; decide
  rw [h, bigSep_image_of_injOn (fun u _ v _ h => by revert h; generalize aC c = a; revert a u v; decide)]

/-- A device's receive buffer and half make up all that it lends. -/
theorem bar_pays : iprop(marks c ∗ (∃ f, ((c : Thread nD τ).loc cc0_scratch2) ↦{fullShare} f) ∗ (∃ f, hPt c (1 - bC c) f))
    ⊢ (iprop((∃ f, rPt c (aC c) f) ∗ bigSep (Finset.univ.erase c) fun d => barPay c d) : sProp 𝕄) := by
  rw [bigSep_congr (s := Finset.univ.erase c) (fun d _ => pay_eq c d), reidx c (fun d => slotPay c d) (fun d => halfPay c d) (col_iff c)]
  unfold marks halfPay
  rw [bC_partner]
  iintro ⟨⟨-, #Hxr, -, #Hrv⟩, ⟨%f, H⟩, Hh⟩
  ihave H' := (Entails.of_eq (r_whole c f).symm) $$ H
  icases H' with ⟨Ha, Hb⟩
  isplitl [Ha]; · iexists f; iexact Ha
  isplitr [Hh]
  · ihave Hb' := (Entails.of_eq (slots_reidx c (fun r => rPt c r f))) $$ Hb
    have h : ∀ u ∈ Finset.univ.erase (0 : Fin 16), iprop((bigSep Finset.univ fun r : Fin 16 => reached ER (dmaC c (rvS r)) 0) ∗ rPt c (aC c + u) f) ⊢ (slotPay c (rcv c u) : sProp 𝕄) := fun u _ => by
      have h1 : (bigSep Finset.univ (fun r : Fin 16 => reached ER (dmaC c (rvS r)) 0) : sProp 𝕄) ⊢ reached ER (dmaC c (rvS (aC c + u))) 0 := bigSep_elim (Finset.mem_univ _)
      unfold slotPay
      rw [aC_rcv]
      iintro ⟨H1, H2⟩
      isplitl [H2]; · iexists f; iexact H2
      iapply h1; iexact H1
    iapply (bigSep_mono_pers _ _ _ _ h)
    isplitr; · iexact Hrv
    iexact Hb'
  isplitl [Hh]; · iexact Hh
  iexact Hxr

end Cert.Talk

end
-- ==== Proof.First.lean ====
/-
  The body at each of its three kinds of point, from a thread state to the next.
-/
module

public import proofs.«01_k».proof.Proof.States

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

variable (X3 : Vec F S4096x256 .fp8e5m2) (X4 X5 : Vec F S1 .f32) (X6 : Vec F S4096x256 .f32) (i0 : S1.Idx)

/-- The body after its first piece. -/
theorem body_seq (a0 v2 v19 v20 v24 : BitVec 32) (v31 : F .f32) (v33 : FVec F S4096x256 .fp8e5m2) (v34 : Vec F S256x4096 .fp8e5m2) (cst : FVec F S256x256 .f32)
    {P P1 : sProp 𝕄} {Q : PUnit.{1} → sProp 𝕄} (h10 : P ⊢ WP c (k0_part10 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) fun v => iprop(⌜v = ⟨a0, c, v2, v19, v20, v24, v31, v33, v34, cst⟩⌝ ∗ P1))
    (hk : P1 ⊢ WP c (ownK i c v31 v33 v34 cst fun _ => tileK i c v31 v33 v34 cst fun _ => endK i arg1 harg1 arg2 harg2 arg3 harg3 arg4 harg4 arg5 harg5 arg6 harg6 v2 v19 v20) Q) :
    P ⊢ WP c (cc0_body (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) Q := by
  rw [body_form]
  refine WP_bind c h10 fun v => ?_
  refine pure_left fun hv => ?_
  subst hv
  dsimp only
  exact hk

/-! ## The first piece -/

/-- What the exchange leaves aside: -/
def restR : sProp 𝕄 :=
  iprop(marks c ∗ (∃ f, rPt c (aC c) f) ∗ (∃ f : S16x256x256.Idx → Elt F .bf16, ((c : Thread nD τ).loc cc0_scratch1) ↦{fullShare} f)
    ∗ (bigSep Finset.univ fun u : Fin 16 => atPos ER (dmaC c (sdS u)) 0 ∅ 0) ∗ (bigSep Finset.univ fun r : Fin 16 => atPos ER (dmaC c (rvS r)) 0 ∅ 0)
    ∗ (bigSep (Finset.univ.erase (aC c)) fun r => cred (tallyAt (dmaC c (rvS r)) () N2))
    ∗ (bigSep (Finset.univ.erase (0 : Fin 16)) fun u => iprop(dutyTok ER (dmaC c (sdS u)) 0 c ∗ dutyTok ER (dmaC (rcv c u) (rvS (aC c))) 0 c)))

/-- The opening state makes up the state of the barrier's loop before its first signal. -/
theorem start_bar (W : Waits sig Unit) (R : sProp 𝕄) :
    iprop(first I K c ∗ owes (c : Thread nD τ) (O₀ c) W ∗ owns (c : Thread nD τ) arg2 fullShare (I.x c) ∗ R)
      ⊢ barI I K c 0 W iprop(exR c ∗ owns (c : Thread nD τ) arg2 fullShare (I.x c) ∗ (restR c ∗ R)) := by
  unfold first barI scr posns creds toks exR restR
  rw [show later c 0 = Finset.univ.erase c from later_zero c]
  iintro ⟨⟨#HR, ⟨⟨%f0, H0⟩, H1, H2⟩, ⟨Pb, Pxs, Pxr, Psd, Prv⟩, #HM, ⟨Cb, Cxr, Crv⟩, ⟨Tb, Txs, Txp, Tsd⟩⟩, HO, Hx, HX⟩
  ihave H0' := (Entails.of_eq (h_whole c f0).symm) $$ H0
  icases H0' with ⟨Ha, Hb⟩
  ihave Hpays := (bar_pays c) $$ [H2 Hb]
  · isplitr; · iexact HM
    isplitl [H2]; · iexact H2
    iexists f0; iexact Hb
  icases Hpays with ⟨Hown, Hpays⟩
  isplitr; · iexact HR
  isplitl [HO]; · iexact HO
  isplitl [Tb Hpays]
  · iapply (Entails.of_eq (bigSep_sep' (Finset.univ.erase c) (fun d => dutyTok ER (barC d) 0 c) (fun d => barPay (F := F) c d)).symm)
    isplitl [Tb]; · iexact Tb
    iexact Hpays
  isplitl [Cb Pb Ha Txs Txp Cxr Pxs Pxr]
  · isplitl [Cb]; · iexact Cb
    isplitl [Pb]; · iexact Pb
    isplitl [Ha]; · iexists f0; iexact Ha
    isplitl [Txs Txp]
    · isplitl [Txs]; · iexact Txs
      isplitr; · unfold marks; icases HM with ⟨#Hm, -⟩; iexact Hm
      iexact Txp
    isplitl [Cxr]; · iexact Cxr
    isplitl [Pxs]; · iexact Pxs
    iexact Pxr
  isplitl [Hx]; · iexact Hx
  isplitr [HX]
  · isplitr; · iexact HM
    isplitl [Hown]; · iexact Hown
    isplitl [H1]; · iexact H1
    isplitl [Psd]; · iexact Psd
    isplitl [Prv]; · iexact Prv
    isplitl [Crv]; · iexact Crv
    iexact Tsd
  iexact HX

/-- What is held once exchanged, but for what the loads read. -/
def exd : sProp 𝕄 :=
  iprop(recs I K ∗ (∃ W, owes (c : Thread nD τ) (Orv c 0) W) ∗ bigSep (Finset.univ.erase (0 : Fin 16)) (fun u => slotPay (rcv c u) c)
    ∗ atPos ER (barC c) 1 ∅ 0 ∗ atPos ER (dmaC c xsS) 1 ∅ 0 ∗ atPos ER (dmaC c xrS) 1 ∅ 0)

/-- The opening part of the body at the first grid point: barrier, exchange of the rows, loads. -/
theorem p10_first (W : Waits sig Unit) (R : sProp 𝕄) (hi : (i 0).val = 0) :
    iprop(first I K c ∗ owes (c : Thread nD τ) (O₀ c) W ∗ owns (c : Thread nD τ) arg2 fullShare (I.x c)
        ∗ ((owns (c : Thread nD τ) arg3 fullShare X3 ∗ owns (c : Thread nD τ) arg4 fullShare X4 ∗ owns (c : Thread nD τ) arg5 fullShare X5) ∗ R))
      ⊢ WP c (k0_part10 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) fun v => iprop(⌜v = ⟨BitVec.ofNat 32 (i 0).val, c, wP c, wA (wP c), Scalar.remsi (wP c) 2#32, Scalar.addi (Scalar.muli 2#32 (Scalar.remsi (Scalar.addi (wA (wP c)) (BitVec.ofNat 32 (i 0).val)) 16#32)) (Scalar.remsi (wP c) 2#32), k0_pay6 (X4 i0) (X5 i0), k0_pay7 X3, PAIR I c, constant S256x256 .f32 0x00000000#32⟩⌝
        ∗ (opR I c arg3 arg4 arg5 X3 X4 X5 ∗ (exd I K c ∗ owns (c : Thread nD τ) arg2 fullShare (I.x c) ∗ restR c ∗ R))) := by
  rw [part10_form, dev_bind]
  refine (start_bar I K c arg2 W _).trans ?_
  refine exch_step I K c i arg1 harg1 arg2 harg2 arg3 harg3 arg4 harg4 arg5 harg5 arg6 harg6 W _ _ _ _ hi _ _ ?_
  refine BIBase.Entails.trans (Q := iprop(opR I c arg3 arg4 arg5 X3 X4 X5 ∗ (exd I K c ∗ owns (c : Thread nD τ) arg2 fullShare (I.x c) ∗ restR c ∗ R))) ?_ ?_
  · unfold exd opR
    iintro ⟨#HR, HO, H0, Hs, Pb, Pxs, Pxr, Hx, HM, ⟨H3, H4, H5⟩, HX⟩
    isplitl [H0 H3 H4 H5]
    · isplitl [H3]; · iexact H3
      isplitl [H4]; · iexact H4
      isplitl [H5]; · iexact H5
      iexact H0
    isplitl [HO Hs Pb Pxs Pxr]
    · isplitr; · iexact HR
      isplitl [HO]; · iexact HO
      isplitl [Hs]; · iexact Hs
      isplitl [Pb]; · iexact Pb
      isplitl [Pxs]; · iexact Pxs
      iexact Pxr
    isplitl [Hx]; · iexact Hx
    isplitl [HM]; · iexact HM
    iexact HX
  refine loads_step I c arg3 arg4 arg5 X3 X4 X5 i0 _ _ _ ?_
  iintro H
  iapply (WP_ret c)
  isplitr; · ipureintro; rfl
  iexact H

/-- The opening part at a later grid point: the loads alone. -/
theorem p10_next (R : sProp 𝕄) (hi : (i 0).val ≠ 0) :
    iprop(opR I c arg3 arg4 arg5 X3 X4 X5 ∗ R)
      ⊢ WP c (k0_part10 (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) fun v => iprop(⌜v = ⟨BitVec.ofNat 32 (i 0).val, c, wP c, wA (wP c), Scalar.remsi (wP c) 2#32, Scalar.addi (Scalar.muli 2#32 (Scalar.remsi (Scalar.addi (wA (wP c)) (BitVec.ofNat 32 (i 0).val)) 16#32)) (Scalar.remsi (wP c) 2#32), k0_pay6 (X4 i0) (X5 i0), k0_pay7 X3, PAIR I c, constant S256x256 .f32 0x00000000#32⟩⌝ ∗ (opR I c arg3 arg4 arg5 X3 X4 X5 ∗ R)) := by
  rw [part10_form, dev_bind]
  unfold exchK
  rw [dif_neg (fun h => hi ((cond1_iff i).mp h))]
  refine loads_step I c arg3 arg4 arg5 X3 X4 X5 i0 _ _ _ ?_
  iintro H
  iapply (WP_ret c)
  isplitr; · ipureintro; rfl
  iexact H

end Cert.Talk

end
-- ==== Proof.Body.lean ====
/-
  The body at the first point, between, and at the last.
-/
module

public import proofs.«01_k».proof.Proof.First

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (I : In F) (K : GSem nD τ sig → ℕ) (c : Dev nD)
variable (i : grid0.Coords) (arg1 : Memref sig .tc .smem S1 .i32) (harg1 : arg1.IsWhole) (arg2 : Memref sig .tc .vmem S128x4096 .fp8e5m2) (harg2 : arg2.IsWhole)
  (arg3 : Memref sig .tc .vmem S4096x256 .fp8e5m2) (harg3 : arg3.IsWhole) (arg4 : Memref sig .tc .smem S1 .f32) (harg4 : arg4.IsWhole)
  (arg5 : Memref sig .tc .smem S1 .f32) (harg5 : arg5.IsWhole) (arg6 : Memref sig .tc .vmem S4096x256 .f32) (harg6 : arg6.IsWhole)

variable (X4 X5 : Vec F S1 .f32) (X6 : Vec F S4096x256 .f32) (i0 : S1.Idx)

/-- The staged operands at point `u`. -/
def argR (u : Fin 16) : sProp 𝕄 :=
  iprop(owns (c : Thread nD τ) arg2 fullShare (I.x c) ∗ owns (c : Thread nD τ) arg3 fullShare (I.w c u) ∗ owns (c : Thread nD τ) arg4 fullShare X4
    ∗ owns (c : Thread nD τ) arg5 fullShare X5)

/-- At the first grid point nothing is sent, so what is still to be sent after it is every slot but the first. -/
theorem later_one : later (0 : Fin 16) 1 = Finset.univ.erase 0 := (later_skip (0 : Fin 16) 0 (by decide) rfl).symm.trans (later_zero _)
/-- After the first grid point nothing has been sent. -/
theorem before_one : before (0 : Fin 16) 1 = ∅ := (before_skip (0 : Fin 16) 0 (by decide) rfl).trans (before_zero _)
/-- The first grid point discharges none of the tiles owed. -/
theorem Orv_one : Orv c 1 = Orv c 0 := by unfold Orv; rw [later_skip (0 : Fin 16) 0 (by decide) rfl]

/-- All that the sends take, put together. -/
theorem todo : iprop(marks c ∗ (bigSep (Finset.univ.erase (0 : Fin 16)) fun u => iprop(dutyTok ER (dmaC c (sdS u)) 0 c ∗ dutyTok ER (dmaC (rcv c u) (rvS (aC c))) 0 c))
      ∗ bigSep (Finset.univ.erase (0 : Fin 16)) (fun u => slotPay (rcv c u) c) ∗ (∃ f : S16x256x256.Idx → Elt F .bf16, ((c : Thread nD τ).loc cc0_scratch1) ↦{fullShare} f))
    ⊢ (iprop((bigSep (later (0 : Fin 16) 1) fun u => sendTodo c u) ∗ ∃ f, sPt c 0 f) : sProp 𝕄) := by
  rw [later_one]
  iintro ⟨#HM, HT, HS, ⟨%f, H⟩⟩
  ihave H' := (Entails.of_eq ((s_split c f).trans (one_off (0 : Fin 16) (fun u => sPt c u f)))) $$ H
  icases H' with ⟨Ha, Hb⟩
  isplitr [Ha]
  · ihave H1 := (Entails.of_eq (bigSep_sep' (Finset.univ.erase (0 : Fin 16)) (fun u => slotPay (F := F) (rcv c u) c) (fun u => sPt c u f)).symm) $$ [HS Hb]
    · isplitl [HS]; · iexact HS
      iexact Hb
    ihave H2 := (Entails.of_eq (bigSep_sep' (Finset.univ.erase (0 : Fin 16)) (fun u => iprop(dutyTok ER (dmaC c (sdS u)) 0 c ∗ dutyTok ER (dmaC (rcv c u) (rvS (aC c))) 0 c)) (fun u => iprop(slotPay (F := F) (rcv c u) c ∗ sPt c u f))).symm) $$ [HT H1]
    · isplitl [HT]; · iexact HT
      iexact H1
    have h : ∀ u ∈ Finset.univ.erase (0 : Fin 16), iprop(marks c ∗ ((dutyTok ER (dmaC c (sdS u)) 0 c ∗ dutyTok ER (dmaC (rcv c u) (rvS (aC c))) 0 c) ∗ (slotPay (rcv c u) c ∗ sPt c u f))) ⊢ (sendTodo c u : sProp 𝕄) := fun u _ => by
      have h1 : (bigSep Finset.univ (fun u : Fin 16 => reached ER (dmaC c (sdS u)) 0) : sProp 𝕄) ⊢ reached ER (dmaC c (sdS u)) 0 := bigSep_elim (Finset.mem_univ _)
      unfold sendTodo marks
      iintro ⟨⟨-, -, Hm, -⟩, ⟨T1, T2⟩, Hs, Hf⟩
      isplitl [T1]; · iexact T1
      isplitl [Hm]; · iapply h1; iexact Hm
      isplitl [T2]; · iexact T2
      isplitl [Hs]; · iexact Hs
      iexists f; iexact Hf
    iapply (bigSep_mono_pers _ _ _ _ h)
    isplitr; · iexact HM
    iexact H2
  iexists f; iexact Ha

/-! ## The first point -/

/-- The body at the first grid point: from the opening state to the state between points. -/
theorem body_first (W : Waits sig Unit) (R : sProp 𝕄) (hi : (i 0).val = 0) (hs : I.s c = k0_pay6 (X4 i0) (X5 i0)) :
    iprop(first I K c ∗ owes (c : Thread nD τ) (O₀ c) W ∗ argR I c arg2 arg3 arg4 arg5 X4 X5 0 ∗ R)
      ⊢ WP c (cc0_body (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) fun _ => iprop(mid I K c 1 ∗ (∃ W, owes (c : Thread nD τ) (Orv c 1) W) ∗ argR I c arg2 arg3 arg4 arg5 X4 X5 0 ∗ R) := by
  unfold argR
  refine BIBase.Entails.trans (Q := iprop(first I K c ∗ owes (c : Thread nD τ) (O₀ c) W ∗ owns (c : Thread nD τ) arg2 fullShare (I.x c)
        ∗ ((owns (c : Thread nD τ) arg3 fullShare (I.w c 0) ∗ owns (c : Thread nD τ) arg4 fullShare X4 ∗ owns (c : Thread nD τ) arg5 fullShare X5) ∗ R))) ?_ ?_
  · iintro ⟨H1, H2, ⟨H3, H4⟩, H5⟩
    isplitl [H1]; · iexact H1
    isplitl [H2]; · iexact H2
    isplitl [H3]; · iexact H3
    isplitl [H4]; · iexact H4
    iexact H5
  refine body_seq c i arg1 harg1 arg2 harg2 arg3 harg3 arg4 harg4 arg5 harg5 arg6 harg6 _ _ _ _ _ _ _ _ _ (p10_first I K c i arg1 harg1 arg2 harg2 arg3 harg3 arg4 harg4 arg5 harg5 arg6 harg6 (I.w c 0) X4 X5 i0 W R hi) ?_
  rw [← hs]
  refine BIBase.Entails.trans (Q := iprop((∃ f, rPt c (aC c) f) ∗ (opR I c arg3 arg4 arg5 (I.w c 0) X4 X5 ∗ exd I K c ∗ owns (c : Thread nD τ) arg2 fullShare (I.x c)
    ∗ (marks c ∗ (∃ f : S16x256x256.Idx → Elt F .bf16, ((c : Thread nD τ).loc cc0_scratch1) ↦{fullShare} f)
    ∗ (bigSep Finset.univ fun u : Fin 16 => atPos ER (dmaC c (sdS u)) 0 ∅ 0) ∗ (bigSep Finset.univ fun r : Fin 16 => atPos ER (dmaC c (rvS r)) 0 ∅ 0)
    ∗ (bigSep (Finset.univ.erase (aC c)) fun r => cred (tallyAt (dmaC c (rvS r)) () N2))
    ∗ (bigSep (Finset.univ.erase (0 : Fin 16)) fun u => iprop(dutyTok ER (dmaC c (sdS u)) 0 c ∗ dutyTok ER (dmaC (rcv c u) (rvS (aC c))) 0 c))) ∗ R))) ?_ ?_
  · unfold restR
    iintro ⟨H1, H2, H3, ⟨HM, Hr, HT⟩, H5⟩
    isplitl [Hr]; · iexact Hr
    isplitl [H1]; · iexact H1
    isplitl [H2]; · iexact H2
    isplitl [H3]; · iexact H3
    isplitr [H5]
    · isplitl [HM]; · iexact HM
      iexact HT
    iexact H5
  refine own_step I c i _ hi _ _ ?_
  rw [tile_skip c i hi, end_skip i arg1 harg1 arg2 harg2 arg3 harg3 arg4 harg4 arg5 harg5 arg6 harg6 (by omega)]
  unfold opR exd mid ends
  rw [before_one, bigSep_empty, Orv_one]
  iintro ⟨Hr, ⟨H3, H4, H5, H0⟩, ⟨#HR, HO, Hs, Pb, Pxs, Pxr⟩, H2, ⟨HM, H1, Psd, Prv, Crv, T⟩, HX⟩
  ihave Ht := (todo c) $$ [HM T Hs H1]
  · isplitl [HM]; · iexact HM
    isplitl [T]; · iexact T
    isplitl [Hs]; · iexact Hs
    iexact H1
  icases Ht with ⟨Ht, Hz⟩
  iapply (WP_ret c)
  isplitl [H0 Hr Ht Hz Pb Pxs Pxr Psd Prv Crv]
  · isplitr; · iexact HR
    isplitl [H0]; · iexact H0
    isplitl [Hr]; · iexact Hr
    isplitl [Ht]; · iexact Ht
    isplitr; · iempintro
    isplitl [Hz]; · iexact Hz
    isplitl [Pb]; · iexact Pb
    isplitl [Pxs]; · iexact Pxs
    isplitl [Pxr]; · iexact Pxr
    isplitl [Psd]; · iexact Psd
    isplitl [Prv]; · iexact Prv
    iexact Crv
  isplitl [HO]; · iexact HO
  isplitr [HX]
  · isplitl [H2]; · iexact H2
    isplitl [H3]; · iexact H3
    isplitl [H4]; · iexact H4
    iexact H5
  iexact HX

/-! ## Every later point: the tile sent -/

/-- The tile of a later grid point is computed and sent to its receiver. -/
theorem tile_mid (R : sProp 𝕄) (u : Fin 16) (hu : u ≠ 0) (hi : (i 0).val = u.val) (hs : I.s c = k0_pay6 (X4 i0) (X5 i0))
    (Q : PUnit.{1} → sProp 𝕄)
    (h : iprop(mid I K c (u.val + 1) ∗ (∃ W, owes (c : Thread nD τ) (Orv c (u.val + 1)) W) ∗ argR I c arg2 arg3 arg4 arg5 X4 X5 u ∗ R)
      ⊢ WP c (endK (F := F) i arg1 harg1 arg2 harg2 arg3 harg3 arg4 harg4 arg5 harg5 arg6 harg6 (wP c) (wA (wP c)) (Scalar.remsi (wP c) 2#32)) Q) :
    iprop(mid I K c u.val ∗ (∃ W, owes (c : Thread nD τ) (Orv c u.val) W) ∗ argR I c arg2 arg3 arg4 arg5 X4 X5 u ∗ R) ⊢ WP c (cc0_body (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) Q := by
  have hne : (i 0).val ≠ 0 := fun e => hu (Fin.ext (hi.symm.trans e))
  refine BIBase.Entails.trans (Q := iprop(opR I c arg3 arg4 arg5 (I.w c u) X4 X5 ∗ (recs I K ∗ (∃ W, owes (c : Thread nD τ) (Orv c u.val) W) ∗ sendTodo c u
      ∗ (owns (c : Thread nD τ) arg2 fullShare (I.x c) ∗ (rPt c (aC c) (RBc I c)
    ∗ (bigSep (later (0 : Fin 16) (u.val + 1)) fun u => sendTodo c u) ∗ (bigSep (before (0 : Fin 16) u.val) fun u => cred (tallyAt (dmaC c (sdS u)) () N2))
    ∗ (∃ f, sPt c 0 f) ∗ ends c) ∗ R)))) ?_ ?_
  · unfold mid opR argR
    rw [later_succ 0 u.val u.isLt hu, big_insert (later_notMem 0 u.val u.isLt)]
    iintro ⟨⟨#HR, H0, Hr, ⟨Ht, Hts⟩, Hc, Hz, He⟩, HO, ⟨H2, H3, H4, H5⟩, HX⟩
    isplitl [H0 H3 H4 H5]
    · isplitl [H3]; · iexact H3
      isplitl [H4]; · iexact H4
      isplitl [H5]; · iexact H5
      iexact H0
    isplitr; · iexact HR
    isplitl [HO]; · iexact HO
    isplitl [Ht]; · iexact Ht
    isplitl [H2]; · iexact H2
    isplitr [HX]
    · isplitl [Hr]; · iexact Hr
      isplitl [Hts]; · iexact Hts
      isplitl [Hc]; · iexact Hc
      isplitl [Hz]; · iexact Hz
      iexact He
    iexact HX
  refine body_seq c i arg1 harg1 arg2 harg2 arg3 harg3 arg4 harg4 arg5 harg5 arg6 harg6 _ _ _ _ _ _ _ _ _ (p10_next I c i arg1 harg1 arg2 harg2 arg3 harg3 arg4 harg4 arg5 harg5 arg6 harg6 (I.w c u) X4 X5 i0 _ hne) ?_
  rw [← hs, own_skip c i hne]
  refine BIBase.Entails.trans (Q := iprop(recs I K ∗ (∃ W, owes (c : Thread nD τ) (Orv c u.val) W) ∗ sendTodo c u
      ∗ (opR I c arg3 arg4 arg5 (I.w c u) X4 X5 ∗ owns (c : Thread nD τ) arg2 fullShare (I.x c) ∗ (rPt c (aC c) (RBc I c)
    ∗ (bigSep (later (0 : Fin 16) (u.val + 1)) fun u => sendTodo c u) ∗ (bigSep (before (0 : Fin 16) u.val) fun u => cred (tallyAt (dmaC c (sdS u)) () N2))
    ∗ (∃ f, sPt c 0 f) ∗ ends c) ∗ R))) ?_ ?_
  · iintro ⟨H1, H2, H3, H4, H5⟩
    isplitl [H2]; · iexact H2
    isplitl [H3]; · iexact H3
    isplitl [H4]; · iexact H4
    isplitl [H1]; · iexact H1
    iexact H5
  refine tile_step I K c i _ u hu hi _ _ ?_
  refine BIBase.Entails.trans ?_ h
  unfold mid opR argR
  rw [before_succ 0 u.val u.isLt hu, big_insert (before_notMem 0 u.val u.isLt)]
  iintro ⟨#HR, HO, Hcu, ⟨H3, H4, H5, H0⟩, H2, ⟨Hr, Hts, Hc, Hz, He⟩, HX⟩
  isplitl [H0 Hr Hts Hc Hcu Hz He]
  · isplitr; · iexact HR
    isplitl [H0]; · iexact H0
    isplitl [Hr]; · iexact Hr
    isplitl [Hts]; · iexact Hts
    isplitl [Hcu Hc]
    · isplitl [Hcu]; · iexact Hcu
      iexact Hc
    isplitl [Hz]; · iexact Hz
    iexact He
  isplitl [HO]; · iexact HO
  isplitr [HX]
  · isplitl [H2]; · iexact H2
    isplitl [H3]; · iexact H3
    isplitl [H4]; · iexact H4
    iexact H5
  iexact HX

/-- The body at a grid point that is neither the first nor the last. -/
theorem body_mid (R : sProp 𝕄) (u : Fin 16) (hu : u ≠ 0) (hl : u.val ≠ 15) (hi : (i 0).val = u.val) (hs : I.s c = k0_pay6 (X4 i0) (X5 i0)) :
    iprop(mid I K c u.val ∗ (∃ W, owes (c : Thread nD τ) (Orv c u.val) W) ∗ argR I c arg2 arg3 arg4 arg5 X4 X5 u ∗ R)
      ⊢ WP c (cc0_body (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) fun _ => iprop(mid I K c (u.val + 1) ∗ (∃ W, owes (c : Thread nD τ) (Orv c (u.val + 1)) W) ∗ argR I c arg2 arg3 arg4 arg5 X4 X5 u ∗ R) := by
  refine tile_mid I K c i arg1 harg1 arg2 harg2 arg3 harg3 arg4 harg4 arg5 harg5 arg6 harg6 X4 X5 i0 R u hu hi hs _ ?_
  rw [end_skip i arg1 harg1 arg2 harg2 arg3 harg3 arg4 harg4 arg5 harg5 arg6 harg6 (by omega)]
  iintro H; iapply (WP_ret c); iexact H

/-! ## The last point -/

/-- Before the last waits, from the state after the last send. -/
theorem to_waits (R : sProp 𝕄) :
    iprop(mid I K c 16 ∗ (∃ W, owes (c : Thread nD τ) (Orv c 16) W) ∗ owns (c : Thread nD τ) arg6 fullShare X6 ∗ R)
      ⊢ waitI I K c sdS 0 (fun u => iprop(∃ f, sPt c u f)) 0
        iprop((bigSep (later (aC c) 0) fun r => iprop(cred (tallyAt (dmaC c (rvS r)) () N2) ∗ atPos ER (dmaC c (rvS r)) 0 ∅ 0))
          ∗ rPt c (aC c) (RBc I c) ∗ owns (c : Thread nD τ) arg6 fullShare X6
          ∗ ((((c : Thread nD τ).loc cc0_scratch0) ↦{fullShare} PAIR I c) ∗ (∃ f, sPt c 0 f) ∗ atPos ER (barC c) 1 ∅ 0 ∗ atPos ER (dmaC c xsS) 1 ∅ 0 ∗ atPos ER (dmaC c xrS) 1 ∅ 0
            ∗ atPos ER (dmaC c (sdS 0)) 0 ∅ 0 ∗ atPos ER (dmaC c (rvS (aC c))) 0 ∅ 0 ∗ R)) := by
  have hO : Orv c 16 = 0 := by unfold Orv; rw [show later (0 : Fin 16) 16 = ∅ from later_top _, Finset.sum_empty]
  unfold mid ends waitI
  rw [hO, show before (0 : Fin 16) 16 = Finset.univ.erase 0 from before_top _, before_zero, later_zero, later_zero, bigSep_empty]
  iintro ⟨⟨#HR, H0, Hr, -, Hc, Hz, Pb, Pxs, Pxr, Psd, Prv, Crv⟩, HO, H6, HX⟩
  ihave Psd' := (Entails.of_eq (one_off (0 : Fin 16) (fun u => atPos ER (dmaC c (sdS u)) 0 ∅ 0))) $$ Psd
  icases Psd' with ⟨Ps0, Psd⟩
  ihave Prv' := (Entails.of_eq (one_off (aC c) (fun r => atPos ER (dmaC c (rvS r)) 0 ∅ 0))) $$ Prv
  icases Prv' with ⟨Pr0, Prv⟩
  isplitr; · iexact HR
  isplitl [HO]; · iexact HO
  isplitl [Hc Psd]
  · iapply (Entails.of_eq (bigSep_sep' (Finset.univ.erase (0 : Fin 16)) (fun u => cred (tallyAt (dmaC c (sdS u)) () N2)) (fun u => atPos ER (dmaC c (sdS u)) 0 ∅ 0)).symm)
    isplitl [Hc]; · iexact Hc
    iexact Psd
  isplitr; · iempintro
  isplitl [Crv Prv]
  · iapply (Entails.of_eq (bigSep_sep' (Finset.univ.erase (aC c)) (fun r => cred (tallyAt (dmaC c (rvS r)) () N2)) (fun r => atPos ER (dmaC c (rvS r)) 0 ∅ 0)).symm)
    isplitl [Crv]; · iexact Crv
    iexact Prv
  isplitl [Hr]; · iexact Hr
  isplitl [H6]; · iexact H6
  isplitl [H0]; · iexact H0
  isplitl [Hz]; · iexact Hz
  isplitl [Pb]; · iexact Pb
  isplitl [Pxs]; · iexact Pxs
  isplitl [Pxr]; · iexact Pxr
  isplitl [Ps0]; · iexact Ps0
  isplitl [Pr0]; · iexact Pr0
  iexact HX

/-- A family of cells past their round, closed. -/
theorem close_all (S : Finset (Fin 16)) (cell : Fin 16 → DmaSem sig) (hm : ∀ u, dmaC c (cell u) ∈ Cells) :
    iprop(recs I K ∗ bigSep S fun u => atPos ER (dmaC c (cell u)) 1 ∅ 0) ⊢ (|={Set.univ}=> bigSep S fun u => semVal (dmaC c (cell u)) 0 : sProp 𝕄) := by
  induction S using Finset.induction_on with
  | empty => rw [bigSep_empty, bigSep_empty]; iintro ⟨-, -⟩; imodintro; iempintro
  | insert a s ha ih =>
    rw [big_insert ha, big_insert ha]
    iintro ⟨#HR, H1, H2⟩
    imod (close I K (hm a)) $$ [H1] with H1
    · isplitr; · iexact HR
      iexact H1
    imod ih $$ [H2] with H2
    · isplitr; · iexact HR
      iexact H2
    imodintro
    isplitl [H1]; · iexact H1
    iexact H2

/-- An update may follow a run: the run's postcondition may be weakened by it. -/
theorem WP_fupd {α : Type} {p : Prog (TpuEff nD τ sig (Elt F) Λ₀ .tc) α} {P : sProp 𝕄} {Q Q' : α → sProp 𝕄} (h : P ⊢ WP c p Q) (hQ : ∀ v, Q v ⊢ |={Set.univ}=> Q' v) : P ⊢ WP c p Q' := by
  unfold WP at h ⊢
  exact (h.trans (wp_mono _ _ _ hQ)).trans (wp_fupd _ _ _ _ _)

/-- All closed at the end. -/
theorem to_last (R : sProp 𝕄) (A : sProp 𝕄) :
    iprop(recs I K ∗ (∃ W, owes (c : Thread nD τ) 0 W)
        ∗ (bigSep (Finset.univ.erase 0) fun u => iprop(atPos ER (dmaC c (sdS u)) 1 ∅ 0 ∗ ∃ f, sPt c u f))
        ∗ (bigSep (Finset.univ.erase (aC c)) fun r => atPos ER (dmaC c (rvS r)) 1 ∅ 0)
        ∗ (((c : Thread nD τ).loc cc0_scratch2) ↦{fullShare} RBc I c) ∗ A
        ∗ ((((c : Thread nD τ).loc cc0_scratch0) ↦{fullShare} PAIR I c) ∗ (∃ f, sPt c 0 f) ∗ atPos ER (barC c) 1 ∅ 0 ∗ atPos ER (dmaC c xsS) 1 ∅ 0 ∗ atPos ER (dmaC c xrS) 1 ∅ 0
            ∗ atPos ER (dmaC c (sdS 0)) 0 ∅ 0 ∗ atPos ER (dmaC c (rvS (aC c))) 0 ∅ 0 ∗ R))
      ⊢ |={Set.univ}=> iprop(last c ∗ (∃ W, owes (c : Thread nD τ) 0 W) ∗ A ∗ R) := by
  iintro ⟨#HR, HO, Hsd, Prv, H2, HA, H0, Hz, Pb, Pxs, Pxr, Ps0, Pr0, HX⟩
  ihave Hsd' := (Entails.of_eq (bigSep_sep' (Finset.univ.erase (0 : Fin 16)) (fun u => atPos ER (dmaC c (sdS u)) 1 ∅ 0) (fun u => iprop(∃ f, sPt (F := F) c u f)))) $$ Hsd
  icases Hsd' with ⟨Psd, Hss⟩
  imod (close_all I K c (Finset.univ.erase 0) sdS (sd_mem c)) $$ [Psd] with Vsd
  · isplitr; · iexact HR
    iexact Psd
  imod (close_all I K c (Finset.univ.erase (aC c)) rvS (rv_mem c)) $$ [Prv] with Vrv
  · isplitr; · iexact HR
    iexact Prv
  imod (close I K (bar_mem c)) $$ [Pb] with Vb
  · isplitr; · iexact HR
    iexact Pb
  imod (close I K (xs_mem c)) $$ [Pxs] with Vxs
  · isplitr; · iexact HR
    iexact Pxs
  imod (close I K (xr_mem c)) $$ [Pxr] with Vxr
  · isplitr; · iexact HR
    iexact Pxr
  imod (close0 I K (sd_mem c 0) (duties_none_sd I c)) $$ [Ps0] with Vs0
  · isplitr; · iexact HR
    iexact Ps0
  imod (close0 I K (rv_mem c (aC c)) (duties_none_rv I c)) $$ [Pr0] with Vr0
  · isplitr; · iexact HR
    iexact Pr0
  imodintro
  unfold last scr
  isplitr [HO HA HX]
  · isplitl [H0 H2 Hss Hz]
    · isplitl [H0]; · iexists _; iexact H0
      isplitl [Hss Hz]
      · iapply (s_join c (RBc I c))
        iapply (Entails.of_eq (one_off (0 : Fin 16) (fun u => iprop(∃ f, sPt (F := F) c u f))).symm)
        isplitl [Hz]; · iexact Hz
        iexact Hss
      iexists _; iexact H2
    isplitl [Vb]; · iexact Vb
    isplitl [Vxs]; · iexact Vxs
    isplitl [Vxr]; · iexact Vxr
    isplitl [Vsd Vs0]
    · iapply (Entails.of_eq (one_off (0 : Fin 16) (fun u => semVal (dmaC c (sdS u)) 0)).symm)
      isplitl [Vs0]; · iexact Vs0
      iexact Vsd
    iapply (Entails.of_eq (one_off (aC c) (fun r => semVal (dmaC c (rvS r)) 0)).symm)
    isplitl [Vr0]; · iexact Vr0
    iexact Vrv
  isplitl [HO]; · iexact HO
  isplitl [HA]; · iexact HA
  iexact HX

/-- The body at the last grid point: the last tile is sent, all waits are done, and the result is stored. -/
theorem body_last (R : sProp 𝕄) (hi : (i 0).val = 15) (hs : I.s c = k0_pay6 (X4 i0) (X5 i0)) :
    iprop(mid I K c 15 ∗ (∃ W, owes (c : Thread nD τ) (Orv c 15) W) ∗ argR I c arg2 arg3 arg4 arg5 X4 X5 15 ∗ owns (c : Thread nD τ) arg6 fullShare X6 ∗ R)
      ⊢ WP c (cc0_body (F := F) i arg1 harg1 arg2 harg2 arg3 harg3 arg4 harg4 arg5 harg5 arg6 harg6 (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) fun _ => iprop(last c ∗ (∃ W, owes (c : Thread nD τ) 0 W) ∗ owns (c : Thread nD τ) arg6 fullShare (k0_pay4 (RBc I c))
        ∗ argR I c arg2 arg3 arg4 arg5 X4 X5 15 ∗ R) := by
  refine tile_mid I K c i arg1 harg1 arg2 harg2 arg3 harg3 arg4 harg4 arg5 harg5 arg6 harg6 X4 X5 i0 _ (15 : Fin 16) (by decide) hi hs _ ?_
  refine BIBase.Entails.trans (Q := iprop(mid I K c 16 ∗ (∃ W, owes (c : Thread nD τ) (Orv c 16) W) ∗ owns (c : Thread nD τ) arg6 fullShare X6
    ∗ (argR I c arg2 arg3 arg4 arg5 X4 X5 15 ∗ R))) ?_ ?_
  · iintro ⟨H1, H2, H3, H4, H5⟩
    isplitl [H1]; · iexact H1
    isplitl [H2]; · iexact H2
    isplitl [H4]; · iexact H4
    isplitl [H3]; · iexact H3
    iexact H5
  refine (to_waits I K c arg6 X6 _).trans ?_
  exact WP_fupd c (end_step I K c i arg1 harg1 arg2 harg2 arg3 harg3 arg4 harg4 arg5 harg5 arg6 harg6 _ X6 hi) fun _ => to_last I K c _ _

end Cert.Talk

end
-- ==== Proof.Data.lean ====
/-
  The launch's proof data: the table, the operands of each device, the body's states, and what the body finds staged.
-/
module

public import proofs.«01_k».proof.Proof.Body
public import Idealize.ShloMosaic.Lib.Pipeline.Frame
public import Idealize.ShloMosaic.Lib.Pipeline.ValueKit.Geometry

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

/-! ## The prefetched table, and the block it selects -/

/-- The column block of the weights that the table's word and the grid point select, as the program computes it. -/
def wcol (v0 a : BitVec 32) : BitVec 32 :=
  Scalar.addi (Scalar.muli 2#32 (Scalar.remsi (Scalar.addi
    (Scalar.select
      (Scalar.andi (Scalar.cmpi .ne (Scalar.subi (Scalar.extui (Scalar.cmpi .sgt v0 0#32) : BitVec 32) (Scalar.extui (Scalar.cmpi .slt v0 0#32)))
        (Scalar.subi (Scalar.extui (Scalar.cmpi .sgt 2#32 0#32)) (Scalar.extui (Scalar.cmpi .slt 2#32 0#32))))
        (Scalar.cmpi .ne (Scalar.remsi v0 2#32) 0#32))
      (Scalar.subi (Scalar.divsi v0 2#32) 1#32) (Scalar.divsi v0 2#32)) a) 16#32)) (Scalar.remsi v0 2#32)
/-- The word that the program computes for the block of columns is the number of the device that receives the tile. -/
theorem wcol_eq : ∀ (c : Dev nD) (u : Fin 16), (wcol (Dev.word c) (BitVec.ofNat 32 u.val)).toNat = (rcv c u).val := by decide +kernel

/-- The table holds the device's own number. -/
def tab (c : Dev nD) : pre0.Contents (Elt F)
  | ⟨0, _⟩ => fun _ => Dev.word c
  | ⟨_ + 1, h⟩ => absurd h (Nat.not_lt.2 (Nat.le_add_left _ _))

/-- Grid point of a coordinate. -/
def pt (i : grid0.Coords) : Fin 16 := ⟨(i 0).val, (i 0).isLt⟩

/-- The weights' index map at a device's table selects the receiver's block of columns. -/
theorem index_tab (c : Dev nD) (i : grid0.Coords) :
    cc0_transform_1 inb_S1_S1_0 numel1_S1 (tab (F := F) c) i = ![0, (rcv c (pt i)).val] := by
  rw [← wcol_eq c (pt i)]
  rfl

/-- Every block of 256 columns lies in the weights and is a legal transfer. -/
theorem block_ok : ∀ q : Fin 32, ∃ h : (∀ a, ((![0, q.val] : Fin 2 → ℕ) a + 1) * S4096x256.size a ≤ S4096x8192.size a),
    EltTy.bits .fp8e5m2 = 32 ∨ (Rect.block (s := S4096x8192) S4096x256.size ![0, q.val] h).WholeWords (EltTy.packing .fp8e5m2) := by decide +kernel

/-- So the table of each device is admissible. -/
theorem tab_ok (c : Dev nD) : ok0 (tab (F := F) c) := by
  intro i
  rw [index_tab c i]
  exact block_ok (rcv c (pt i))

/-- The pipeline at each device's table. -/
def adm (c : Dev nD) (p : Fin 1) : (pcfgs (F := F) p).Adm := ⟨tab c, tab_ok c⟩
/-- The pipeline of a device, at its table. -/
abbrev cfgD (c : Dev nD) : Cfg sig Λ₀ := (pcfg0 (F := F)).at (adm c 0)

/-! ## What a device starts from -/

variable (m : (ℓ : Loc nD τ sig) → Buf (Elt F) ℓ)

/-- The one index of a vector of one element. -/
def i0 : S1.Idx := ValueIdx.ix1 ⟨0, Nat.one_pos⟩

/-- The operands, read off the launch's memory: the rows of `x`, the block of columns of the weights that the device works on
    at a grid point, the product of the scales. -/
def inOf : In F where
  x c := m ((c : Thread nD τ).loc main_arg0)
  w c u := fun j => m ((c : Thread nD τ).loc main_arg1) (ValueIdx.ix2 ⟨(j 0).val, (j 0).isLt⟩ ⟨(rcv c u).val * 256 + (j 1).val, by
    have h : (j 1).val < 256 := (j 1).isLt
    have h' : (rcv c u).val < 32 := (rcv c u).isLt
    show _ < 8192; omega⟩)
  s c := k0_pay6 (m ((c : Thread nD τ).loc main_arg2) i0) (m ((c : Thread nD τ).loc main_arg3) i0)

/-- The table, held whole. -/
def tabHeld (c : Dev nD) : sProp 𝕄 := Pipeline.prefHeld (pcfg0 (F := F)).pre c (fun _ => fullShare) (tab c)

/-- The proof data: the windows' arrays at launch, the body's states, what is owed between points. -/
def dat (c : Dev nD) : Dat τ (Elt F) Unit ℕ UU ℕ (cfgD (F := F) c) c where
  A w := V1 m c (Proc.devRef .tc (Pipeline.arrRef spec0 w))
  after
    | ⟨0, _⟩ => fun _ => (inOf m).x c
    | ⟨1, _⟩ => fun t => (inOf m).w c (pt (grid0.coords t))
    | ⟨2, _⟩ => fun _ => m ((c : Thread nD τ).loc main_arg2)
    | ⟨3, _⟩ => fun _ => m ((c : Thread nD τ).loc main_arg3)
    | ⟨4, _⟩ => fun _ => k0_pay4 (RBc (inOf m) c)
    | ⟨_ + 5, h⟩ => absurd h (Nat.not_lt.2 (Nat.le_add_left _ _))
  Φ t := if t.val = 0 then iprop(∃ K, first (inOf m) K c ∗ tabHeld c) else if t.val = 16 then iprop(last c ∗ tabHeld c)
    else iprop(∃ K, mid (inOf m) K c t.val ∗ tabHeld c)
  q _ := fullShare
  owed t := if t.val = 0 then O₀ c else Orv c t.val

/-- The same data, in the form the library's region takes it. -/
def pdats (p : Fin 1) (c : Dev nD) : Dat τ (Elt F) Unit ℕ UU ℕ (Pipeline.pinD (pcfgs (F := F)) adm c p) c := dat m c

/-! ## What the body finds in the staging buffers -/

/-- A grid point's coordinate is its number. -/
theorem coords_val : ∀ t : Fin grid0.N, (grid0.coords t 0).val = t.val := by decide +kernel

/-- Before the region the argument `x` is as launched. -/
theorem A0 (c : Dev nD) : V1 m c main_arg0 = m ((c : Thread nD τ).loc main_arg0) := V1_of m c main_arg0 (by decide)
/-- Before the region the weights are as launched. -/
theorem A1 (c : Dev nD) : V1 m c main_arg1 = m ((c : Thread nD τ).loc main_arg1) := V1_of m c main_arg1 (by decide)
/-- Before the region the first scale is as launched. -/
theorem A2 (c : Dev nD) : V1 m c main_arg2 = m ((c : Thread nD τ).loc main_arg2) := V1_of m c main_arg2 (by decide)
/-- Before the region the second scale is as launched. -/
theorem A3 (c : Dev nD) : V1 m c main_arg3 = m ((c : Thread nD τ).loc main_arg3) := V1_of m c main_arg3 (by decide)

/-- The block of `x` at each grid point is the whole of the device's rows. -/
theorem blockOf0 (c : Dev nD) (t : Fin grid0.N) : (dat m c).blockOf (0 : Fin 5) t = (inOf m).x c := by
  funext y
  show V1 m c main_arg0 _ = m ((c : Thread nD τ).loc main_arg0) y
  rw [A0]
  congr 1
  funext a
  apply Fin.ext
  match a with
  | ⟨0, _⟩ => show 0 * 128 + 1 * (y 0).val = (y 0).val; omega
  | ⟨1, _⟩ => show 0 * 4096 + 1 * (y 1).val = (y 1).val; omega

/-- The block of the weights at a grid point is the receiver's columns. -/
theorem blockOf1 (c : Dev nD) (t : Fin grid0.N) : (dat m c).blockOf (1 : Fin 5) t = (inOf m).w c (pt (grid0.coords t)) := by
  funext y
  show V1 m c main_arg1 _ = m ((c : Thread nD τ).loc main_arg1) _
  rw [A1]
  congr 1
  funext a
  apply Fin.ext
  match a with
  | ⟨0, _⟩ => show cc0_transform_1 inb_S1_S1_0 numel1_S1 (tab (F := F) c) (grid0.coords t) 0 * 4096 + 1 * (y 0).val = (y 0).val; rw [index_tab]; show 0 * 4096 + 1 * (y 0).val = (y 0).val; omega
  | ⟨1, _⟩ =>
    show cc0_transform_1 inb_S1_S1_0 numel1_S1 (tab (F := F) c) (grid0.coords t) 1 * 256 + 1 * (y 1).val = (rcv c (pt (grid0.coords t))).val * 256 + (y 1).val
    rw [index_tab]; show (rcv c (pt (grid0.coords t))).val * 256 + 1 * (y 1).val = _; omega

/-- The block of the first scale is the scale. -/
theorem blockOf2 (c : Dev nD) (t : Fin grid0.N) : (dat m c).blockOf (2 : Fin 5) t = m ((c : Thread nD τ).loc main_arg2) := by
  funext y
  show V1 m c main_arg2 _ = m ((c : Thread nD τ).loc main_arg2) y
  rw [A2]
  congr 1
  funext a
  apply Fin.ext
  match a with
  | ⟨0, _⟩ => show 0 * 1 + 1 * (y 0).val = (y 0).val; omega
/-- The block of the second scale is the scale. -/
theorem blockOf3 (c : Dev nD) (t : Fin grid0.N) : (dat m c).blockOf (3 : Fin 5) t = m ((c : Thread nD τ).loc main_arg3) := by
  funext y
  show V1 m c main_arg3 _ = m ((c : Thread nD τ).loc main_arg3) y
  rw [A3]
  congr 1
  funext a
  apply Fin.ext
  match a with
  | ⟨0, _⟩ => show 0 * 1 + 1 * (y 0).val = (y 0).val; omega

/-- A fetched window holds its block, and so does one left alone since a point with the same block. -/
theorem before_in (c : Dev nD) (w : Fin 5) (hw : ((cfgD (F := F) c).win w).isOut = false) (hl : ∀ i, (cfgD (F := F) c).idle w i = false)
    (t : Fin grid0.N) (hb : ((cfgD (F := F) c).win w).fetch t = true → ∀ d, (dat m c).fetched w t d = (dat m c).after w t)
    (hk : ∀ h : ((cfgD (F := F) c).win w).fetch t = false, ∀ d, (dat m c).kept w ⟨t.val - 1, Nat.lt_of_le_of_lt (Nat.sub_le _ _) t.isLt⟩ d = (dat m c).after w t) (d) :
    (dat m c).before w t d = (dat m c).after w t := by
  by_cases hf : ((cfgD (F := F) c).win w).fetch t = true
  · rw [(dat m c).before_fetched w t hf, hb hf]
  · have hf' := Bool.eq_false_iff.mpr hf
    rw [(dat m c).before_unfetched_in w hw t hf' hl, hk hf']

/-- The body finds the device's rows of `x` staged. -/
theorem before0 (c : Dev nD) (t : Fin grid0.N) (d) : (dat m c).before (0 : Fin 5) t d = (inOf m).x c :=
  before_in m c (0 : Fin 5) rfl (fun _ => rfl) t (fun _ d => blockOf0 m c t) (fun _ d => rfl) d
/-- The body finds the first scale staged. -/
theorem before2 (c : Dev nD) (t : Fin grid0.N) (d) : (dat m c).before (2 : Fin 5) t d = m ((c : Thread nD τ).loc main_arg2) :=
  before_in m c (2 : Fin 5) rfl (fun _ => rfl) t (fun _ d => blockOf2 m c t) (fun _ d => rfl) d
/-- The body finds the second scale staged. -/
theorem before3 (c : Dev nD) (t : Fin grid0.N) (d) : (dat m c).before (3 : Fin 5) t d = m ((c : Thread nD τ).loc main_arg3) :=
  before_in m c (3 : Fin 5) rfl (fun _ => rfl) t (fun _ d => blockOf3 m c t) (fun _ d => rfl) d

/-- Two grid points in a row compute for different devices. -/
theorem rcv_step : ∀ (c : Dev nD) (u : Fin 16), u.val ≠ 0 → (rcv c u).val ≠ (rcv c ⟨u.val - 1, Nat.lt_of_le_of_lt (Nat.sub_le _ _) u.isLt⟩).val := by decide +kernel

/-- The weights' window is fetched at every point. -/
theorem fetch1 (c : Dev nD) (t : Fin grid0.N) : ((cfgD (F := F) c).win (1 : Fin 5)).fetch t = true := by
  refine (Pipeline.Window.fetch_in _ rfl t).mpr ?_
  by_cases h0 : t.val = 0
  · exact .inl h0
  · refine .inr ⟨Nat.pos_of_ne_zero h0, fun e => ?_⟩
    have e' : cc0_transform_1 inb_S1_S1_0 numel1_S1 (tab (F := F) c) (grid0.coords t)
        = cc0_transform_1 inb_S1_S1_0 numel1_S1 (tab (F := F) c) (grid0.coords ⟨t.val - 1, Nat.lt_of_le_of_lt (Nat.sub_le _ _) t.isLt⟩) := e
    rw [index_tab, index_tab] at e'
    have e1 : (rcv c (pt (grid0.coords t))).val = (rcv c (pt (grid0.coords ⟨t.val - 1, Nat.lt_of_le_of_lt (Nat.sub_le _ _) t.isLt⟩))).val := congrFun e' 1
    have h1 : pt (grid0.coords ⟨t.val - 1, Nat.lt_of_le_of_lt (Nat.sub_le _ _) t.isLt⟩) = ⟨(pt (grid0.coords t)).val - 1, Nat.lt_of_le_of_lt (Nat.sub_le _ _) (pt (grid0.coords t)).isLt⟩ := by
      apply Fin.ext
      show (grid0.coords _ 0).val = (grid0.coords t 0).val - 1
      rw [coords_val, coords_val]
    rw [h1] at e1
    refine rcv_step c _ ?_ e1
    show (grid0.coords t 0).val ≠ 0
    rw [coords_val]; exact h0

/-- The body finds the receiver's columns of the weights staged. -/
theorem before1 (c : Dev nD) (t : Fin grid0.N) (d) : (dat m c).before (1 : Fin 5) t d = (inOf m).w c (pt (grid0.coords t)) := by
  rw [(dat m c).before_fetched (1 : Fin 5) t (fetch1 c t)]
  exact blockOf1 m c t

/-- The result's window is written back at the last point alone. -/
theorem flush4 (c : Dev nD) (t : Fin grid0.N) : ((cfgD (F := F) c).win (4 : Fin 5)).flush t = true ↔ t.val = 15 := by
  rw [Pipeline.Window.flush_out _ rfl t]
  have hN : grid0.N = 16 := N_0
  constructor
  · rintro (h | ⟨h, e⟩)
    · have h' : t.val + 1 = grid0.N := h
      omega
    · exact absurd rfl e
  · intro h
    exact .inl (show t.val + 1 = grid0.N by omega)

end Cert.Talk

end
-- ==== Proof.Oblig.lean ====
/-
  The body at every grid point, as the pipeline asks for it.
-/
module

public import proofs.«01_k».proof.Proof.Data

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The body at a point, on the staging buffers it is called with -/

/-- The operands staged at a point. -/
def stg (t : Fin grid0.N) (s : (w : Fin 5) → Fin (spec0 w).nbuf) (u : Fin 16) : sProp 𝕄 :=
  argR (inOf m) c (spec0_0.stage (s 0)) (spec0_1.stage (s 1)) (spec0_2.stage (s 2)) (spec0_3.stage (s 3))
    (m ((c : Thread nD τ).loc main_arg2)) (m ((c : Thread nD τ).loc main_arg3)) u

/-- The body's program at a point. -/
def prog (t : Fin grid0.N) (s : (w : Fin 5) → Fin (spec0 w).nbuf) : Prog (TpuEff nD τ sig (Elt F) Λ₀ .tc) PUnit :=
  cc0_body (F := F) (grid0.coords t) (Memref.whole main_v5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4))
    (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6

/-- A run's precondition may be strengthened and its postcondition weakened. -/
theorem WP_conseq {p : Prog (TpuEff nD τ sig (Elt F) Λ₀ .tc) PUnit} {P P' : sProp 𝕄} {Q Q' : PUnit → sProp 𝕄} (h : P ⊢ WP c p Q) (hP : P' ⊢ P)
    (hQ : ∀ v, Q v ⊢ Q' v) : P' ⊢ WP c p Q' :=
  WP_fupd c (hP.trans h) fun v => (hQ v).trans fupd_intro

/-- The body obligation's program runs at the first grid point. -/
theorem prog_first (t : Fin grid0.N) (s) (ht : t.val = 0) (R : sProp 𝕄) :
    iprop((∃ K, first (inOf m) K c ∗ tabHeld c) ∗ (∃ W, owes (c : Thread nD τ) (O₀ c) W) ∗ stg m c t s (pt (grid0.coords t)) ∗ R)
      ⊢ WP c (prog (F := F) t s) fun _ => iprop((∃ K, mid (inOf m) K c 1 ∗ tabHeld c) ∗ (∃ W, owes (c : Thread nD τ) (Orv c 1) W)
        ∗ stg m c t s (pt (grid0.coords t)) ∗ R) := by
  have hp : pt (grid0.coords t) = 0 := Fin.ext ((coords_val t).trans ht)
  rw [hp]
  unfold stg prog
  iintro ⟨⟨%K, HF, HT⟩, ⟨%W, HO⟩, HA, HR⟩
  have h := body_first (inOf m) K c (grid0.coords t) (Memref.whole main_v5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (m ((c : Thread nD τ).loc main_arg2)) (m ((c : Thread nD τ).loc main_arg3)) i0 W iprop(tabHeld c ∗ R)
    ((coords_val t).trans ht) rfl
  iapply (WP_conseq (P' := iprop(first (inOf m) K c ∗ owes (c : Thread nD τ) (O₀ c) W ∗ argR (inOf m) c (spec0_0.stage (s 0)) (spec0_1.stage (s 1)) (spec0_2.stage (s 2)) (spec0_3.stage (s 3))
    (m ((c : Thread nD τ).loc main_arg2)) (m ((c : Thread nD τ).loc main_arg3)) 0 ∗ tabHeld c ∗ R)) c h .rfl fun _ => by
      iintro ⟨H1, H2, H3, H4, H5⟩
      isplitl [H1 H4]
      · iexists K
        isplitl [H1]; · iexact H1
        iexact H4
      isplitl [H2]; · iexact H2
      isplitl [H3]; · iexact H3
      iexact H5)
  isplitl [HF]; · iexact HF
  isplitl [HO]; · iexact HO
  isplitl [HA]; · iexact HA
  isplitl [HT]; · iexact HT
  iexact HR

/-- The body obligation's program runs at a middle grid point. -/
theorem prog_mid (t : Fin grid0.N) (s) (h0 : t.val ≠ 0) (h15 : t.val ≠ 15) (R : sProp 𝕄) :
    iprop((∃ K, mid (inOf m) K c t.val ∗ tabHeld c) ∗ (∃ W, owes (c : Thread nD τ) (Orv c t.val) W) ∗ stg m c t s (pt (grid0.coords t)) ∗ R)
      ⊢ WP c (prog (F := F) t s) fun _ => iprop((∃ K, mid (inOf m) K c (t.val + 1) ∗ tabHeld c) ∗ (∃ W, owes (c : Thread nD τ) (Orv c (t.val + 1)) W)
        ∗ stg m c t s (pt (grid0.coords t)) ∗ R) := by
  have hv : t.val = (pt (grid0.coords t)).val := (coords_val t).symm
  have hu : pt (grid0.coords t) ≠ 0 := fun e => h0 (hv.trans (congrArg Fin.val e))
  have hl : (pt (grid0.coords t)).val ≠ 15 := fun e => h15 (hv.trans e)
  rw [hv]
  unfold stg prog
  iintro ⟨⟨%K, HF, HT⟩, HO, HA, HR⟩
  have h := body_mid (inOf m) K c (grid0.coords t) (Memref.whole main_v5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (m ((c : Thread nD τ).loc main_arg2)) (m ((c : Thread nD τ).loc main_arg3)) i0 iprop(tabHeld c ∗ R)
    (pt (grid0.coords t)) hu hl rfl rfl
  iapply (WP_conseq (P' := iprop(mid (inOf m) K c (pt (grid0.coords t)).val ∗ (∃ W, owes (c : Thread nD τ) (Orv c (pt (grid0.coords t)).val) W) ∗ argR (inOf m) c (spec0_0.stage (s 0)) (spec0_1.stage (s 1)) (spec0_2.stage (s 2)) (spec0_3.stage (s 3))
    (m ((c : Thread nD τ).loc main_arg2)) (m ((c : Thread nD τ).loc main_arg3)) (pt (grid0.coords t)) ∗ tabHeld c ∗ R)) c h .rfl fun _ => by
      iintro ⟨H1, H2, H3, H4, H5⟩
      isplitl [H1 H4]
      · iexists K
        isplitl [H1]; · iexact H1
        iexact H4
      isplitl [H2]; · iexact H2
      isplitl [H3]; · iexact H3
      iexact H5)
  isplitl [HF]; · iexact HF
  isplitl [HO]; · iexact HO
  isplitl [HA]; · iexact HA
  isplitl [HT]; · iexact HT
  iexact HR

/-- The body obligation's program runs at the last grid point. -/
theorem prog_last (t : Fin grid0.N) (s) (h15 : t.val = 15) (X6 : Vec F S4096x256 .f32) :
    iprop((∃ K, mid (inOf m) K c t.val ∗ tabHeld c) ∗ (∃ W, owes (c : Thread nD τ) (Orv c t.val) W) ∗ stg m c t s (pt (grid0.coords t))
        ∗ owns (c : Thread nD τ) (spec0_4.stage (s 4)) fullShare X6)
      ⊢ WP c (prog (F := F) t s) fun _ => iprop((last c ∗ tabHeld c) ∗ (∃ W, owes (c : Thread nD τ) (0 : CellTallies nD τ sig Unit) W)
        ∗ stg m c t s (pt (grid0.coords t)) ∗ owns (c : Thread nD τ) (spec0_4.stage (s 4)) fullShare (k0_pay4 (RBc (inOf m) c))) := by
  have hp : pt (grid0.coords t) = 15 := Fin.ext ((coords_val t).trans h15)
  rw [hp, h15]
  unfold stg prog
  iintro ⟨⟨%K, HF, HT⟩, HO, HA, HR⟩
  have h := body_last (inOf m) K c (grid0.coords t) (Memref.whole main_v5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (m ((c : Thread nD τ).loc main_arg2)) (m ((c : Thread nD τ).loc main_arg3)) X6 i0 iprop(tabHeld c)
    ((coords_val t).trans h15) rfl
  iapply (WP_conseq (P' := iprop(mid (inOf m) K c 15 ∗ (∃ W, owes (c : Thread nD τ) (Orv c 15) W) ∗ argR (inOf m) c (spec0_0.stage (s 0)) (spec0_1.stage (s 1)) (spec0_2.stage (s 2)) (spec0_3.stage (s 3))
    (m ((c : Thread nD τ).loc main_arg2)) (m ((c : Thread nD τ).loc main_arg3)) 15 ∗ owns (c : Thread nD τ) (spec0_4.stage (s 4)) fullShare X6 ∗ tabHeld c)) c h .rfl fun _ => by
      iintro ⟨H1, H2, H3, H4, H5⟩
      isplitl [H1 H5]
      · isplitl [H1]; · iexact H1
        iexact H5
      isplitl [H2]; · iexact H2
      isplitl [H4]; · iexact H4
      iexact H3)
  isplitl [HF]; · iexact HF
  isplitl [HO]; · iexact HO
  isplitl [HA]; · iexact HA
  isplitl [HR]; · iexact HR
  iexact HT

/-! ## As the pipeline asks for it -/

/-- What a device owes gives what the data say it owes at a point. -/
theorem owesAt_intro (t : Fin ((cfgD (F := F) c).N + 1)) (O : CellTallies nD τ sig Unit) (h0 : (dat m c).owed t = O) :
    iprop(∃ W, owes (c : Thread nD τ) O W) ⊢ ((dat m c).owesAt () t : sProp 𝕄) := by
  unfold Dat.owesAt Pipeline.owesWithin Dat.bound; rw [h0, show (dat m c).recorded t = Set.univ from rfl]
  iintro ⟨%W, HO⟩; iexists W; isplitr; · ipureintro; exact fun _ _ => Or.inl trivial
  iexact HO
/-- What the data say it owes at a point is what the device owes. -/
theorem owesAt_elim (t : Fin ((cfgD (F := F) c).N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- What is owed before the first point. -/
theorem owed_zero (t : Fin ((cfgD (F := F) c).N + 1)) (h : t.val = 0) : (dat m c).owed t = O₀ c := if_pos h
/-- What is owed before a later point. -/
theorem owed_pos (t : Fin ((cfgD (F := F) c).N + 1)) (h : t.val ≠ 0) : (dat m c).owed t = Orv c t.val := if_neg h
/-- The state before the first point. -/
theorem Phi_zero (t : Fin ((cfgD (F := F) c).N + 1)) (h : t.val = 0) : (dat m c).Φ t = iprop(∃ K, first (inOf m) K c ∗ tabHeld c) := if_pos h
/-- The state between points. -/
theorem Phi_mid (t : Fin ((cfgD (F := F) c).N + 1)) (h : t.val ≠ 0) (h' : t.val ≠ 16) : (dat m c).Φ t = iprop(∃ K, mid (inOf m) K c t.val ∗ tabHeld c) :=
  (if_neg h).trans (if_neg h')
/-- The state after the last point. -/
theorem Phi_last (t : Fin ((cfgD (F := F) c).N + 1)) (h' : t.val = 16) : (dat m c).Φ t = iprop(last c ∗ tabHeld c) :=
  (if_neg (by omega)).trans (if_pos h')
/-- After the last point nothing is owed. -/
theorem Orv_16 : Orv c 16 = 0 := by unfold Orv; rw [show later (0 : Fin 16) 16 = ∅ from later_top _, Finset.sum_empty]

/-- The result's window at a point: as found, or at the last point the result. -/
def outPost (t : Fin grid0.N) (s : (w : Fin 5) → Fin (spec0 w).nbuf) : sProp 𝕄 :=
  if t.val = 15 then owns (c : Thread nD τ) (spec0_4.stage (s 4)) fullShare (k0_pay4 (RBc (inOf m) c))
  else iprop(∃ d, owns (c : Thread nD τ) (spec0_4.stage (s 4)) fullShare ((dat m c).before (4 : Fin 5) t d))

/-- The body runs at every grid point. -/
theorem run_point (t : Fin grid0.N) (s : (w : Fin 5) → Fin (spec0 w).nbuf) :
    iprop((dat m c).Φ t.castSucc ∗ (dat m c).owesAt () t.castSucc ∗ stg m c t s (pt (grid0.coords t))
        ∗ ∃ d, owns (c : Thread nD τ) (spec0_4.stage (s 4)) fullShare ((dat m c).before (4 : Fin 5) t d))
      ⊢ WP c (prog (F := F) t s) fun _ => iprop((dat m c).Φ t.succ ∗ (dat m c).owesAt () t.succ ∗ stg m c t s (pt (grid0.coords t)) ∗ outPost m c t s) := by
  have htl : t.val < 16 := lt_of_lt_of_eq t.isLt N_0
  have hcs : (t.castSucc : Fin (grid0.N + 1)).val = t.val := rfl
  have hsu : (t.succ : Fin (grid0.N + 1)).val = t.val + 1 := rfl
  by_cases h0 : t.val = 0
  · refine WP_conseq c (prog_first m c t s h0 iprop(∃ d, owns (c : Thread nD τ) (spec0_4.stage (s 4)) fullShare ((dat m c).before (4 : Fin 5) t d))) ?_ fun _ => ?_
    · rw [Phi_zero m c t.castSucc (hcs.trans h0)]
      iintro ⟨H1, H2, H3, H4⟩
      isplitl [H1]; · iexact H1
      isplitl [H2]; · iapply (owesAt_elim m c t.castSucc _ (owed_zero m c _ (hcs.trans h0))); iexact H2
      isplitl [H3]; · iexact H3
      iexact H4
    · rw [Phi_mid m c t.succ (by omega) (by omega), hsu, h0]
      unfold outPost; rw [if_neg (by omega)]
      iintro ⟨H1, H2, H3, H4⟩
      isplitl [H1]; · iexact H1
      isplitl [H2]; · iapply (owesAt_intro m c t.succ _ ((owed_pos m c _ (by omega)).trans (by rw [hsu, h0]))); iexact H2
      isplitl [H3]; · iexact H3
      iexact H4
  by_cases h15 : t.val = 15
  · rw [Phi_mid m c t.castSucc (by omega) (by omega), hcs]
    iintro ⟨H1, H2, H3, ⟨%d, H4⟩⟩
    iapply (WP_conseq c (prog_last m c t s h15 ((dat m c).before (4 : Fin 5) t d)) .rfl fun _ => by
      rw [Phi_last m c t.succ (by omega)]
      unfold outPost; rw [if_pos h15]
      iintro ⟨H1, H2, H3, H4⟩
      isplitl [H1]; · iexact H1
      isplitl [H2]; · iapply (owesAt_intro m c t.succ 0 ((owed_pos m c _ (by omega)).trans (by rw [hsu, h15]; exact Orv_16 c))); iexact H2
      isplitl [H3]; · iexact H3
      iexact H4)
    isplitl [H1]; · iexact H1
    isplitl [H2]; · iapply (owesAt_elim m c t.castSucc _ (owed_pos m c _ (by omega))); iexact H2
    isplitl [H3]; · iexact H3
    iexact H4
  · refine WP_conseq c (prog_mid m c t s h0 h15 iprop(∃ d, owns (c : Thread nD τ) (spec0_4.stage (s 4)) fullShare ((dat m c).before (4 : Fin 5) t d))) ?_ fun _ => ?_
    · rw [Phi_mid m c t.castSucc (by omega) (by omega), hcs]
      iintro ⟨H1, H2, H3, H4⟩
      isplitl [H1]; · iexact H1
      isplitl [H2]; · iapply (owesAt_elim m c t.castSucc _ (owed_pos m c _ (by omega))); iexact H2
      isplitl [H3]; · iexact H3
      iexact H4
    · rw [Phi_mid m c t.succ (by omega) (by omega), hsu]
      unfold outPost; rw [if_neg (by omega)]
      iintro ⟨H1, H2, H3, H4⟩
      isplitl [H1]; · iexact H1
      isplitl [H2]; · iapply (owesAt_intro m c t.succ _ (owed_pos m c _ (by omega))); iexact H2
      isplitl [H3]; · iexact H3
      iexact H4

/-- The body obligation of the library, at every grid point. -/
theorem oblig : BodyObligation (dat m c) defs₀ 𝒱₀ () Set.univ := fun t => by
  have hf4 := flush4 (F := F) c t
  have hi4 : (cfgD (F := F) c).idle (4 : Fin 5) (grid0.coords t) = !(decide (t.val = 15)) := by
    show (!(k0_cond36 (grid0.coords t) == 1#1)) = _
    congr 1
    rw [Bool.eq_iff_iff, beq_iff_eq, cond36_iff, coords_val, decide_eq_true_eq]
  rw [bigSep_W0, bigSep_W0]
  refine WP_conseq c (run_point m c t ((cfgD (F := F) c).slots t)) ?_ fun _ => ?_
  · unfold stg argR
    iintro ⟨H1, H2, ⟨%d0, A0⟩, ⟨%d1, A1⟩, ⟨%d2, A2⟩, ⟨%d3, A3⟩, A4⟩
    rw [before0, before1, before2, before3]
    isplitl [H1]; · iexact H1
    isplitl [H2]; · iexact H2
    isplitr [A4]
    · isplitl [A0]; · iexact A0
      isplitl [A1]; · iexact A1
      isplitl [A2]; · iexact A2
      iexact A3
    iexact A4
  · unfold stg argR outPost
    by_cases h15 : t.val = 15
    · have hi : (cfgD (F := F) c).idle (4 : Fin 5) (grid0.coords t) = false := by rw [hi4, decide_eq_true h15]; rfl
      rw [if_pos h15]
      iintro ⟨H1, H2, ⟨A0, A1, A2, A3⟩, A4⟩
      isplitl [H1]; · iexact H1
      isplitl [H2]; · iexact H2
      isplitl [A0]; · iexact A0
      isplitl [A1]; · iexact A1
      isplitl [A2]; · iexact A2
      isplitl [A3]; · iexact A3
      dsimp only
      rw [show idle0 4 (((pcfg0 (F := F)).gridAt (adm (F := F) c 0).1).coords t) = false from hi]
      iexact A4
    · have hi : (cfgD (F := F) c).idle (4 : Fin 5) (grid0.coords t) = true := by rw [hi4, decide_eq_false h15]; rfl
      have hf : ((cfgD (F := F) c).win (4 : Fin 5)).flush t = false := Bool.eq_false_iff.mpr fun h => h15 (hf4.mp h)
      rw [if_neg h15]
      iintro ⟨H1, H2, ⟨A0, A1, A2, A3⟩, A4⟩
      isplitl [H1]; · iexact H1
      isplitl [H2]; · iexact H2
      isplitl [A0]; · iexact A0
      isplitl [A1]; · iexact A1
      isplitl [A2]; · iexact A2
      isplitl [A3]; · iexact A3
      dsimp only
      rw [show idle0 4 (((pcfg0 (F := F)).gridAt (adm (F := F) c 0).1).coords t) = true from hi,
        show ((pcfg0 (F := F)).win (adm (F := F) c 0) (4 : Fin 5)).flush t = false from hf]
      iexact A4

end Cert.Talk

end
-- ==== Proof.Deal.lean ====
/-
  The exchange at launch: the tokens, the rights to open, the credits, dealt to the devices.
-/
module

public import proofs.«01_k».proof.Proof.States

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

/-! ## The tokens, dealt to who pays -/

/-- What a device pays: a unit at each device's barrier, the two ends of the pair exchange, both ends of each tile's transfer. -/
abbrev PayK : Type := Dev nD ⊕ (Fin 2 ⊕ (Fin 16 ⊕ Fin 16))
/-- The counter that device `c` pays for each kind of payment. -/
def paid (c : Dev nD) : PayK → GSem nD τ sig
  | .inl d => barC d
  | .inr (.inl 0) => dmaC c xsS
  | .inr (.inl 1) => dmaC (partner c) xrS
  | .inr (.inr (.inl u)) => dmaC c (sdS u)
  | .inr (.inr (.inr u)) => dmaC (rcv c u) (rvS (aC c))

/-- What each is for. -/
theorem cls_paid (c : Dev nD) (k : PayK) : cls (paid c k).2 = match k with
    | .inl _ => .bar | .inr (.inl 0) => .xs | .inr (.inl 1) => .xr | .inr (.inr (.inl u)) => .sd u | .inr (.inr (.inr _)) => .rv (aC c) := by
  match k with
  | .inl _ => rfl
  | .inr (.inl 0) => rfl
  | .inr (.inl 1) => rfl
  | .inr (.inr (.inl u)) => exact cls_sd u
  | .inr (.inr (.inr _)) => exact cls_rv (aC c)

/-- A device pays no cell twice. -/
theorem paid_inj (c : Dev nD) (k k' : PayK) (h : paid c k = paid c k') : k = k' := by
  have hc : cls (paid c k).2 = cls (paid c k').2 := by rw [h]
  rw [cls_paid, cls_paid] at hc
  match k, k' with
  | .inl d, .inl d' => exact congrArg Sum.inl (Fin.ext (congrArg (fun g : GSem nD τ sig => g.1.1.val) h))
  | .inr (.inl 0), .inr (.inl 0) => rfl
  | .inr (.inl 1), .inr (.inl 1) => rfl
  | .inr (.inr (.inl u)), .inr (.inr (.inl u')) => injection hc with e; rw [e]
  | .inr (.inr (.inr u)), .inr (.inr (.inr u')) =>
    rw [rcv_inj c u u' (Fin.ext (congrArg (fun g : GSem nD τ sig => g.1.1.val) h))]
  | .inl _, .inr (.inl 0) => cases hc
  | .inl _, .inr (.inl 1) => cases hc
  | .inl _, .inr (.inr (.inl _)) => cases hc
  | .inl _, .inr (.inr (.inr _)) => cases hc
  | .inr (.inl 0), .inl _ => cases hc
  | .inr (.inl 0), .inr (.inl 1) => cases hc
  | .inr (.inl 0), .inr (.inr (.inl _)) => cases hc
  | .inr (.inl 0), .inr (.inr (.inr _)) => cases hc
  | .inr (.inl 1), .inl _ => cases hc
  | .inr (.inl 1), .inr (.inl 0) => cases hc
  | .inr (.inl 1), .inr (.inr (.inl _)) => cases hc
  | .inr (.inl 1), .inr (.inr (.inr _)) => cases hc
  | .inr (.inr (.inl _)), .inl _ => cases hc
  | .inr (.inr (.inl _)), .inr (.inl 0) => cases hc
  | .inr (.inr (.inl _)), .inr (.inl 1) => cases hc
  | .inr (.inr (.inl _)), .inr (.inr (.inr _)) => cases hc
  | .inr (.inr (.inr _)), .inl _ => cases hc
  | .inr (.inr (.inr _)), .inr (.inl 0) => cases hc
  | .inr (.inr (.inr _)), .inr (.inl 1) => cases hc
  | .inr (.inr (.inr _)), .inr (.inr (.inl _)) => cases hc

/-- Every token, its payer in its last component. -/
def Toks : Finset (GSem nD τ sig × ℕ × Dev nD) := Finset.univ.image fun p : Dev nD × PayK => (paid p.1 p.2, 0, p.1)
/-- Different payments have different tokens. -/
theorem toks_inj (p q : Dev nD × PayK) (h : (paid p.1 p.2, 0, p.1) = ((paid q.1 q.2, 0, q.1) : GSem nD τ sig × ℕ × Dev nD)) : p = q := by
  obtain ⟨c, k⟩ := p; obtain ⟨c', k'⟩ := q
  have e1 : c = c' := congrArg (fun x : GSem nD τ sig × ℕ × Dev nD => x.2.2) h
  subst e1
  rw [paid_inj c k k' (congrArg Prod.fst h)]

/-- A separating product over two indices. -/
theorem bigSep_two (Φ : Fin 2 → sProp 𝕄) : bigSep Finset.univ Φ = iprop(Φ 0 ∗ Φ 1) := by
  rw [show (Finset.univ : Finset (Fin 2)) = {0, 1} from by decide, bigSep_insert (by decide), bigSep_singleton]
  rfl

/-- A separating product over a sum type is the product over its two sides. -/
theorem big_sum {A B : Type} [Fintype A] [Fintype B] (Φ : A ⊕ B → sProp 𝕄) :
    bigSep Finset.univ Φ = iprop((bigSep Finset.univ fun a => Φ (.inl a)) ∗ (bigSep Finset.univ fun b => Φ (.inr b))) := bigSep_univ_sum Φ
/-- One factor may be taken out of a separating product. -/
theorem big_take {A : Type} [DecidableEq A] {s : Finset A} {i : A} (hi : i ∈ s) (Φ : A → sProp 𝕄) :
    bigSep s Φ = iprop(Φ i ∗ bigSep (s.erase i) Φ) := bigSep_erase hi

/-- A device's tokens, one for each payment, contain the tokens that it starts with. -/
theorem toks_of (c : Dev nD) : (bigSep Finset.univ fun k : PayK => dutyTok ER (paid c k) 0 c : sProp 𝕄) ⊢ toks c := by
  rw [big_sum, big_sum, big_sum, bigSep_two]
  have h1 : (bigSep Finset.univ fun d : Dev nD => dutyTok ER (paid c (.inl d)) 0 c : sProp 𝕄) ⊢ bigSep (Finset.univ.erase c) fun d => dutyTok ER (barC d) 0 c :=
    bigSep_subset (Finset.erase_subset _ _)
  have h2 : (bigSep Finset.univ fun u : Fin 16 => dutyTok ER (paid c (.inr (.inr (.inl u)))) 0 c : sProp 𝕄) ⊢ bigSep (Finset.univ.erase (0 : Fin 16)) fun u => dutyTok ER (dmaC c (sdS u)) 0 c :=
    bigSep_subset (Finset.erase_subset _ _)
  have h3 : (bigSep Finset.univ fun u : Fin 16 => dutyTok ER (paid c (.inr (.inr (.inr u)))) 0 c : sProp 𝕄) ⊢ bigSep (Finset.univ.erase (0 : Fin 16)) fun u => dutyTok ER (dmaC (rcv c u) (rvS (aC c))) 0 c :=
    bigSep_subset (Finset.erase_subset _ _)
  unfold toks
  rw [bigSep_sep']
  iintro ⟨H1, ⟨H2, H3⟩, H4, H5⟩
  isplitl [H1]; · iapply h1; iexact H1
  isplitl [H2]; · iexact H2
  isplitl [H3]; · iexact H3
  isplitl [H4]; · iapply h2; iexact H4
  iapply h3; iexact H5

/-- All the tokens are dealt, each to the device that pays. -/
theorem deal_toks : (bigSep Toks fun x => dutyTok ER x.1 x.2.1 x.2.2 : sProp 𝕄) ⊢ bigSep Finset.univ fun c : Dev nD => toks c := by
  unfold Toks
  rw [bigSep_image_of_injOn (fun p _ q _ h => toks_inj p q h), bigSep_univ_prod]
  exact bigSep_mono fun c _ => toks_of c

/-! ## The rights to open, dealt to the owners -/

/-- The class of each of a device's own counters. -/
theorem cls_osem (k : OwnK) : cls (osem k) = match k with
    | .inl 0 => .xs | .inl 1 => .xr | .inr (.inl u) => .sd u | .inr (.inr r) => .rv r := by
  match k with
  | .inl 0 => rfl
  | .inl 1 => rfl
  | .inr (.inl u) => exact cls_sd u
  | .inr (.inr r) => exact cls_rv r

/-- A device's own counters are different. -/
theorem osem_inj : Function.Injective osem := by
  intro k k' h
  have hc : cls (osem k) = cls (osem k') := by rw [h]
  rw [cls_osem, cls_osem] at hc
  match k, k' with
  | .inl 0, .inl 0 => rfl
  | .inl 1, .inl 1 => rfl
  | .inr (.inl u), .inr (.inl u') => injection hc with e; rw [e]
  | .inr (.inr u), .inr (.inr u') => injection hc with e; rw [e]
  | .inl 0, .inl 1 => cases hc
  | .inl 0, .inr (.inl _) => cases hc
  | .inl 0, .inr (.inr _) => cases hc
  | .inl 1, .inl 0 => cases hc
  | .inl 1, .inr (.inl _) => cases hc
  | .inl 1, .inr (.inr _) => cases hc
  | .inr (.inl _), .inl 0 => cases hc
  | .inr (.inl _), .inl 1 => cases hc
  | .inr (.inl _), .inr (.inr _) => cases hc
  | .inr (.inr _), .inl 0 => cases hc
  | .inr (.inr _), .inl 1 => cases hc
  | .inr (.inr _), .inr (.inl _) => cases hc

/-- The own counters of all devices are different. -/
theorem own_inj (p q : Dev nD × OwnK) (h : ((p.1 : Thread nD τ), osem p.2) = (((q.1 : Thread nD τ), osem q.2) : GSem nD τ sig)) : p = q := by
  obtain ⟨c, k⟩ := p; obtain ⟨c', k'⟩ := q
  have e1 : c = c' := congrArg (fun g : GSem nD τ sig => g.1.1) h
  subst e1
  exact Prod.ext rfl (osem_inj (congrArg Prod.snd h))
/-- Different devices have different barrier counters. -/
theorem bar_inj (c d : Dev nD) (h : barC c = barC d) : c = d := congrArg (fun g : GSem nD τ sig => g.1.1) h

/-- A product over all transfer counters is the product over devices of the product over their own. -/
theorem deal_own (Φ : GSem nD τ sig → sProp 𝕄) :
    bigSep Sdma Φ = bigSep Finset.univ fun c : Dev nD => bigSep Finset.univ fun k : OwnK => Φ ((c : Thread nD τ), osem k) := by
  unfold Sdma
  rw [bigSep_image_of_injOn (fun p _ q _ h => own_inj p q h), bigSep_univ_prod]
/-- A product over all barrier counters is the product over devices. -/
theorem deal_bar (Φ : GSem nD τ sig → sProp 𝕄) : bigSep Sbar Φ = bigSep Finset.univ fun c : Dev nD => Φ (barC c) := by
  unfold Sbar
  rw [bigSep_image_of_injOn (fun p _ q _ h => bar_inj p q h)]

/-- No barrier counter is a transfer counter. -/
theorem cells_disj : Disjoint Sbar Sdma := by
  rw [Finset.disjoint_left]
  intro g h1 h2
  obtain ⟨d, -, rfl⟩ := Finset.mem_image.mp h1
  obtain ⟨⟨c, k⟩, -, e⟩ := Finset.mem_image.mp h2
  have hc : cls (osem k) = .bar := by rw [show osem k = .reg barS from congrArg Prod.snd e]; rfl
  rw [cls_osem] at hc
  match k with
  | .inl 0 => cases hc
  | .inl 1 => cases hc
  | .inr (.inl _) => cases hc
  | .inr (.inr _) => cases hc

/-! ## The launch credit -/

/-- A sum of tallies, read at one counter. -/
theorem sum_tally {A : Type} [DecidableEq A] (S : Finset A) (f : A → GSem nD τ sig) (n : ℕ) (g : GSem nD τ sig) :
    (∑ a ∈ S, (tallyAt (f a) () n : CellTallies nD τ sig Unit)) g () = ∑ a ∈ S, if g = f a then n else 0 := by
  induction S using Finset.induction_on with
  | empty => rfl
  | insert a S ha ih =>
    rw [Finset.sum_insert ha, Finset.sum_insert ha, Pi.add_apply, Finsupp.add_apply, ih, tallyAt_apply]
    simp

/-- What `d` owes a cell at launch. -/
theorem owed_at (d : Dev nD) (g : GSem nD τ sig) : O₀ d g ()
    = (∑ u ∈ Finset.univ.erase (0 : Fin 16), if g = dmaC (rcv d u) (rvS (aC d)) then N2 else 0)
      + (if g = dmaC (partner d) xrS then N1 else 0) + ∑ e ∈ Finset.univ.erase d, if g = barC e then 1 else 0 := by
  unfold O₀ Oxr Orv Obar
  rw [Pi.add_apply, Finsupp.add_apply, Pi.add_apply, Finsupp.add_apply, sum_tally, sum_tally, later_zero, later_zero, tallyAt_apply]
  simp

/-- A barrier counter is not a transfer counter. -/
theorem dma_ne_bar (c d : Dev nD) (s : DmaSem sig) : barC c ≠ dmaC d s := fun h => by
  have := congrArg Prod.snd h
  cases this
/-- Two barrier counters are equal just when their devices are. -/
theorem bar_iff (c d : Dev nD) : (barC c = barC d) = (d = c) := propext ⟨fun h => (bar_inj c d h).symm, fun h => by rw [h]⟩
/-- Two transfer counters are equal just when their devices and semaphores are. -/
theorem dma_iff (c d : Dev nD) (s s' : DmaSem sig) : (dmaC c s = dmaC d s') = (c = d ∧ s = s') := propext ⟨fun h =>
    ⟨congrArg (fun g : GSem nD τ sig => g.1.1) h, by have := congrArg Prod.snd h; injection this⟩, fun ⟨h1, h2⟩ => by rw [h1, h2]⟩

/-- Each device owes every other device's barrier one signal. -/
theorem owed_bar (d c : Dev nD) : O₀ d (barC c) () = if d = c then 0 else 1 := by
  rw [owed_at]
  simp only [dma_ne_bar, if_false, Finset.sum_const_zero, Nat.zero_add, bar_iff]
  rw [Finset.sum_ite_eq']
  simp only [Finset.mem_erase, Finset.mem_univ, and_true]
  by_cases h : d = c
  · rw [if_pos h, if_neg (fun h' => h' h.symm)]
  · rw [if_neg h, if_pos (fun h' => h h'.symm)]

/-- The counter of the rows' arrival is not that of a tile's arrival. -/
theorem xr_ne_rv (r : Fin 16) : xrS ≠ rvS r := fun h => by
  have := congrArg (fun s => cls (.dma s)) h
  rw [cls_xr, cls_rv] at this; cases this
/-- Different slots have different arrival counters. -/
theorem rv_inj (r r' : Fin 16) (h : rvS r = rvS r') : r = r' := by
  have := congrArg (fun s => cls (.dma s)) h
  rw [cls_rv, cls_rv] at this; injection this

/-- Only its partner owes a device the rows of the pair. -/
theorem owed_xr (d c : Dev nD) : O₀ d (dmaC c xrS) () = if d = partner c then N1 else 0 := by
  rw [owed_at]
  simp only [fun e : Dev nD => (dma_ne_bar e c xrS).symm, dma_iff, xr_ne_rv, and_false, if_false, Finset.sum_const_zero, Nat.zero_add, Nat.add_zero, and_true]
  by_cases h : d = partner c
  · rw [if_pos h, if_pos (by rw [h, partner_partner])]
  · rw [if_neg h, if_neg (fun h' => h (by rw [h', partner_partner]))]

/-- A difference of rows is zero only if the rows are equal. -/
theorem fin_sub_zero : ∀ a r : Fin 16, a - r = 0 → r = a := by decide
/-- The device at row `r` of `c`'s column computes for `c` at the grid point `aC c - r`. -/
theorem rcv_back : ∀ (c : Dev nD) (r : Fin 16), rcv (mk r (bC c)) (aC c - r) = c := by decide +kernel
/-- The device and the grid point that a tile comes from, read off its receiver. -/
theorem rcv_from : ∀ (d : Dev nD) (u : Fin 16), d = mk (aC d) (bC (rcv d u)) ∧ aC (rcv d u) - aC d = u := by decide +kernel

/-- The tile of slot `r` is owed by the device at row `r` of the same column. -/
theorem owed_rv (d c : Dev nD) (r : Fin 16) (hr : r ≠ aC c) : O₀ d (dmaC c (rvS r)) () = if d = mk r (bC c) then N2 else 0 := by
  rw [owed_at]
  simp only [fun e : Dev nD => (dma_ne_bar e c (rvS r)).symm, dma_iff, fun r => (xr_ne_rv r).symm, and_false, if_false, Finset.sum_const_zero, Nat.add_zero]
  by_cases h : d = mk r (bC c)
  · subst h
    rw [if_pos rfl, Finset.sum_eq_single (aC c - r)]
    · rw [if_pos ⟨(rcv_back c r).symm, by rw [aC_mk]⟩]
    · intro u _ hu
      refine if_neg fun ⟨h1, _⟩ => hu ?_
      have := (rcv_from (mk r (bC c)) u).2
      rw [← h1, aC_mk] at this
      exact this.symm
    · intro h
      refine absurd (Finset.mem_erase.mpr ⟨fun e => hr ?_, Finset.mem_univ _⟩) h
      exact fin_sub_zero _ _ e
  · rw [if_neg h]
    refine Finset.sum_eq_zero fun u _ => if_neg fun ⟨h1, h2⟩ => h ?_
    have := (rcv_from d u).1
    rw [← h1, ← rv_inj _ _ h2] at this
    exact this

/-- The credit at launch for a counter is the sum of what all devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A device's barrier has credit for 31 signals. -/
theorem launch_bar (c : Dev nD) : tallyOn (barC c) (launchCredit (Pipeline.owing O₀) 0 (barC c)) = (tallyAt (barC c) () 31 : CellTallies nD τ sig Unit) := by
  refine launch_at _ _ ?_
  rw [Finset.sum_congr rfl fun d _ => owed_bar d c]
  revert c; decide +kernel
/-- The counter of the rows' arrival has credit for one transfer of rows. -/
theorem launch_xr (c : Dev nD) : tallyOn (dmaC c xrS) (launchCredit (Pipeline.owing O₀) 0 (dmaC c xrS)) = (tallyAt (dmaC c xrS) () N1 : CellTallies nD τ sig Unit) := by
  refine launch_at _ _ ?_
  rw [Finset.sum_congr rfl fun d _ => owed_xr d c, Finset.sum_ite_eq' Finset.univ (partner c) fun _ => N1, if_pos (Finset.mem_univ _)]
/-- The counter of a tile's arrival has credit for one tile. -/
theorem launch_rv (c : Dev nD) (r : Fin 16) (hr : r ≠ aC c) :
    tallyOn (dmaC c (rvS r)) (launchCredit (Pipeline.owing O₀) 0 (dmaC c (rvS r))) = (tallyAt (dmaC c (rvS r)) () N2 : CellTallies nD τ sig Unit) := by
  refine launch_at _ _ ?_
  rw [Finset.sum_congr rfl fun d _ => owed_rv d c r hr, Finset.sum_ite_eq' Finset.univ (mk r (bC c)) fun _ => N2, if_pos (Finset.mem_univ _)]

/-- The credits that a device waits with are in its launch credit. -/
theorem creds_of (c : Dev nD) : (Pipeline.launchCred O₀ c : sProp 𝕄) ⊢ creds c := by
  have hsub : (Finset.univ.erase (aC c)).image (fun r : Fin 16 => (.dma (rvS r) : SemLoc sig)) ⊆ (Finset.univ.erase (.reg barS : SemLoc sig)).erase (.dma xrS) := by
    intro s hs
    obtain ⟨r, -, rfl⟩ := Finset.mem_image.mp hs
    refine Finset.mem_erase.mpr ⟨fun h => ?_, Finset.mem_erase.mpr ⟨fun h => ?_, Finset.mem_univ _⟩⟩
    · injection h with h; exact xr_ne_rv r h.symm
    · cases h
  have hrv : (bigSep ((Finset.univ.erase (.reg barS : SemLoc sig)).erase (.dma xrS)) fun sm : SemLoc sig => cred (tallyOn ((c : Thread nD τ), sm) (launchCredit (Pipeline.owing O₀) 0 ((c : Thread nD τ), sm))) : sProp 𝕄)
      ⊢ bigSep (Finset.univ.erase (aC c)) fun r => cred (tallyAt (dmaC c (rvS r)) () N2) := by
    refine (bigSep_subset hsub).trans ?_
    rw [bigSep_image_of_injOn (fun r _ r' _ h => rv_inj r r' (by injection h))]
    exact bigSep_mono fun r hr => by rw [launch_rv c r (Finset.ne_of_mem_erase hr)]; exact BI.Entails.refl _
  unfold Pipeline.launchCred creds
  rw [bigSep_univ_at _ (SemLoc.reg barS), launch_bar,
    big_take (i := (.dma xrS : SemLoc sig)) (Finset.mem_erase.mpr ⟨(fun h => by cases h), Finset.mem_univ _⟩), launch_xr]
  iintro ⟨H1, H2, H3⟩
  isplitl [H1]; · iexact H1
  isplitl [H2]; · iexact H2
  iapply hrv; iexact H3

end Cert.Talk

end
-- ==== Proof.Fund.lean ====
/-
  Funding the exchange at launch.
-/
module

public import proofs.«01_k».proof.Proof.Deal

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

/-! ## The first thread states -/

variable (m : (ℓ : Loc nD τ sig) → Buf (Elt F) ℓ)

/-- What a device holds beside its buffers when it starts: the records, its barrier position, the rights to open its own cells,
    its credits and tokens, and what it owes. -/
def start (I : In F) (c : Dev nD) : sProp 𝕄 :=
  iprop((∃ K, recs I K) ∗ atPos ER (barC c) 0 ∅ 0 ∗ (bigSep Finset.univ fun k : OwnK => openTok ER ((c : Thread nD τ), osem k))
    ∗ creds c ∗ toks c ∗ owes (c : Thread nD τ) (O₀ c) ∅)

/-- The launch's ghost element, dealt to device 0. -/
def G (c : Dev nD) : sProp 𝕄 := if c = (⟨0, by decide⟩ : Dev nD) then BI.own (ER (launchOf Sbar Sdma Toks)) else iprop(emp)

/-- The devices' shares of the launch resource make up the whole of it. -/
theorem G_all : (bigSep Finset.univ fun c : Dev nD => G c : sProp 𝕄) = BI.own (ER (launchOf Sbar Sdma Toks)) := by
  unfold G
  exact bigSep_at Finset.univ (⟨0, by decide⟩ : Dev nD) (Finset.mem_univ _) (fun _ => BI.own (ER (launchOf Sbar Sdma Toks)))

/-- The one semaphore that outlives the kernel is the barrier's. -/
theorem unscopedSems0_eq (c : Dev nD) : (unscopedSems0 c : sProp 𝕄) = semVal (barC c) 0 := by
  unfold unscopedSems0
  rw [bigSep_eq_bigSepL_of_eq [SemLoc.reg barS] (by decide) (by decide)]
  rfl

/-- The cells funded at launch under any names for their sets. -/
theorem fund_sets (I : In F) (S Sd C : Finset (GSem nD τ sig)) (T : Finset (GSem nD τ sig × ℕ × Dev nD)) (hd : Disjoint S Sd)
    (hC : ∀ g, g ∈ C ↔ g ∈ S ∨ g ∈ Sd) :
    iprop(bigSep S (fun g => (semVal g 0 : sProp 𝕄)) ∗ BI.own (ER (launchOf S Sd T)))
      ⊢ (|={Set.univ}=> ∃ K : GSem nD τ sig → ℕ, iprop((bigSep C fun g => cellInv ER (exRd I) (K g) g)
          ∗ (bigSep S fun g => reached ER g 0) ∗ (bigSep S fun g => atPos ER g 0 ∅ 0) ∗ (bigSep Sd fun g => openTok ER g)
          ∗ bigSep T fun x => dutyTok ER x.1 x.2.1 x.2.2) : sProp 𝕄) := by
  have e : C = S ∪ Sd := by ext g; rw [hC, Finset.mem_union]
  subst e
  iintro ⟨H1, H2⟩
  imod (Rounds.fund_launch (E := (ER : Emb (URounds (GSem nD τ sig) (Dev nD)) 𝕄)) (Rd := exRd I) hd (fun g _ h => h) T (Es := Set.univ)) $$ [H1 H2] with ⟨%K, -, Hinv, Hr, Hat, Hop, Htok⟩
  · isplitl [H1]; · iexact H1
    iexact H2
  imodintro
  iexists K
  isplitl [Hinv]; · iexact Hinv
  isplitl [Hr]; · iexact Hr
  isplitl [Hat]; · iexact Hat
  isplitl [Hop]; · iexact Hop
  iexact Htok

/-- The exchange's counters are the barrier's and the transfers'. -/
theorem mem_cells (g : GSem nD τ sig) : g ∈ Cells ↔ g ∈ Sbar ∨ g ∈ Sdma := Finset.mem_union

/-- The counters at zero and the launch resource set up every counter's protocol. -/
theorem fund_all (I : In F) : iprop((bigSep Sbar fun g => (semVal g 0 : sProp 𝕄)) ∗ BI.own (ER (launchOf Sbar Sdma Toks)))
      ⊢ (|={Set.univ}=> ∃ K : GSem nD τ sig → ℕ, iprop((bigSep Cells fun g => cellInv ER (exRd I) (K g) g)
          ∗ (bigSep Sbar fun g => reached ER g 0) ∗ (bigSep Sbar fun g => atPos ER g 0 ∅ 0) ∗ (bigSep Sdma fun g => openTok ER g)
          ∗ bigSep Toks fun x => dutyTok ER x.1 x.2.1 x.2.2) : sProp 𝕄) :=
  fund_sets I Sbar Sdma Cells Toks cells_disj mem_cells

/-- The set-up is dealt among the devices. -/
theorem starts (I : In F) : iprop((∃ K, recs I K) ∗ (bigSep Finset.univ fun c : Dev nD => atPos ER (barC c) 0 ∅ 0)
      ∗ (bigSep Finset.univ fun c : Dev nD => bigSep Finset.univ fun k : OwnK => openTok ER ((c : Thread nD τ), osem k))
      ∗ (bigSep Finset.univ fun c : Dev nD => creds c) ∗ (bigSep Finset.univ fun c : Dev nD => toks c)
      ∗ (bigSep Finset.univ fun c : Dev nD => owes (c : Thread nD τ) (O₀ c) ∅)) ⊢ (bigSep Finset.univ fun c : Dev nD => start I c : sProp 𝕄) := by
  rw [← bigSep_sep', ← bigSep_sep', ← bigSep_sep', ← bigSep_sep']
  exact bigSep_mono_pers _ _ _ _ fun c _ => by unfold start; exact BI.Entails.refl _

/-- All that the exchange needs at launch, from the barrier's counters and the ghost element, under any names for the sets. -/
theorem init_sets (I : In F) (S Sd C : Finset (GSem nD τ sig)) (T : Finset (GSem nD τ sig × ℕ × Dev nD)) (hd : Disjoint S Sd)
    (hC : ∀ g, g ∈ C ↔ g ∈ S ∨ g ∈ Sd) (hS : ∀ Φ : GSem nD τ sig → sProp 𝕄, bigSep S Φ = bigSep Finset.univ fun c : Dev nD => Φ (barC c))
    (hSd : ∀ Φ : GSem nD τ sig → sProp 𝕄, bigSep Sd Φ = bigSep Finset.univ fun c : Dev nD => bigSep Finset.univ fun k : OwnK => Φ ((c : Thread nD τ), osem k))
    (hT : (bigSep T fun x => dutyTok ER x.1 x.2.1 x.2.2 : sProp 𝕄) ⊢ bigSep Finset.univ fun c : Dev nD => toks c) (X Lv : sProp 𝕄) :
    iprop(((bigSep S fun g => (semVal g 0 : sProp 𝕄)) ∗ BI.own (ER (launchOf S Sd T))) ∗ X ∗ Lv)
      ⊢ (|={Set.univ}=> iprop((∃ K : GSem nD τ sig → ℕ, iprop((bigSep C fun g => cellInv ER (exRd I) (K g) g) ∗ (bigSep S fun g => reached ER g 0) ∗ Lv))
          ∗ (bigSep Finset.univ fun c : Dev nD => atPos ER (barC c) 0 ∅ 0)
          ∗ (bigSep Finset.univ fun c : Dev nD => bigSep Finset.univ fun k : OwnK => openTok ER ((c : Thread nD τ), osem k))
          ∗ (bigSep Finset.univ fun c : Dev nD => toks c) ∗ X) : sProp 𝕄) := by
  iintro ⟨HG, HX, Hla⟩
  imod (fund_sets I S Sd C T hd hC) $$ HG with ⟨%K, Hinv, Hr, Hat, Hop, Htok⟩
  ihave Hat' := (Entails.of_eq (hS fun g => atPos ER g 0 ∅ 0)) $$ Hat
  ihave Hop' := (Entails.of_eq (hSd fun g => openTok ER g)) $$ Hop
  ihave Htok' := hT $$ Htok
  imodintro
  isplitl [Hinv Hr Hla]
  · iexists K
    isplitl [Hinv]; · iexact Hinv
    isplitl [Hr]; · iexact Hr
    iexact Hla
  isplitl [Hat']; · iexact Hat'
  isplitl [Hop']; · iexact Hop'
  isplitl [Htok']; · iexact Htok'
  iexact HX

/-- The same at the sets themselves. -/
theorem init_here (I : In F) (X : sProp 𝕄) :
    iprop(((bigSep Sbar fun g => (semVal g 0 : sProp 𝕄)) ∗ BI.own (ER (launchOf Sbar Sdma Toks))) ∗ X ∗ levAts L lv)
      ⊢ (|={Set.univ}=> iprop((∃ K : GSem nD τ sig → ℕ, recs I K)
          ∗ (bigSep Finset.univ fun c : Dev nD => atPos ER (barC c) 0 ∅ 0)
          ∗ (bigSep Finset.univ fun c : Dev nD => bigSep Finset.univ fun k : OwnK => openTok ER ((c : Thread nD τ), osem k))
          ∗ (bigSep Finset.univ fun c : Dev nD => toks c) ∗ X) : sProp 𝕄) :=
  init_sets I Sbar Sdma Cells Toks cells_disj mem_cells deal_bar deal_own deal_toks X (levAts L lv)

/-- The credit at launch is dealt among the devices. -/
theorem creds_all : (bigSep Finset.univ fun c : Dev nD => Pipeline.launchCred O₀ c : sProp 𝕄) ⊢ bigSep Finset.univ fun c : Dev nD => creds c :=
  bigSep_mono fun c _ => creds_of c

/-- The counters outside the region are the barrier's. -/
theorem bar_sems : (bigSep Finset.univ fun c : Dev nD => unscopedSems0 c : sProp 𝕄) = bigSep Sbar fun g => semVal g 0 := by
  rw [deal_bar]; exact bigSep_congr fun c _ => unscopedSems0_eq c

/-- From the launch state every device gets its starting state. -/
theorem init_rest (I : In F) (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ fun c : Dev nD => start I c : sProp 𝕄) := by
  have h : iprop((∃ K, recs I K)
          ∗ (bigSep Finset.univ fun c : Dev nD => atPos ER (barC c) 0 ∅ 0)
          ∗ (bigSep Finset.univ fun c : Dev nD => bigSep Finset.univ fun k : OwnK => openTok ER ((c : Thread nD τ), osem k))
          ∗ (bigSep Finset.univ fun c : Dev nD => toks c) ∗ ((bigSep Finset.univ fun c : Dev nD => owes (c : Thread nD τ) (O₀ c) ∅)
            ∗ bigSep Finset.univ fun c : Dev nD => Pipeline.launchCred O₀ c)) ⊢ (bigSep Finset.univ fun c : Dev nD => start I c : sProp 𝕄) := by
    refine .trans ?_ (starts I)
    iintro ⟨H1, H2, H3, H4, H5, H6⟩
    isplitl [H1]; · iexact H1
    isplitl [H2]; · iexact H2
    isplitl [H3]; · iexact H3
    isplitl [H6]; · iapply creds_all; iexact H6
    isplitl [H4]; · iexact H4
    iexact H5
  refine .trans ?_ ((init_here I _).trans (BI.fupd_mono h))
  rw [bigSep_sep', bigSep_sep', bigSep_sep', bigSep_sep', G_all, bar_sems]
  iintro ⟨⟨Hsem, Ho, Hcr, -, HG⟩, Hla⟩
  isplitl [Hsem HG]
  · isplitl [Hsem]; · iexact Hsem
    iexact HG
  isplitl [Ho Hcr]
  · isplitl [Ho]; · iexact Ho
    iexact Hcr
  iexact Hla

end Cert.Talk

end
-- ==== Proof.Region.lean ====
/-
  The kernel as a region of the program: entered from the launch, left with the result.
-/
module

public import proofs.«01_k».proof.Proof.Oblig
public import proofs.«01_k».proof.Proof.Fund

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The table's buffer, and the buffers at the end -/

/-- A device's number is below 32. -/
theorem word_lt : ∀ c : Dev nD, (Dev.word c / 1#32) % 32#32 = Dev.word c := by decide +kernel
/-- The word that the host computes for the table is the device's number. -/
theorem word_eq : IntOp.remui .host (IntOp.divui .host (Dev.word c) 1#32) 32#32 = Dev.word c := by
  unfold IntOp.remui IntOp.divui
  rw [if_neg (by decide), if_neg (by decide)]
  exact word_lt c

/-- The host's operations leave the device's number in the table's buffer. -/
theorem V1_tab : V1 m c main_v5 = fun _ => Dev.word c := by
  show StableHlo.after (hostOps0 c) (V0 m c) (Proc.devRef .tc main_v5) = _
  after_results
  funext i
  exact word_eq c

/-- The result. -/
def res : Buf (Elt F) ((c : Thread nD τ).loc main_v6) := k0_pay4 (RBc (inOf m) c)
/-- The buffers after the kernel. -/
def VE : Valuation τ sig (Elt F) := Function.update (V1 m c) main_v6 (res m c)
/-- The region changes no array but the result. -/
theorem VE_of (r : Ref sig .tc) (h : r ≠ main_v6) : VE m c r = V1 m c r := by
  unfold VE
  exact Function.update_of_ne (StableHlo.devRef_ne_of_ne h) _ _
/-- The result at the end of the region. -/
theorem VE_res : VE m c main_v6 = res m c := by
  unfold VE
  exact Function.update_self _ _ _

/-! ## The kernel's own cells, opened and given back -/

/-- The exchange's counters are apart from the pipeline's. -/
theorem own_facts : Pipeline.OwnSemFacts spec0 osem := ⟨by decide +kernel, osem_inj, by decide +kernel⟩

/-- A product over a device's own counters, kind by kind. -/
theorem own_bigSep (Φ : OwnK → sProp 𝕄) :
    bigSep Finset.univ Φ = iprop((Φ (.inl 0) ∗ Φ (.inl 1)) ∗ (bigSep Finset.univ fun u : Fin 16 => Φ (.inr (.inl u))) ∗ (bigSep Finset.univ fun r : Fin 16 => Φ (.inr (.inr r)))) := by
  rw [big_sum, big_sum, bigSep_two]

/-- The owner opens its cells. -/
theorem open_own (I : In F) (K : GSem nD τ sig → ℕ) :
    iprop(recs I K ∗ (bigSep Finset.univ fun k : OwnK => openTok ER ((c : Thread nD τ), osem k)) ∗ Pipeline.ownSems0 osem c)
      ⊢ (|={Set.univ}=> iprop((bigSep Finset.univ fun k : OwnK => atPos ER ((c : Thread nD τ), osem k) 0 ∅ 0)
          ∗ (bigSep Finset.univ fun k : OwnK => reached ER ((c : Thread nD τ), osem k) 0)) : sProp 𝕄) := by
  have h (k : OwnK) : iprop(recs I K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) :=
    (sep_mono_left (recs_inv I K (own_mem c k))).trans (Rounds.cell_open ER (exRd I) (Set.mem_univ _))
  unfold Pipeline.ownSems0
  rw [← bigSep_sep', ← bigSep_sep']
  exact (bigSep_mono_pers _ _ _ _ fun k _ => h k).trans (bigSep_fupd _ _)

/-- What enters the kernel's invariant. -/
def enter (I : In F) : sProp 𝕄 := iprop(∃ K, recs I K ∗ posns c ∗ marks c ∗ creds c ∗ toks c)

/-- The starting state and the counters at zero open the exchange. -/
theorem enter_of (I : In F) : iprop(start I c ∗ Pipeline.ownSems0 osem c) ⊢ (|={Set.univ}=> iprop(enter c I ∗ owes (c : Thread nD τ) (O₀ c) ∅) : sProp 𝕄) := by
  unfold start enter
  iintro ⟨⟨⟨%K, #HR⟩, Hb, Hop, Hc, Ht, HO⟩, Hs⟩
  imod (open_own c I K) $$ [Hop Hs] with ⟨Ha, Hm⟩
  · isplitr; · iexact HR
    isplitl [Hop]; · iexact Hop
    iexact Hs
  ihave Ha' := (Entails.of_eq (own_bigSep (F := F) fun k => atPos ER ((c : Thread nD τ), osem k) 0 ∅ 0)) $$ Ha
  ihave Hm' := (Entails.of_eq (own_bigSep (F := F) fun k => reached ER ((c : Thread nD τ), osem k) 0)) $$ Hm
  icases Ha' with ⟨⟨A1, A2⟩, A3, A4⟩
  icases Hm' with ⟨⟨M1, M2⟩, M3, M4⟩
  imodintro
  isplitr [HO]
  · iexists K
    isplitr; · iexact HR
    isplitl [Hb A1 A2 A3 A4]
    · unfold posns
      isplitl [Hb]; · iexact Hb
      isplitl [A1]; · iexact A1
      isplitl [A2]; · iexact A2
      isplitl [A3]; · iexact A3
      iexact A4
    isplitl [M1 M2 M3 M4]
    · unfold marks
      isplitl [M1]; · iexact M1
      isplitl [M2]; · iexact M2
      isplitl [M3]; · iexact M3
      iexact M4
    isplitl [Hc]; · iexact Hc
    iexact Ht
  iexact HO

/-- What is held on entry is the state before the first point. -/
theorem in_of : iprop(enter c (inOf m) ∗ tabHeld c ∗ Pipeline.scopedRest spec0 c) ⊢ (iprop(∃ K, first (inOf m) K c ∗ tabHeld c) : sProp 𝕄) := by
  rw [scopedRest0_eq]
  unfold enter first scr
  iintro ⟨⟨%K, H1, H2, H3, H4, H5⟩, HT, HS⟩
  iexists K
  isplitr [HT]
  · isplitl [H1]; · iexact H1
    isplitl [HS]; · iexact HS
    isplitl [H2]; · iexact H2
    isplitl [H3]; · iexact H3
    isplitl [H4]; · iexact H4
    iexact H5
  iexact HT

/-- The state after the last point is what is handed back. -/
theorem out_of : iprop(last c ∗ tabHeld c) ⊢ (iprop((semVal (barC c) 0 ∗ tabHeld c) ∗ Pipeline.ownSems0 osem c ∗ Pipeline.scopedRest spec0 c) : sProp 𝕄) := by
  unfold Pipeline.ownSems0
  rw [scopedRest0_eq, own_bigSep]
  unfold last scr
  iintro ⟨⟨HS, H1, H2, H3, H4, H5⟩, HT⟩
  isplitl [H1 HT]
  · isplitl [H1]; · iexact H1
    iexact HT
  isplitr [HS]
  · isplitl [H2 H3]
    · isplitl [H2]; · iexact H2
      iexact H3
    isplitl [H4]; · iexact H4
    iexact H5
  iexact HS

/-! ## The waits on the staging cells -/

/-- The pipeline's counters are of the lowest level. -/
theorem stage_lvl : ∀ (w : Fin 5) (s : Fin (spec0 w).nbuf), lvk (cls (.dma ((spec0 w).sem s))) < 1 := by decide +kernel

/-- What a device owes between points is of a higher level than the pipeline's counters. -/
theorem owed_lvl (t : Fin (grid0.N + 1)) (g : GSem nD τ sig) (u : Unit) (h : 0 < (dat m c).owed t g u) : g.1.2 = .tc ∧ 1 ≤ lv g u := by
  by_cases h0 : t.val = 0
  · rw [owed_zero m c t h0] at h; exact O₀_pos c g u h
  · rw [owed_pos m c t h0] at h; exact ⟨(Orv_pos c _ g u h).1, le_trans (by decide) (Orv_pos c _ g u h).2⟩

/-- So the pipeline's waits are allowed at every point. -/
theorem waits : (levAts L lv : sProp 𝕄) ⊢ Pipeline.PerCore.cellsWaits (Pipeline.pinD (pcfgs (F := F)) adm) (pdats m) () 0 c :=
  Pipeline.PerCore.cellsWaits_intro (Pipeline.pinD (pcfgs (F := F)) adm) (pdats m) () 0 c fun w s t =>
    mayWait_lt c _ 1 _ (stage_lvl w s) (owed_lvl m c t)

/-! ## The buffers, sorted and put together -/

/-- Every window's array is held whole. -/
theorem shares (w : Fin 5) : (dat m c).share w = fullShare := by
  unfold Dat.share
  exact ite_self _

/-- The table's array, taken out of what is held. -/
theorem tab_held (V : Valuation τ sig (Elt F)) (h : V main_v5 = fun _ => Dev.word c) :
    (Pipeline.prefHeld pre0 c (fun _ => fullShare) (fun k => V (Proc.devRef .tc (pre0.ref k))) : sProp 𝕄) = tabHeld c := by
  unfold tabHeld Pipeline.prefHeld
  refine bigSep_congr fun k _ => ?_
  match k with
  | ⟨0, _⟩ => exact congrArg (fun f => (((c : Thread nD τ).loc main_v5) ↦{fullShare} f : sProp 𝕄)) h

/-- The buffers are the windows' arrays, the table and the rest. -/
theorem held_split (V : Valuation τ sig (Elt F)) (h : V main_v5 = fun _ => Dev.word c) :
    (StableHlo.held (c : Thread nD τ) (Pipeline.ucRefs τ sig) V : sProp 𝕄)
      = iprop((dat m c).arrays (fun w => V (Proc.devRef .tc (Pipeline.arrRef spec0 w))) ∗ tabHeld c ∗ Pipeline.unscopedRestP pre0 spec0 c (fun b => V (Proc.devRef .tc b))) := by
  rw [← Pipeline.unscopedBufs_held c V,
    Pipeline.PerCore.unscopedBufs_split (Pipeline.pinD (pcfgs (F := F)) adm) 0 c winFacts0.arr_unscoped winFacts0.arr_inj (fun b => V (Proc.devRef .tc b))]
  rw [show (dat m c).arrays (fun w => V (Proc.devRef .tc (Pipeline.arrRef spec0 w)))
      = bigSep Finset.univ (fun w => (((c : Thread nD τ).loc (Pipeline.arrRef spec0 w)) ↦{fullShare} V (Proc.devRef .tc (Pipeline.arrRef spec0 w)) : sProp 𝕄)) from
    Pipeline.PerCore.arrays_eq (Pipeline.pinD (pcfgs (F := F)) adm) (pdats m) 0 c arr_whole0 (shares m c) _]
  rw [show (Pipeline.unscopedRest (Pipeline.pinD (pcfgs (F := F)) adm c 0).spec c (fun b => V (Proc.devRef .tc b)) : sProp 𝕄)
      = iprop(Pipeline.prefHeld pre0 c (fun _ => fullShare) (fun k => V (Proc.devRef .tc (pre0.ref k))) ∗ Pipeline.unscopedRestP pre0 spec0 c (fun b => V (Proc.devRef .tc b))) from
    Pipeline.unscopedRest_split preFacts0 c (fun b => V (Proc.devRef .tc b))]
  rw [tab_held c V h]

/-- The region leaves the other arrays as they were. -/
theorem rest_VE : (Pipeline.unscopedRestP pre0 spec0 c (fun b => V1 m c (Proc.devRef .tc b)) : sProp 𝕄)
    = Pipeline.unscopedRestP pre0 spec0 c (fun b => VE m c (Proc.devRef .tc b)) := by
  rw [unscopedRestP0_eq, unscopedRestP0_eq, VE_of m c main_c (by decide), VE_of m c main_c_0 (by decide), VE_of m c main_v1 (by decide),
    VE_of m c main_v2 (by decide), VE_of m c main_v3 (by decide), VE_of m c main_v4 (by decide)]

/-- The result's window is the whole array, written back at the last point. -/
theorem whole4 : ((cfgD (F := F) c).win (4 : Fin 5)).WholeAt ⟨15, by show 15 < grid0.N; rw [N_0]; decide⟩ := by
  refine ⟨(flush4 c _).mpr rfl, fun t h => Fin.ext ((flush4 c t).mp h), fun a => ?_⟩
  match a with
  | ⟨0, _⟩ => exact ⟨rfl, rfl⟩
  | ⟨1, _⟩ => exact ⟨rfl, rfl⟩

/-- The arrays after the last point. -/
theorem arrays_end (w : Fin 5) : (dat m c).arrAt w (cfgD (F := F) c).N = VE m c (Proc.devRef .tc (Pipeline.arrRef spec0 w)) := by
  match w with
  | ⟨0, _⟩ => exact ((dat m c).arrAt_in (0 : Fin 5) rfl _).trans (VE_of m c main_arg0 (by decide)).symm
  | ⟨1, _⟩ => exact ((dat m c).arrAt_in (1 : Fin 5) rfl _).trans (VE_of m c main_arg1 (by decide)).symm
  | ⟨2, _⟩ => exact ((dat m c).arrAt_in (2 : Fin 5) rfl _).trans (VE_of m c main_arg2 (by decide)).symm
  | ⟨3, _⟩ => exact ((dat m c).arrAt_in (3 : Fin 5) rfl _).trans (VE_of m c main_arg3 (by decide)).symm
  | ⟨4, _⟩ =>
    refine (?_ : (dat m c).arrAt (4 : Fin 5) (cfgD (F := F) c).N = res m c).trans (VE_res m c).symm
    exact (dat m c).arrAt_eq_of_after_last (4 : Fin 5) ⟨15, by show 15 < grid0.N; rw [N_0]; decide⟩ (whole4 c) (res m c) (fun j => rfl) (arr_whole0 4)

/-! ## The kernel's region -/

/-- The thread state before the kernel, and after it. -/
def preR : sProp 𝕄 := iprop(StableHlo.held (c : Thread nD τ) (Pipeline.ucRefs τ sig) (V1 m c) ∗ start (inOf m) c)
/-- The thread state after the kernel. -/
def postR : sProp 𝕄 := iprop((StableHlo.held (c : Thread nD τ) (Pipeline.ucRefs τ sig) (VE m c) ∗ semVal (barC c) 0) ∗ ∃ W, owes (c : Thread nD τ) (0 : CellTallies nD τ sig Unit) W)

/-- The thread state before the kernel gives the region what it takes. -/
theorem entry_of : iprop(preR m c ∗ Pipeline.ownSems0 osem c ∗ levAts L lv)
    ⊢ (|={Set.univ}=> iprop((dat m c).arrays ((dat m c).arrAt · 0) ∗ tabHeld c ∗ (dat m c).owesAt () 0 ∗ enter c (inOf m)
        ∗ Pipeline.unscopedRestP pre0 spec0 c (fun b => V1 m c (Proc.devRef .tc b))) : sProp 𝕄) := by
  unfold preR
  rw [held_split m c (V1 m c) (V1_tab m c)]
  iintro ⟨⟨⟨HA, HT, HZ⟩, HS⟩, Hs, -⟩
  imod (enter_of c (inOf m)) $$ [HS Hs] with ⟨HX, HO⟩
  · isplitl [HS]; · iexact HS
    iexact Hs
  imodintro
  isplitl [HA]; · iexact HA
  isplitl [HT]; · iexact HT
  isplitl [HO]
  · iapply (owesAt_intro m c 0 _ (owed_zero m c 0 rfl))
    iexists (∅ : Finset _)
    iexact HO
  isplitl [HX]; · iexact HX
  iexact HZ

/-- What the region leaves gives the thread state after the kernel. -/
theorem exit_of : iprop((dat m c).arrays ((dat m c).arrAt · (cfgD (F := F) c).N) ∗ (dat m c).owesAt () (Fin.last (cfgD (F := F) c).N)
      ∗ (semVal (barC c) 0 ∗ tabHeld c) ∗ Pipeline.unscopedRestP pre0 spec0 c (fun b => V1 m c (Proc.devRef .tc b)))
    ⊢ (|={Set.univ}=> postR m c : sProp 𝕄) := by
  unfold postR
  rw [held_split m c (VE m c) ((VE_of m c main_v5 (by decide)).trans (V1_tab m c)), rest_VE,
    show ((dat m c).arrAt · (cfgD (F := F) c).N) = (fun w => VE m c (Proc.devRef .tc (Pipeline.arrRef spec0 w))) from funext (arrays_end m c)]
  iintro ⟨HA, HO, ⟨Hb, HT⟩, HZ⟩
  imodintro
  isplitr [HO]
  · isplitr [Hb]
    · isplitl [HA]; · iexact HA
      isplitl [HT]; · iexact HT
      iexact HZ
    iexact Hb
  iapply (owesAt_elim m c (Fin.last (cfgD (F := F) c).N) 0 ((owed_pos m c _ (by show grid0.N ≠ 0; rw [N_0]; decide)).trans (by
    show Orv c grid0.N = 0
    rw [N_0]; exact Orv_16 c)))
  iexact HO

/-- The region's record. -/
def region : Pipeline.PerCore.RegionSeg (pcfgs (F := F)) adm (pdats m) () defs₀ 𝒱₀ L lv 0 where
  win := winFacts0.to₀
  block_pos := block_pos0
  stage_whole := stage_whole0
  K := OwnK
  osem := osem
  ho := own_facts
  hbody c := (oblig m c).loose
  hwaits c := waits m c
  pre := preR m
  post := postR m
  X c := enter c (inOf m)
  Y c := iprop(semVal (barC c) 0 ∗ tabHeld c)
  Z c := Pipeline.unscopedRestP pre0 spec0 c (fun b => V1 m c (Proc.devRef .tc b))
  hentry c := entry_of m c
  hin c := (in_of m c).trans (Entails.of_eq (Phi_zero m c 0 rfl).symm)
  hout c := (Entails.of_eq (Phi_last m c (Fin.last _) (by show grid0.N = 16; exact N_0))).trans (out_of c)
  hexit c := exit_of m c

end Cert.Talk

end
-- ==== Proof.Run.lean ====
/-
  The run of the program: from any memory to the result and every counter zero.
-/
module

public import proofs.«01_k».proof.Proof.Region

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's two parts -/

/-- The pipeline's counters are different. -/
theorem stage_inj : Function.Injective (Pipeline.PerCore.cellOf (nD := nD) (τ := τ) (Pipeline.pinD (pcfgs (F := F)) adm)) :=
  Pipeline.PerCore.cellOf_injective (Pipeline.pinD (pcfgs (F := F)) adm)
    (fun _ p => by
      have h : Pipeline.SpecSemsDistinct spec0 := by decide +kernel
      match p with
      | ⟨0, _⟩ => exact h)
    (fun _ p p' h => absurd (Subsingleton.elim p p') h)

/-- The host's part and the kernel. -/
def parts (c : Dev nD) : List (Pipeline.PerCore.Seg (pcfgs (F := F)) adm (pdats m) () defs₀ 𝒱₀ L lv) :=
  [.host (seg0 m 𝒱₀ L lv (fun _ => start (inOf m)) c), .region (region m)]

/-- The thread state at the launch, and the last one. -/
def T₀ (c : Dev nD) : sProp 𝕄 := iprop(StableHlo.held (c : Thread nD τ) (Pipeline.ucRefs τ sig) (V0 m c) ∗ start (inOf m) c)
/-- The thread state at the end. -/
def Tₙ (c : Dev nD) : sProp 𝕄 := iprop(StableHlo.held (c : Thread nD τ) (Pipeline.ucRefs τ sig) (VE m c) ∗ semVal (barC c) 0)

/-- What the ghost state is made of at the launch. -/
theorem ghost (a : UR sig nD τ) (b : URounds (GSem nD τ sig) (Dev nD)) (X : sProp 𝕄) (h : X = BI.own (ER b)) :
    (ownU (a, b) : sProp 𝕄) ⊢ |={Set.univ}=> iprop(BI.own (EP a) ∗ X) := by
  rw [h]
  refine (ownU_pair a b).trans ?_
  iintro H
  imodintro
  iexact H

/-- The launch state, device by device. -/
theorem launch_state (O : Dev nD → CellTallies nD τ sig Unit) (Γ S : Dev nD → sProp 𝕄)
    (h : iprop((bigSep Finset.univ fun c : Dev nD => iprop(unscopedSems0 c ∗ owes (c : Thread nD τ) (O c) ∅ ∗ Pipeline.launchCred O c ∗ prngReg c (ρ c) ∗ Γ c)) ∗ levAts L lv)
      ⊢ (|={Set.univ}=> bigSep Finset.univ S : sProp 𝕄)) :
    iprop((bigSep Finset.univ fun c : Dev nD => iprop(unscopedBufs c (fun b => m ((c.tc : Thread nD τ).loc b)) ∗ unscopedSems0 c
          ∗ owes (c.tc : Thread nD τ) (O c) ∅ ∗ Pipeline.launchCred O c ∗ prngReg c (ρ c) ∗ Γ c)) ∗ levAts L lv)
      ⊢ (|={Set.univ}=> bigSep Finset.univ fun c : Dev nD => iprop(StableHlo.held (c : Thread nD τ) (Pipeline.ucRefs τ sig) (V0 m c) ∗ S c) : sProp 𝕄) := by
  have hs : (bigSep Finset.univ fun c : Dev nD => iprop(unscopedBufs c (fun b => m ((c.tc : Thread nD τ).loc b)) ∗ unscopedSems0 c
          ∗ owes (c.tc : Thread nD τ) (O c) ∅ ∗ Pipeline.launchCred O c ∗ prngReg c (ρ c) ∗ Γ c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O c) ∅ ∗ Pipeline.launchCred O c ∗ prngReg c (ρ c) ∗ Γ c))
            : sProp 𝕄) := by
    rw [← bigSep_sep']
    exact bigSep_mono fun c _ => sep_mono_left (Entails.of_eq (Pipeline.unscopedBufs_held c (V0 m c)))
  refine (sep_mono_left hs).trans ?_
  iintro ⟨⟨Hh, Hr⟩, HL⟩
  imod h $$ [Hr HL] with HE
  · isplitl [Hr]; · iexact Hr
    iexact HL
  imodintro
  iapply (Entails.of_eq (bigSep_sep' Finset.univ (fun c : Dev nD => StableHlo.held (c : Thread nD τ) (Pipeline.ucRefs τ sig) (V0 m c)) S).symm)
  isplitl [Hh]; · iexact Hh
  iexact HE

/-- The pipeline's part of the ghost state, and the whole. -/
def pipeGhost : UR sig nD τ :=
  initOf (Pipeline.PerCore.cells (Pipeline.pinD (pcfgs (F := F)) adm) stage_inj) (Pipeline.PerCore.launchToks (Pipeline.pinD (pcfgs (F := F)) adm) stage_inj)
/-- The launch resource of the pipeline and of the exchange. -/
def allGhost : UU := (pipeGhost (F := F), launchOf Sbar Sdma Toks)
/-- It splits into the pipeline's and the devices' shares of the exchange's. -/
theorem ghost_here : (ownU (allGhost (F := F)) : sProp 𝕄) ⊢ |={Set.univ}=> iprop(BI.own (EP (pipeGhost (F := F))) ∗ bigSep Finset.univ G) :=
  ghost (pipeGhost (F := F)) (launchOf Sbar Sdma Toks) (bigSep Finset.univ G) G_all

/-- What a device's last state says of the memory. -/
def Ends (c : Dev nD) (s : MemSt nD τ sig (Elt F)) : Prop :=
  (s.mem ((c : Thread nD τ).loc main_v6) = res m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.sem (barC c) = 0

/-- The arguments at the end are as launched. -/
theorem VE_arg (c : Dev nD) (r : Ref sig .tc) (h : r ≠ main_v6) (h' : r ∉ hostOps0_W) : VE m c r = m ((c : Thread nD τ).loc r) :=
  (VE_of m c r h).trans ((V1_of m c r h').trans rfl)

/-- The arrays outside the region are among those held. -/
theorem uc_mem (r : Ref sig .tc) (h : Proc.devRef .tc r ∈ Pipeline.ucRefs τ sig) : Proc.devRef .tc r ∈ Pipeline.ucRefs τ sig := h

/-- The thread state at the end gives what the memory holds. -/
theorem end_of (c : Dev nD) (s' : Phys nD τ sig (Elt F)) : iprop(Tₙ m c ∗ SI s') ⊢ (|={Set.univ}=> iprop(⌜Ends m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨(h (Proc.devRef .tc main_v6) (Finset.mem_filter.mpr ⟨StableHlo.devRef_mem_tcRefs main_v6, by decide⟩)).trans (VE_res m c),
      (h (Proc.devRef .tc main_arg0) (Finset.mem_filter.mpr ⟨StableHlo.devRef_mem_tcRefs main_arg0, by decide⟩)).trans (VE_arg m c main_arg0 (by decide) (by decide)),
      (h (Proc.devRef .tc main_arg1) (Finset.mem_filter.mpr ⟨StableHlo.devRef_mem_tcRefs main_arg1, by decide⟩)).trans (VE_arg m c main_arg1 (by decide) (by decide)),
      (h (Proc.devRef .tc main_arg2) (Finset.mem_filter.mpr ⟨StableHlo.devRef_mem_tcRefs main_arg2, by decide⟩)).trans (VE_arg m c main_arg2 (by decide) (by decide)),
      (h (Proc.devRef .tc main_arg3) (Finset.mem_filter.mpr ⟨StableHlo.devRef_mem_tcRefs main_arg3, by decide⟩)).trans (VE_arg m c main_arg3 (by decide) (by decide))⟩,
      hb⟩
  · iexact HSI

/-- The barrier is the only counter outside the region. -/
theorem only_bar : ∀ sm : SemLoc sig, sm.isScoped .tc = false → sm = .reg barS := by decide +kernel

/-- The program's parts follow one another. -/
theorem chain (c : Dev nD) : Pipeline.PerCore.Seg.ChainsAt c (T₀ m) (parts m c) (fun c => iprop(Tₙ m c ∗ ∃ W, owes (c : Thread nD τ) (0 : CellTallies nD τ sig Unit) W)) :=
  ⟨.rfl, .rfl, .rfl⟩

-- the conclusion is unified through the definitions of the program's parts
set_option backward.isDefEq.respectTransparency.types false in
/-- The program runs on every device: the result is the kernel's, the arguments are as launched, every counter is zero. -/
theorem run_main : θ_run (defs (F := F)) (onTc (τ := τ) (main (F := F))) ⟨m, fun _ => 0, ρ⟩ (fun r =>
    (∀ c : Dev nD, r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine Pipeline.PerCore.θ_run_regions_kit_sems (pcfgs (F := F)) adm (pdats m) () stage_inj EP defs₀ 𝒱₀ L lv m ρ main (parts m)
    (fun c Q => ?_) (fun c => ?_) O₀ (fun g h => if_neg h) G
    (allGhost (F := F)) ghost_here (T₀ m) (Tₙ m) (chain m) (launch_state m ρ O₀ G (start (inOf m)) (init_rest (inOf m) ρ))
    (Ends m) (fun c s' => end_of m c s') (fun s h hs => ⟨fun c => (h c).1, sem_eq_zero hs fun c sm hsm => by rw [only_bar sm hsm]; exact (h c).2⟩)
  · rewrite [main_chain c, Pipeline.PerCore.Seg.run_eq_chain,
      show (parts m c).map Pipeline.PerCore.Seg.prog = [StableHlo.seq (hostOps0 c), Prog.lift (.customCall (Pipeline.entry 0) ())] from rfl]
    dsimp (config := { failIfUnchanged := false }) only
    exact .rfl
  · unfold parts
    simp only [Pipeline.PerCore.Seg.pipes_host, Pipeline.PerCore.Seg.pipes_region, Pipeline.PerCore.Seg.pipes_nil]
    decide

end Cert.Talk

end
-- ==== Proof.Frames.lean ====
/-
  The frame claims: both readings of the kernel run, keep their arguments and end with every counter at zero.
-/
module

public import proofs.«01_k».proof.Defs
public import proofs.«01_k».proof.Proof.Gen.Kernel
public import proofs.«01_k».proof.Proof.Run

@[expose] public section

noncomputable section

namespace Cert.Talk

open Idealize.ShloMosaic Idealize.SL.Sem

/-! ## The kernel as printed and its idealization have one text -/

section

variable {F : FTy → Type} [FloatOps F]

/-- Both readings declare the same memory. -/
theorem same_sig : Cert.Kernel.sig = Cert.KernelIdeal.sig := rfl
/-- Both readings have the same labels. -/
theorem same_labels : Cert.Kernel.Λ₀ = Cert.KernelIdeal.Λ₀ := rfl
/-- Both readings have the same pipeline. -/
theorem same_pcfg : Cert.Kernel.pcfg0 (F := F) = Cert.KernelIdeal.pcfg0 (F := F) := rfl
/-- This part of the body is the same in both readings. -/
theorem same_part1 : Cert.Kernel.k0_part1 (F := F) = Cert.KernelIdeal.k0_part1 (F := F) := rfl
/-- This part of the body is the same in both readings. -/
theorem same_part2 : Cert.Kernel.k0_part2 (F := F) = Cert.KernelIdeal.k0_part2 (F := F) := rfl
/-- This part of the body is the same in both readings. -/
theorem same_part3 : Cert.Kernel.k0_part3 (F := F) = Cert.KernelIdeal.k0_part3 (F := F) := rfl
/-- This part of the body is the same in both readings. -/
theorem same_part4 : Cert.Kernel.k0_part4 (F := F) = Cert.KernelIdeal.k0_part4 (F := F) := rfl
/-- This part of the body is the same in both readings. -/
theorem same_part5 : Cert.Kernel.k0_part5 (F := F) = Cert.KernelIdeal.k0_part5 (F := F) := rfl
/-- This part of the body is the same in both readings. -/
theorem same_part6 : Cert.Kernel.k0_part6 (F := F) = Cert.KernelIdeal.k0_part6 (F := F) := rfl
/-- This part of the body is the same in both readings. -/
theorem same_part7 : Cert.Kernel.k0_part7 (F := F) = Cert.KernelIdeal.k0_part7 (F := F) := rfl
/-- This part of the body is the same in both readings. -/
theorem same_part8 : Cert.Kernel.k0_part8 (F := F) = Cert.KernelIdeal.k0_part8 (F := F) := rfl
/-- This part of the body is the same in both readings. -/
theorem same_part9 : Cert.Kernel.k0_part9 (F := F) = Cert.KernelIdeal.k0_part9 (F := F) := rfl
/-- This part of the body is the same in both readings. -/
theorem same_part10 : Cert.Kernel.k0_part10 (F := F) = Cert.KernelIdeal.k0_part10 (F := F) := rfl
set_option maxHeartbeats 1000000 in
/-- Both readings have the same body. -/
theorem same_body : Cert.Kernel.cc0_body (F := F) = Cert.KernelIdeal.cc0_body (F := F) := rfl
set_option maxHeartbeats 1000000 in
/-- Both readings' tables agree at each label. -/
theorem same_row : ∀ (ℓ : Cert.KernelIdeal.Λ₀.Label) (a : Cert.KernelIdeal.Λ₀.Args ℓ),
    (Cert.Kernel.defs₀ (F := F) .tc ℓ a : Prog (TpuEff Cert.KernelIdeal.nD Cert.KernelIdeal.τ Cert.KernelIdeal.sig (Elt F) Cert.KernelIdeal.Λ₀ .tc) (Cert.KernelIdeal.Λ₀.Result ℓ))
      = Cert.KernelIdeal.defs₀ (F := F) .tc ℓ a
  | ⟨0, _⟩, (t, s) => rfl
/-- Both readings have the same table of bodies. -/
theorem same_defs₀ : Cert.Kernel.defs₀ (F := F) = Cert.KernelIdeal.defs₀ (F := F) := by
  funext p ℓ a
  match p with
  | .tc => exact same_row ℓ a
  | .scScalar _ => rfl
  | .scVector _ _ => rfl
/-- Both readings have the same definitions. -/
theorem same_defs : Cert.Kernel.defs (F := F) = Cert.KernelIdeal.defs (F := F) :=
  congrArg (fun d => Pipeline.defs (Cert.KernelIdeal.pcfgs (F := F)) d) same_defs₀
/-- Both readings have the same main program. -/
theorem same_main : Cert.Kernel.main (F := F) = Cert.KernelIdeal.main (F := F) := rfl

end

/-! ## The frames -/

/-- What is proved of a program holds of an equal one. -/
theorem run_congr {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') (s : MemSt nD τ sig Val)
    (Q : PUnit × MemSt nD τ sig Val → Prop) (h : θ_run d' (onTc p') s Q) : θ_run d (onTc p) s Q := by
  subst hd hp
  exact h

/-- Every run of the idealization's text over any values gives the frame's words. -/
theorem frame_of {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main m ρ)

set_option maxHeartbeats 2000000 in
/-- The kernel as printed, over words. -/
theorem frame_kernel : Cert.quiescent_Kernel := fun m ρ _ =>
  run_congr (same_defs (F := Bits)) (same_main (F := Bits)) ⟨m, fun _ => 0, ρ⟩ _ (frame_of (F := Bits) m ρ)

/-- The kernel over the reals. -/
theorem frame_ideal : Cert.quiescent_KernelIdeal := fun m ρ _ => frame_of (F := Ideal) m ρ
end Cert.Talk

end
-- ==== Proof.RefValue.lean ====
/-
  What the reference leaves in its result: one function of its arguments, and that function at an index.
-/
module

public import proofs.«01_k».proof.Proof.Gen.ReferenceIdeal.Value
public import Idealize.ShloMosaic.Lib.Pipeline.ValueKit.Geometry
public import Idealize.ShloMosaic.Lib.MatmulPlain
public import Idealize.ShloMosaic.Lib.ValueIdx

@[expose] public section

set_option synthInstance.maxSize 4096
set_option maxRecDepth 20000

noncomputable section

namespace Cert.RefVal

open Cert.ReferenceIdeal Cert.ReferenceIdeal.Gen
open Idealize.ShloMosaic Idealize.ShloMosaic.TcCoe Idealize.SL.Sem
open Idealize.ShloMosaic.ValueIdx (ix1 ix2)
open Idealize.ShloMosaic.Pipeline (Dat)

/-! ## The activation -/

section Act
variable {F : FTy → Type} [FloatOps F]

/-- The activation of one number, in the operations both programs use. -/
def act (z : F .f32) : F .f32 :=
  FloatOps.divf z (FloatOps.addf (Scalar.ofBits .f32 0x3F800000#32)
    (FloatOps.exp (FloatOps.subf (Scalar.ofBits .f32 0x00000000#32)
      (FloatOps.minimumf (Scalar.ofBits .f32 0x42700000#32) (FloatOps.maximumf (Scalar.ofBits .f32 0xC2700000#32) z)))))

/-- The reference's payload at an index: the activation of the scaled product there. -/
theorem pay_act (x : Vec F S4096x4096 .fp8e5m2) (w : Vec F S4096x8192 .fp8e5m2) (a b : F .f32) (j : S4096x8192.Idx) :
    k0_pay1 x w a b j = act (FloatOps.mulf (FloatOps.matmul dot_S4096x4096_S4096x8192_S4096x8192_1_0_0_1_n_n none
      (extf .f32 x bitsLt_fp8e5m2_f32) (extf .f32 w bitsLt_fp8e5m2_f32) (constant S4096x8192 .f32 0x00000000#32) j) (Scalar.mulf a b)) := rfl

end Act

/-- Over the extended reals the payload at row `i`, column `j` is the activation of the scaled inner product. -/
theorem pay_apply (x : Vec Ideal S4096x4096 .fp8e5m2) (w : Vec Ideal S4096x8192 .fp8e5m2) (a b : Ideal .f32) (i : Fin 4096) (j : Fin 8192) :
    k0_pay1 x w a b (ix2 i j)
      = act (FloatOps.mulf (F := Ideal) (φ := .f32) (constant (F := Ideal) S4096x8192 .f32 0x00000000#32 (ix2 i j) + ∑ k : Fin 4096, x (ix2 i k) * w (ix2 k j)) (Scalar.mulf a b)) := by
  rw [pay_act]
  congr 2
  exact Ideal.matmul_plain_apply (M := 4096) (K := 4096) (N := 8192) none (extf .f32 x bitsLt_fp8e5m2_f32) (extf .f32 w bitsLt_fp8e5m2_f32)
    (constant S4096x8192 .f32 0x00000000#32) i j

/-! ## The result -/

variable {F : FTy → Type} [FloatOps F]
variable (m : (ℓ : Loc nD τ sig) → Buf (Elt F) ℓ)

/-- The one grid point. -/
abbrev t0 : Fin cfg0.N := ⟨0, by show 0 < grid0.N; rw [N_0]; decide⟩

/-- The zero offset of two axes. -/
theorem hz2 : (![0, 0] : Fin 2 → ℕ) = fun _ => 0 := by decide
/-- The zero offset of one axis. -/
theorem hz1 : (![0] : Fin 1 → ℕ) = fun _ => 0 := by decide

/-- A vector of one element has one index. -/
theorem idx1 (i : S1.Idx) : i = ix1 0 := by
  funext a
  match a with
  | ⟨0, _⟩ => exact Fin.ext (by have : (i 0).val < 1 := (i 0).isLt; show (i 0).val = 0; omega)

/-- What the body's run leaves in the result's staging buffer: its one store covers it. -/
theorem out_eq (c : Dev nD) (a0 : Memref sig .tc .vmem S4096x4096 .fp8e5m2) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x0 : Vec F S4096x4096 .fp8e5m2) (x1 : Vec F S4096x8192 .fp8e5m2) (x2 : Vec F S1 .f32) (x3 : Vec F S1 .f32) :
    out0_A_4 c a0 h0 a1 h1 a2 h2 a3 h3 a4 h4 x0 x1 x2 x3 = k0_pay1 x0 x1 (x2 (ix1 0)) (x3 (ix1 0)) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero (S := S4096x8192) hz2]
  simp only [View.readAt_eq_ld, h0.read_unread, h1.read_unread, h2.read_unread, h3.read_unread,
    View.ld_unit_zero (S := S4096x4096) hz2, View.ld_unit_zero (S := S4096x8192) hz2, View.ld_unit_zero (S := S1) hz1]
  exact congrArg₂ (k0_pay1 x0 x1) (congrArg x2 (idx1 _)) (congrArg x3 (idx1 _))

/-- The blocks of the operands are the operands. -/
theorem blk0 (c : Dev nD) : iblk m c 0 t0 = m ((c : Thread nD τ).loc main_arg0) := by
  funext y
  show V m c main_arg0 _ = m ((c : Thread nD τ).loc main_arg0) y
  rw [V_main_arg0]
  congr 1
  funext a
  apply Fin.ext
  match a with
  | ⟨0, _⟩ => show 0 * 4096 + 1 * (y 0).val = (y 0).val; omega
  | ⟨1, _⟩ => show 0 * 4096 + 1 * (y 1).val = (y 1).val; omega
/-- The block of the weights is the weights. -/
theorem blk1 (c : Dev nD) : iblk m c 1 t0 = m ((c : Thread nD τ).loc main_arg1) := by
  funext y
  show V m c main_arg1 _ = m ((c : Thread nD τ).loc main_arg1) y
  rw [V_main_arg1]
  congr 1
  funext a
  apply Fin.ext
  match a with
  | ⟨0, _⟩ => show 0 * 4096 + 1 * (y 0).val = (y 0).val; omega
  | ⟨1, _⟩ => show 0 * 8192 + 1 * (y 1).val = (y 1).val; omega
/-- The block of the first scale is the scale. -/
theorem blk2 (c : Dev nD) : iblk m c 2 t0 = m ((c : Thread nD τ).loc main_arg2) := by
  funext y
  show V m c main_arg2 _ = m ((c : Thread nD τ).loc main_arg2) y
  rw [V_main_arg2]
  congr 1
  funext a
  apply Fin.ext
  match a with
  | ⟨0, _⟩ => show 0 * 1 + 1 * (y 0).val = (y 0).val; omega
/-- The block of the second scale is the scale. -/
theorem blk3 (c : Dev nD) : iblk m c 3 t0 = m ((c : Thread nD τ).loc main_arg3) := by
  funext y
  show V m c main_arg3 _ = m ((c : Thread nD τ).loc main_arg3) y
  rw [V_main_arg3]
  congr 1
  funext a
  apply Fin.ext
  match a with
  | ⟨0, _⟩ => show 0 * 1 + 1 * (y 0).val = (y 0).val; omega

/-- The reference's result, a function of its arguments. -/
def out (c : Dev nD) : Vec F S4096x8192 .f32 :=
  k0_pay1 (m ((c : Thread nD τ).loc main_arg0)) (m ((c : Thread nD τ).loc main_arg1)) (m ((c : Thread nD τ).loc main_arg2) (ix1 0)) (m ((c : Thread nD τ).loc main_arg3) (ix1 0))

/-- The staging buffer of the result holds that function after the body. -/
theorem after_eq (c : Dev nD) : (dats m 0 c).after 4 t0 = out m c := by
  rw [after0_4]
  unfold outsAt0
  rw [out_eq, blk0, blk1, blk2, blk3]
  rfl

/-- The result's window is the whole array. -/
theorem whole4 : (cfg0.win 4).WholeAt t0 := by decide +kernel

/-- The result's array at the end is that function. -/
theorem arr_end (c : Dev nD) : (dats m 0 c).arrAt 4 cfg0.N = out m c :=
  (dats m 0 c).arrAt_eq_of_after_last 4 t0 whole4 (out m c) (fun j => congrFun (after_eq m c) j) (arr_whole0 4)

end Cert.RefVal

end
-- ==== Proof.Value.lean ====
/-
  The value: what each device's result holds is its block of columns of what the reference computes.
-/
module

public import Idealize.ShloMosaic.Lib.Pointwise.Reshape
public import proofs.«01_k».proof.Defs
public import proofs.«01_k».proof.Proof.Run
public import proofs.«01_k».proof.Proof.RefValue

@[expose] public section

set_option synthInstance.maxSize 4096
set_option maxRecDepth 20000

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation cellOf)

variable {F : FTy → Type} [FloatOps F]

local notation "𝕄" => MT nD τ sig Unit (Elt F) ℕ UU ℕ

/-! ## A tile at an index -/

/-- The kernel's payload at an index: the activation of the scaled product there, rounded. -/
theorem pay_act (s : F .f32) (w : FVec F S4096x256 .fp8e5m2) (x : Vec F S256x4096 .fp8e5m2) (acc : FVec F S256x256 .f32) (j : S256x256.Idx) :
    k0_pay1 s w x acc j = FloatOps.truncf .bf16 bitsLt_bf16_f32 (Cert.RefVal.act (FloatOps.mulf (FloatOps.matmul dot_S256x4096_S4096x256_S256x256_1_0_0_1_n_n none x w acc j) s)) := rfl

/-- Over the extended reals the rounding is the identity, and the product the inner product. -/
theorem pay_apply (s : Ideal .f32) (w : FVec Ideal S4096x256 .fp8e5m2) (x : Vec Ideal S256x4096 .fp8e5m2) (acc : FVec Ideal S256x256 .f32) (i j : Fin 256) :
    (k0_pay1 s w x acc (ValueIdx.ix2 i j) : EReal)
      = Cert.RefVal.act (F := Ideal) (FloatOps.mulf (F := Ideal) (φ := .f32) (acc (ValueIdx.ix2 i j) + ∑ k : Fin 4096, x (ValueIdx.ix2 i k) * w (ValueIdx.ix2 k j)) s) := by
  rw [pay_act]
  show Cert.RefVal.act (F := Ideal) _ = _
  congr 2
  exact Ideal.matmul_plain_apply (M := 256) (K := 4096) (N := 256) none x w acc i j

/-- The rows of the pair buffer, of the rows of `x`. -/
theorem PAIR_apply (I : In F) (c : Dev nD) (i : Fin 256) (k : Fin 4096) :
    PAIR I c (ValueIdx.ix2 i k) = I.x (mk (aC c) ⟨i.val / 128, by have := i.isLt; omega⟩) (ValueIdx.ix2 ⟨i.val % 128, Nat.mod_lt _ (by decide)⟩ k) := by
  unfold PAIR k0_pay5
  simp only [shapeCast_self]

/-- What a device holds at the end, by row and column: row `i` is row `i % 256` of the tile in slot `i / 256`. -/
theorem res_apply (m : (ℓ : Loc nD τ sig) → Buf (Elt F) ℓ) (c : Dev nD) (i : Fin 4096) (j : Fin 256) :
    res m c (ValueIdx.ix2 i j) = FloatOps.extf .f32 bitsLt_bf16_f32 (RBc (inOf m) c
      (ValueIdx.ix3 ⟨i.val / 256, by have := i.isLt; omega⟩ ⟨i.val % 256, Nat.mod_lt _ (by decide)⟩ j)) := by
  show FloatOps.extf .f32 bitsLt_bf16_f32 (shapeCast S4096x256 (RBc (inOf m) c) shapeCasts_S16x256x256_S4096x256 (ValueIdx.ix2 i j)) = _
  rw [shapeCast_apply _ _ (ValueIdx.ix2 i j) (ValueIdx.ix3 ⟨i.val / 256, by have := i.isLt; omega⟩ ⟨i.val % 256, Nat.mod_lt _ (by decide)⟩ j) (by
    rw [rowMajor_val3 _ 65536 256 rfl rfl, rowMajor_val2 _ 256 rfl]
    show i.val / 256 * 65536 + i.val % 256 * 256 + j.val = i.val * 256 + j.val
    omega)]

/-! ## The block -/

section Block

variable (m : (ℓ : Loc nD τ sig) → Buf (Elt Ideal) ℓ) (X : Vec Ideal Cert.ReferenceIdeal.S4096x4096 .fp8e5m2) (W : Vec Ideal Cert.ReferenceIdeal.S4096x8192 .fp8e5m2)
  (a b : Vec Ideal S1 .f32)
  (hX : ∀ c : Dev nD, m ((c : Thread nD τ).loc main_arg0) = Layout.block ⟨2, ![128, 4096]⟩ ⟨2, ![4096, 4096]⟩ 0 32 c X)
  (hW : ∀ c : Dev nD, m ((c : Thread nD τ).loc main_arg1) = W)
  (ha : ∀ c : Dev nD, m ((c : Thread nD τ).loc main_arg2) = a) (hb : ∀ c : Dev nD, m ((c : Thread nD τ).loc main_arg3) = b)

include hX in
/-- The rows a device starts with are its block of the rows of the whole. -/
theorem x_apply (c : Dev nD) (i : Fin 128) (k : Fin 4096) :
    (inOf m).x c (ValueIdx.ix2 i k) = X (ValueIdx.ix2 ⟨c.val * 128 + i.val, by have h : c.val < 32 := c.isLt; have := i.isLt; omega⟩ k) := by
  show m ((c : Thread nD τ).loc main_arg0) (ValueIdx.ix2 i k) = _
  rw [hX c, Layout.block_apply]
  congr 1
  funext q
  apply Fin.ext
  match q with
  | ⟨0, _⟩ => rfl
  | ⟨1, _⟩ => rfl

include hX in
/-- The pair buffer of a device of row `r` holds rows `256 r` to `256 r + 255`. -/
theorem pair_apply (r : Fin 16) (q : Fin 2) (i : Fin 256) (k : Fin 4096) :
    PAIR (inOf m) (mk r q) (ValueIdx.ix2 i k) = X (ValueIdx.ix2 ⟨r.val * 256 + i.val, by have := r.isLt; have := i.isLt; omega⟩ k) := by
  rw [PAIR_apply, x_apply m X hX]
  congr 2
  apply Fin.ext
  rw [aC_mk]
  show (2 * r.val + i.val / 128) * 128 + i.val % 128 = r.val * 256 + i.val
  omega

include hW in
/-- The columns of the weights that the device of row `r` works on for device `c` are `c`'s block of columns. -/
theorem w_apply (c : Dev nD) (r : Fin 16) (k : Fin 4096) (j : Fin 256) :
    k0_pay7 ((inOf m).w (mk r (bC c)) (aC c - r)) (ValueIdx.ix2 k j) = W (ValueIdx.ix2 k ⟨c.val * 256 + j.val, by have h : c.val < 32 := c.isLt; have := j.isLt; omega⟩) := by
  unfold k0_pay7
  simp only [shapeCast_self]
  show m (((mk r (bC c) : Dev nD) : Thread nD τ).loc main_arg1) (ValueIdx.ix2 k ⟨(rcv (mk r (bC c)) (aC c - r)).val * 256 + j.val, _⟩) = _
  rw [hW]
  congr 2
  apply Fin.ext
  show (rcv (mk r (bC c)) (aC c - r)).val * 256 + j.val = c.val * 256 + j.val
  rw [rcv_back]

include hX hW ha hb in
/-- What device `c` holds at the end is block `c` of the columns of the reference's result. -/
theorem res_block (c : Dev nD) :
    res m c = Layout.block ⟨2, ![4096, 256]⟩ ⟨2, ![4096, 8192]⟩ 1 32 c (Cert.ReferenceIdeal.Gen.k0_pay1 X W (a (ValueIdx.ix1 0)) (b (ValueIdx.ix1 0))) := by
  funext y
  obtain ⟨i, j, rfl⟩ : ∃ (i : Fin 4096) (j : Fin 256), y = ValueIdx.ix2 i j := ⟨y 0, y 1, ValueIdx.eq_ix2 y⟩
  rw [res_apply, Layout.block_apply]
  have e : ∀ h : Layout.Tiles ⟨2, ![4096, 256]⟩ ⟨2, ![4096, 8192]⟩ 1 32, h.idx c (ValueIdx.ix2 i j)
      = ValueIdx.ix2 i (⟨c.val * 256 + j.val, by have h : c.val < 32 := c.isLt; have := j.isLt; omega⟩ : Fin 8192) := by
    intro h
    funext q
    apply Fin.ext
    match q with
    | ⟨0, _⟩ => rfl
    | ⟨1, _⟩ => rfl
  rw [e, Cert.RefVal.pay_apply]
  show tile (inOf m) (mk ⟨i.val / 256, _⟩ (bC c)) (aC c - ⟨i.val / 256, _⟩) (ValueIdx.ix2 ⟨i.val % 256, _⟩ j) = _
  unfold tile
  refine (pay_apply _ _ _ _ _ _).trans ?_
  congr 2
  · refine congrArg₂ (· + ·) rfl (Finset.sum_congr rfl fun k _ => ?_)
    rw [pair_apply m X hX, w_apply m W hW]
    congr 3
    apply Fin.ext
    show i.val / 256 * 256 + i.val % 256 = i.val
    omega
  · show k0_pay6 (m (((mk ⟨i.val / 256, _⟩ (bC c) : Dev nD) : Thread nD τ).loc main_arg2) i0)
      (m (((mk ⟨i.val / 256, _⟩ (bC c) : Dev nD) : Thread nD τ).loc main_arg3) i0) = _
    rw [ha, hb]
    rfl

end Block

/-! ## The claim -/

set_option maxHeartbeats 1000000 in
/-- Over the extended reals each device ends with its block of columns of the reference's result. -/
theorem value : Cert.algebraic_KernelIdeal_ReferenceIdeal := by
  intro m g m' g' _ hin
  refine ⟨Cert.RefVal.out m' 0, ?_, ?_⟩
  · refine (θ_run _ _ _).mono (fun r h c => ?_) (run_main (F := Ideal) m g)
    obtain ⟨h6, h0, h1, h2, h3⟩ := h.1 c
    refine ⟨h6.trans ?_, h0, h1, h2, h3⟩
    exact res_block m _ _ _ _ (fun c => (hin c).1) (fun c => (hin c).2.1) (fun c => (hin c).2.2.1) (fun c => (hin c).2.2.2) c
  · refine (θ_run _ _ _).mono (fun r h => ?_) (Cert.ReferenceIdeal.Value.run_blocks (F := Ideal) m' g')
    obtain ⟨h4, h0, h1, h2, h3⟩ := h 0
    exact ⟨h4.trans (Cert.RefVal.arr_end m' 0), h0, h1, h2, h3⟩

end Cert.Talk

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The certificate's claims. -/
theorem claim : Cert.Claim := ⟨Cert.Kernel.Gen.facts, Cert.KernelIdeal.Gen.facts, Cert.ReferenceIdeal.Gen.facts,
  Cert.Talk.frame_kernel, Cert.Talk.frame_ideal, fun m ρ _ => Cert.ReferenceIdeal.Gen.frame m ρ, trivial, Cert.Talk.value⟩

end Cert.Proof

end
